-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_rows [hPre_finite_rows : Cert.Pre_finite_rows.Facts] (m : (ℓ : Loc Cert.RetIdeal.nD Cert.RetIdeal.τ Cert.RetIdeal.sig) → Buf (Elt Ideal) ℓ) : Prop :=
  ∀ c : Dev Cert.RetIdeal.nD,
    (Cert.Pre_finite_rows.fn (F := Ideal) (m ((c.tc : Thread Cert.RetIdeal.nD Cert.RetIdeal.τ).loc Cert.RetIdeal.main_arg0))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_rows [hPre_finite_rows : Cert.Pre_finite_rows.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_rows.fn (F := Ideal) (m ((c.tc : Thread Cert.RetRefIdeal.nD Cert.RetRefIdeal.τ).loc Cert.RetRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetIdeal_pre_finite_rows [hRetIdeal : Cert.RetIdeal.Facts] [hPre_finite_rows : Cert.Pre_finite_rows.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_rows m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def quiescent_RetRefIdeal_pre_finite_rows [hRetRefIdeal : Cert.RetRefIdeal.Facts] [hPre_finite_rows : Cert.Pre_finite_rows.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_rows m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v26) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v45) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)) →
    ∃ (v0 : (c : Dev Cert.OutpIdeal.nD) → Buf (Elt Ideal) ((c.tc : Thread Cert.OutpIdeal.nD Cert.OutpIdeal.τ).loc Cert.OutpIdeal.main_v4)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v4) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v5) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3))

def preserves_Ret_RetIdeal : Prop :=
  True

def algebraic_RetIdeal_RetRefIdeal_pre_finite_rows [hRetIdeal : Cert.RetIdeal.Facts] [hRetRefIdeal : Cert.RetRefIdeal.Facts] [hPre_finite_rows : Cert.Pre_finite_rows.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_rows m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v92)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v92) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v175) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hGlu : Cert.Glu.Facts) (hGluIdeal : Cert.GluIdeal.Facts) (hGluRefIdeal : Cert.GluRefIdeal.Facts) (hConv : Cert.Conv.Facts) (hConvIdeal : Cert.ConvIdeal.Facts) (hConvRefIdeal : Cert.ConvRefIdeal.Facts) (hOutp : Cert.Outp.Facts) (hOutpIdeal : Cert.OutpIdeal.Facts) (hOutpRefIdeal : Cert.OutpRefIdeal.Facts) (hRet : Cert.Ret.Facts) (hRetIdeal : Cert.RetIdeal.Facts) (hRetRefIdeal : Cert.RetRefIdeal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Glu (hGlu := hGlu)
    ∧ quiescent_GluIdeal (hGluIdeal := hGluIdeal)
    ∧ quiescent_GluRefIdeal (hGluRefIdeal := hGluRefIdeal)
    ∧ quiescent_Conv (hConv := hConv)
    ∧ quiescent_ConvIdeal (hConvIdeal := hConvIdeal)
    ∧ quiescent_ConvRefIdeal (hConvRefIdeal := hConvRefIdeal)
    ∧ quiescent_Outp (hOutp := hOutp)
    ∧ quiescent_OutpIdeal (hOutpIdeal := hOutpIdeal)
    ∧ quiescent_OutpRefIdeal (hOutpRefIdeal := hOutpRefIdeal)
    ∧ quiescent_Ret (hRet := hRet)
    ∧ quiescent_RetIdeal (hRetIdeal := hRetIdeal)
    ∧ quiescent_RetIdeal_pre_finite_rows (hRetIdeal := hRetIdeal) (hPre_finite_rows := hPre_finite_rows)
    ∧ quiescent_RetRefIdeal (hRetRefIdeal := hRetRefIdeal)
    ∧ quiescent_RetRefIdeal_pre_finite_rows (hRetRefIdeal := hRetRefIdeal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_ProjRefIdeal (hProjIdeal := hProjIdeal) (hProjRefIdeal := hProjRefIdeal)
    ∧ preserves_Glu_GluIdeal
    ∧ algebraic_GluIdeal_GluRefIdeal (hGluIdeal := hGluIdeal) (hGluRefIdeal := hGluRefIdeal)
    ∧ preserves_Conv_ConvIdeal
    ∧ algebraic_ConvIdeal_ConvRefIdeal (hConvIdeal := hConvIdeal) (hConvRefIdeal := hConvRefIdeal)
    ∧ preserves_Outp_OutpIdeal
    ∧ algebraic_OutpIdeal_OutpRefIdeal (hOutpIdeal := hOutpIdeal) (hOutpRefIdeal := hOutpRefIdeal)
    ∧ preserves_Ret_RetIdeal
    ∧ algebraic_RetIdeal_RetRefIdeal_pre_finite_rows (hRetIdeal := hRetIdeal) (hRetRefIdeal := hRetRefIdeal) (hPre_finite_rows := hPre_finite_rows)
-- ==== Pre_finite_rows.lean ====
abbrev S16x2048x3584 : Shape := ⟨3, ![16, 2048, 3584]⟩
abbrev S16x2048x1536 : Shape := ⟨3, ![16, 2048, 1536]⟩
abbrev S_ : Shape := ⟨0, ![]⟩

class Facts : Prop where
  slices_S16x2048x3584_S16x2048x1536_0_0_1536 : S16x2048x3584.Slices ![0, 0, 1536] S16x2048x1536
  bitsLt_bf16_f32 : FTy.bits .bf16 < FTy.bits .f32
  bcast_S_S16x2048x1536 : S_.BroadcastsInDim S16x2048x1536 (![] : Fin 0 → Fin S16x2048x1536.rank)

variable [Facts]

def fn {F : FTy → Type} [FloatOps F] (main_arg0 : FVec F S16x2048x3584 .bf16) : IVec S16x2048x1536 1 :=
  let main_v0 : FVec F S16x2048x1536 .bf16 := (extractStridedSlice S16x2048x1536 ![0, 0, 1536] · slices_S16x2048x3584_S16x2048x1536_0_0_1536) main_arg0
  let main_v1 : FVec F S16x2048x1536 .f32 := (extf .f32 · bitsLt_bf16_f32) main_v0
  let main_v2 : FVec F S16x2048x1536 .f32 := Host.absf main_v1
  let main_cst : FVec F S_ .f32 := constant S_ .f32 0x7F800000#32
  let main_v3 : FVec F S16x2048x1536 .f32 := broadcastInDim S16x2048x1536 ![] bcast_S_S16x2048x1536 main_cst
  let main_v4 : IVec S16x2048x1536 1 := cmpf .olt main_v2 main_v3
  main_v4
-- ==== Pre_finite_scores.lean ====
abbrev S16x2048x3584 : Shape := ⟨3, ![16, 2048, 3584]⟩
abbrev S8x257 : Shape := ⟨2, ![8, 257]⟩
abbrev S16x2048x1024 : Shape := ⟨3, ![16, 2048, 1024]⟩
abbrev S_ : Shape := ⟨0, ![]⟩

class Facts : Prop where
  slices_S16x2048x3584_S16x2048x1024_0_0_0 : S16x2048x3584.Slices ![0, 0, 0] S16x2048x1024
  bitsLt_bf16_f32 : FTy.bits .bf16 < FTy.bits .f32
  bcast_S_S16x2048x1024 : S_.BroadcastsInDim S16x2048x1024 (![] : Fin 0 → Fin S16x2048x1024.rank)
  bcast_S_S8x257 : S_.BroadcastsInDim S8x257 (![] : Fin 0 → Fin S8x257.rank)

variable [Facts]

def fn {F : FTy → Type} [FloatOps F] (main_arg0 : FVec F S16x2048x3584 .bf16) (main_arg1 : FVec F S8x257 .f32) : IVec S16x2048x1024 1 × IVec S8x257 1 :=
  let main_v0 : FVec F S16x2048x1024 .bf16 := (extractStridedSlice S16x2048x1024 ![0, 0, 0] · slices_S16x2048x3584_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  (main_v4, main_v7)
-- ==== Kernel.lean ====
abbrev S16x2048x3584 : Shape := ⟨3, ![16, 2048, 3584]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S8x1 : Shape := ⟨2, ![8, 1]⟩
abbrev S8x127 : Shape := ⟨2, ![8, 127]⟩
abbrev S8x639 : Shape := ⟨2, ![8, 639]⟩
abbrev S8x1023 : Shape := ⟨2, ![8, 1023]⟩
abbrev S8x768 : Shape := ⟨2, ![8, 768]⟩
abbrev S8x255 : Shape := ⟨2, ![8, 255]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S_ : Shape := ⟨0, ![]⟩
abbrev S256x768 : Shape := ⟨2, ![256, 768]⟩
abbrev S1x256x768 : Shape := ⟨3, ![1, 256, 768]⟩
abbrev S16x2048x512 : Shape := ⟨3, ![16, 2048, 512]⟩
abbrev S1x2048x128 : Shape := ⟨3, ![1, 2048, 128]⟩
abbrev S2x256x768 : Shape := ⟨3, ![2, 256, 768]⟩
abbrev S2560x128 : Shape := ⟨2, ![2560, 128]⟩
abbrev S512x128 : Shape := ⟨2, ![512, 128]⟩
abbrev S2048x128 : Shape := ⟨2, ![2048, 128]⟩
abbrev S256x128 : Shape := ⟨2, ![256, 128]⟩
abbrev S1x256x128 : Shape := ⟨3, ![1, 256, 128]⟩
abbrev S768x128 : Shape := ⟨2, ![768, 128]⟩

abbrev nBuf : Space → Nat
  | .hbm => 79
  | .vmem => 12
  | .smem => 0
  | _ => 0

abbrev bufTy : (tb : Table) → Fin (tcTables nBuf tb) → BufTy
  | .hbm, ⟨0, _⟩ => ⟨S16x2048x3584, .bf16⟩
  | .hbm, ⟨1, _⟩ => ⟨S8x257, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S8x1, .f32⟩
  | .hbm, ⟨7, _⟩ => ⟨S8x127, .f32⟩
  | .hbm, ⟨8, _⟩ => ⟨S8x1, .f32⟩
  | .hbm, ⟨9, _⟩ => ⟨S8x639, .f32⟩
  | .hbm, ⟨10, _⟩ => ⟨S8x1023, .f32⟩
  | .hbm, ⟨11, _⟩ => ⟨S8x768, .f32⟩
  | .hbm, ⟨12, _⟩ => ⟨S8x768, .f32⟩
  | .hbm, ⟨13, _⟩ => ⟨S8x1, .f32⟩
  | .hbm, ⟨14, _⟩ => ⟨S8x255, .f32⟩
  | .hbm, ⟨15, _⟩ => ⟨S8x255, .f32⟩
  | .hbm, ⟨16, _⟩ => ⟨S8x1024, .f32⟩
  | .hbm, ⟨17, _⟩ => ⟨S1x8x1x1024, .f32⟩
  | .hbm, ⟨18, _⟩ => ⟨S1x8x256x1024, .f32⟩
  | .hbm, ⟨19, _⟩ => ⟨S8x262144, .f32⟩
  | .hbm, ⟨20, _⟩ => ⟨S8x261888, .f32⟩
  | .hbm, ⟨21, _⟩ => ⟨S8x256x1023, .f32⟩
  | .hbm, ⟨22, _⟩ => ⟨S8x256x768, .f32⟩
  | .hbm, ⟨23, _⟩ => ⟨S_, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S_, .i32⟩
  | .hbm, ⟨46, _⟩ => ⟨S1x768, .i32⟩
  | .hbm, ⟨47, _⟩ => ⟨S1x768, .i32⟩
  | .hbm, ⟨48, _⟩ => ⟨S1x768, .i32⟩
  | .hbm, ⟨49, _⟩ => ⟨S_, .i32⟩
  | .hbm, ⟨50, _⟩ => ⟨S1x768, .i32⟩
  | .hbm, ⟨51, _⟩ => ⟨S1x768, .i1⟩
  | .hbm, ⟨52, _⟩ => ⟨S1x768, .i32⟩
  | .hbm, ⟨53, _⟩ => ⟨S1x768, .i32⟩
  | .hbm, ⟨54, _⟩ => ⟨S_, .i32⟩
  | .hbm, ⟨55, _⟩ => ⟨S1x768, .i32⟩
  | .hbm, ⟨56, _⟩ => ⟨S1x768, .i1⟩
  | .hbm, ⟨57, _⟩ => ⟨S1x768, .i1⟩
  | .hbm, ⟨58, _⟩ => ⟨S_, .i32⟩
  | .hbm, ⟨59, _⟩ => ⟨S1x768, .i32⟩
  | .hbm, ⟨60, _⟩ => ⟨S1x768, .i32⟩
  | .hbm, ⟨61, _⟩ => ⟨S1x768, .i32⟩
  | .hbm, ⟨62, _⟩ => ⟨S256x768, .i32⟩
  | .hbm, ⟨63, _⟩ => ⟨S256x768, .i32⟩
  | .hbm, ⟨64, _⟩ => ⟨S256x768, .i1⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S256x768, .i32⟩
  | .hbm, ⟨69, _⟩ => ⟨S256x768, .i32⟩
  | .hbm, ⟨70, _⟩ => ⟨S256x768, .i1⟩
  | .hbm, ⟨71, _⟩ => ⟨S256x768, .i1⟩
  | .hbm, ⟨72, _⟩ => ⟨S1x256x768, .i1⟩
  | .hbm, ⟨73, _⟩ => ⟨S_, .f32⟩
  | .hbm, ⟨74, _⟩ => ⟨S_, .f32⟩
  | .hbm, ⟨75, _⟩ => ⟨S8x256x768, .i1⟩
  | .hbm, ⟨76, _⟩ => ⟨S8x256x768, .f32⟩
  | .hbm, ⟨77, _⟩ => ⟨S8x256x768, .f32⟩
  | .hbm, ⟨78, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x256x768, .f32⟩
  | .local _ .vmem, ⟨7, _⟩ => ⟨S2x256x768, .f32⟩
  | .local _ .vmem, ⟨8, _⟩ => ⟨S1x2048x128, .bf16⟩
  | .local _ .vmem, ⟨9, _⟩ => ⟨S1x2048x128, .bf16⟩
  | .local _ .vmem, ⟨10, _⟩ => ⟨S2560x128, .bf16⟩
  | .local _ .vmem, ⟨11, _⟩ => ⟨S2560x128, .bf16⟩
  | _, _ => ⟨S16x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_2 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v35 : Ref sig .tc := ⟨.hbm, 77, rfl⟩
abbrev main_v36 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c2_i32 : BitVec 32 := 2#32
  let v24 : BitVec 32 := Scalar.addi c0_i32 c2_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  v26
def k0_off1 (k0_t1 : Fin k0_t1_loop.trips) : Fin 3 → Nat :=
  let c0_18 : Index := 0#32
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  let v27 : BitVec 32 := v26
  let v28 : Index := Scalar.indexCast v27
  let c0_19 : Index := 0#32
  ![0, v28.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  let v27 : BitVec 32 := v26
  let v33 : Index := Scalar.indexCast v27
  let c0_21 : Index := 0#32
  ![v33.toNat, 0]
@[reducible] def k0_t2_loop : Scf.Loop 32 :=
  let c2_i32_15 : BitVec 32 := 2#32
  let c6_i32 : BitVec 32 := 6#32
  let v25 : BitVec 32 := Scalar.addi c2_i32_15 c6_i32
  let c1_i32_16 : BitVec 32 := 1#32
  ⟨c2_i32_15, v25, c1_i32_16⟩
def k0_mult2 (k0_t2 : Fin k0_t2_loop.trips) : BitVec 32 :=
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  v26
def k0_off3 (k0_t2 : Fin k0_t2_loop.trips) : Fin 3 → Nat :=
  let c0_18 : Index := 0#32
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  let v27 : BitVec 32 := v26
  let v28 : Index := Scalar.indexCast v27
  let c0_19 : Index := 0#32
  ![0, v28.toNat, 0]
def k0_off4 (k0_t2 : Fin k0_t2_loop.trips) : Fin 2 → Nat :=
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  let v27 : BitVec 32 := v26
  let v33 : Index := Scalar.indexCast v27
  let c0_21 : Index := 0#32
  ![v33.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x3584 : Shape := ⟨3, ![16, 2048, 3584]⟩
abbrev S8x257 : Shape := ⟨2, ![8, 257]⟩
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S16x512x8x64 : Shape := ⟨4, ![16, 512, 8, 64]⟩
abbrev S16x2560x8x64 : Shape := ⟨4, ![16, 2560, 8, 64]⟩
abbrev S32 : Shape := ⟨1, ![32]⟩
abbrev S32x1 : Shape := ⟨2, ![32, 1]⟩
abbrev S32x576 : Shape := ⟨2, ![32, 576]⟩
abbrev S16x32x64x8x64 : Shape := ⟨5, ![16, 32, 64, 8, 64]⟩
abbrev S32x576x1 : Shape := ⟨3, ![32, 576, 1]⟩
abbrev S16x32x576x8x64 : Shape := ⟨5, ![16, 32, 576, 8, 64]⟩
abbrev S16x32x8x64x576 : Shape := ⟨5, ![16, 32, 8, 64, 576]⟩
abbrev S1x1x8x64x576 : Shape := ⟨5, ![1, 1, 8, 64, 576]⟩
abbrev S1x32x1x1x576 : Shape := ⟨5, ![1, 32, 1, 1, 576]⟩
abbrev S16x32x8x64 : Shape := ⟨4, ![16, 32, 8, 64]⟩
abbrev S16x32x8x64x1 : Shape := ⟨5, ![16, 32, 8, 64, 1]⟩
abbrev S16x32x8x64x64 : Shape := ⟨5, ![16, 32, 8, 64, 64]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x3584, .bf16⟩
  | .hbm, ⟨1, _⟩ => ⟨S8x257, .f32⟩
  | .hbm, ⟨2, _⟩ => ⟨S16x2048x1536, .bf16⟩
  | .hbm, ⟨3, _⟩ => ⟨S16x2048x1536, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x2048x8x64, .f32⟩
  | .hbm, ⟨8, _⟩ => ⟨S16x2048x8x64, .f32⟩
  | .hbm, ⟨9, _⟩ => ⟨S16x2048x8x64, .f32⟩
  | .hbm, ⟨10, _⟩ => ⟨S64, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S8x64x576, .f32⟩
  | .hbm, ⟨40, _⟩ => ⟨S_, .f32⟩
  | .hbm, ⟨41, _⟩ => ⟨S16x512x8x64, .f32⟩
  | .hbm, ⟨42, _⟩ => ⟨S16x2560x8x64, .f32⟩
  | .hbm, ⟨43, _⟩ => ⟨S16x2560x8x64, .f32⟩
  | .hbm, ⟨44, _⟩ => ⟨S32, .i32⟩
  | .hbm, ⟨45, _⟩ => ⟨S32x1, .i32⟩
  | .hbm, ⟨46, _⟩ => ⟨S_, .i32⟩
  | .hbm, ⟨47, _⟩ => ⟨S32x1, .i32⟩
  | .hbm, ⟨48, _⟩ => ⟨S32x1, .i32⟩
  | .hbm, ⟨49, _⟩ => ⟨S576, .i32⟩
  | .hbm, ⟨50, _⟩ => ⟨S1x576, .i32⟩
  | .hbm, ⟨51, _⟩ => ⟨S32x576, .i32⟩
  | .hbm, ⟨52, _⟩ => ⟨S32x576, .i32⟩
  | .hbm, ⟨53, _⟩ => ⟨S32x576, .i32⟩
  | .hbm, ⟨54, _⟩ => ⟨S16x32x64x8x64, .f32⟩
  | .hbm, ⟨55, _⟩ => ⟨S32x576x1, .i32⟩
  | .hbm, ⟨56, _⟩ => ⟨S16x32x576x8x64, .f32⟩
  | .hbm, ⟨57, _⟩ => ⟨S32x576x1, .i32⟩
  | .hbm, ⟨58, _⟩ => ⟨S16x32x576x8x64, .f32⟩
  | .hbm, ⟨59, _⟩ => ⟨S16x32x8x64x576, .f32⟩
  | .hbm, ⟨60, _⟩ => ⟨S_, .f32⟩
  | .hbm, ⟨61, _⟩ => ⟨S16x32x8x64x576, .f32⟩
  | .hbm, ⟨62, _⟩ => ⟨S16x32x8x64x576, .f32⟩
  | .hbm, ⟨63, _⟩ => ⟨S1x1x8x64x576, .f32⟩
  | .hbm, ⟨64, _⟩ => ⟨S16x32x8x64x576, .f32⟩
  | .hbm, ⟨65, _⟩ => ⟨S16x32x8x64x576, .f32⟩
  | .hbm, ⟨66, _⟩ => ⟨S576, .i32⟩
  | .hbm, ⟨67, _⟩ => ⟨S1x576, .i32⟩
  | .hbm, ⟨68, _⟩ => ⟨S_, .i32⟩
  | .hbm, ⟨69, _⟩ => ⟨S32x1, .i32⟩
  | .hbm, ⟨70, _⟩ => ⟨S32x1, .i32⟩
  | .hbm, ⟨71, _⟩ => ⟨S_, .i32⟩
  | .hbm, ⟨72, _⟩ => ⟨S32x1, .i32⟩
  | .hbm, ⟨73, _⟩ => ⟨S32x1, .i32⟩
  | .hbm, ⟨74, _⟩ => ⟨S32x576, .i32⟩
  | .hbm, ⟨75, _⟩ => ⟨S32x576, .i32⟩
  | .hbm, ⟨76, _⟩ => ⟨S32x576, .i1⟩
  | .hbm, ⟨77, _⟩ => ⟨S1x32x1x1x576, .i1⟩
  | .hbm, ⟨78, _⟩ => ⟨S_, .f32⟩
  | .hbm, ⟨79, _⟩ => ⟨S_, .f32⟩
  | .hbm, ⟨80, _⟩ => ⟨S16x32x8x64x576, .i1⟩
  | .hbm, ⟨81, _⟩ => ⟨S16x32x8x64x576, .f32⟩
  | .hbm, ⟨82, _⟩ => ⟨S16x32x8x64x576, .f32⟩
  | .hbm, ⟨83, _⟩ => ⟨S_, .f32⟩
  | .hbm, ⟨84, _⟩ => ⟨S16x32x8x64, .f32⟩
  | .hbm, ⟨85, _⟩ => ⟨S_, .f32⟩
  | .hbm, ⟨86, _⟩ => ⟨S16x32x8x64, .f32⟩
  | .hbm, ⟨87, _⟩ => ⟨S16x32x8x64, .f32⟩
  | .hbm, ⟨88, _⟩ => ⟨S16x32x8x64x1, .f32⟩
  | .hbm, ⟨89, _⟩ => ⟨S16x32x8x64x576, .f32⟩
  | .hbm, ⟨90, _⟩ => ⟨S16x32x8x64x576, .f32⟩
  | .hbm, ⟨91, _⟩ => ⟨S16x32x8x64x576, .f32⟩
  | .hbm, ⟨92, _⟩ => ⟨S_, .f32⟩
  | .hbm, ⟨93, _⟩ => ⟨S16x32x8x64, .f32⟩
  | .hbm, ⟨94, _⟩ => ⟨S16x32x8x64x1, .f32⟩
  | .hbm, ⟨95, _⟩ => ⟨S16x32x8x64x576, .f32⟩
  | .hbm, ⟨96, _⟩ => ⟨S16x32x8x64x576, .f32⟩
  | .hbm, ⟨97, _⟩ => ⟨S16x32x8x64x64, .f32⟩
  | .hbm, ⟨98, _⟩ => ⟨S16x32x64x8x64, .f32⟩
  | .hbm, ⟨99, _⟩ => ⟨S16x2048x8x64, .f32⟩
  | .hbm, ⟨100, _⟩ => ⟨S16x2048x512, .f32⟩
  | .hbm, ⟨101, _⟩ => ⟨S16x2048x512, .bf16⟩
  | _, _ => ⟨S16x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_v40 : Ref sig .tc := ⟨.hbm, 56, rfl⟩
abbrev main_call2_v0 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Proj.lean ====
abbrev S16x2048x1024 : Shape := ⟨3, ![16, 2048, 1024]⟩
abbrev S1024 : Shape := ⟨1, ![1024]⟩
abbrev S1024x3584 : Shape := ⟨2, ![1024, 3584]⟩
abbrev S32768x1024 : Shape := ⟨2, ![32768, 1024]⟩
abbrev S1x1024 : Shape := ⟨2, ![1, 1024]⟩
abbrev S32768x3584 : Shape := ⟨2, ![32768, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3584, .f32⟩
  | .hbm, ⟨3, _⟩ => ⟨S32768x1024, .f32⟩
  | .hbm, ⟨4, _⟩ => ⟨S1x1024, .f32⟩
  | .hbm, ⟨5, _⟩ => ⟨S1024x3584, .bf16⟩
  | .hbm, ⟨6, _⟩ => ⟨S32768x3584, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .bf16⟩
  | .local _ .vmem, ⟨5, _⟩ => ⟨S512x3584, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16x2048x1024 : Shape := ⟨3, ![16, 2048, 1024]⟩
abbrev S1024 : Shape := ⟨1, ![1024]⟩
abbrev S1024x3584 : Shape := ⟨2, ![1024, 3584]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3584 : Shape := ⟨3, ![16, 2048, 3584]⟩
abbrev S32768x3584 : Shape := ⟨2, ![32768, 3584]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3584, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3584, .f32⟩
  | .hbm, ⟨20, _⟩ => ⟨S32768x3584, .f32⟩
  | .hbm, ⟨21, _⟩ => ⟨S32768x3584, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Glu.lean ====
abbrev S16x2048x1024 : Shape := ⟨3, ![16, 2048, 1024]⟩
abbrev S1024 : Shape := ⟨1, ![1024]⟩
abbrev S1024x2048 : Shape := ⟨2, ![1024, 2048]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S32768x1024, .f32⟩
  | .hbm, ⟨5, _⟩ => ⟨S1x1024, .f32⟩
  | .hbm, ⟨6, _⟩ => ⟨S1024x2048, .bf16⟩
  | .hbm, ⟨7, _⟩ => ⟨S1x2048, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S16x2048x1024 : Shape := ⟨3, ![16, 2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S1x1x2048 : Shape := ⟨3, ![1, 1, 2048]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Conv.lean ====
abbrev S16x2048x1024 : Shape := ⟨3, ![16, 2048, 1024]⟩
abbrev S31x1024 : Shape := ⟨2, ![31, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x32x1024 : Shape := ⟨3, ![1, 32, 1024]⟩
abbrev S544x1024 : Shape := ⟨2, ![544, 1024]⟩
abbrev S7x536x1024 : Shape := ⟨3, ![7, 536, 1024]⟩
abbrev S31x8x1024 : Shape := ⟨3, ![31, 8, 1024]⟩
abbrev S512x1024 : Shape := ⟨2, ![512, 1024]⟩
abbrev S32x1024 : Shape := ⟨2, ![32, 1024]⟩
abbrev S536x1024 : Shape := ⟨2, ![536, 1024]⟩
abbrev S1x536x1024 : Shape := ⟨3, ![1, 536, 1024]⟩
abbrev S8x1024 : Shape := ⟨2, ![8, 1024]⟩
abbrev S1x8x1024 : Shape := ⟨3, ![1, 8, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x512x1024, .f32⟩
  | .local _ .vmem, ⟨5, _⟩ => ⟨S1x512x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x1024, .f32⟩
  | .local _ .vmem, ⟨15, _⟩ => ⟨S7x536x1024, .f32⟩
  | .local _ .vmem, ⟨16, _⟩ => ⟨S31x8x1024, .f32⟩
  | .local _ .vmem, ⟨17, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_168 : BitVec 32 := 0#32
  let c16_i32 : BitVec 32 := 16#32
  let v227 : BitVec 32 := Scalar.addi c0_i32_168 c16_i32
  let c1_i32 : BitVec 32 := 1#32
  ⟨c0_i32_168, v227, c1_i32⟩
def k0_mult1 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_199 : BitVec 32 := 0#32
  let v280 : BitVec 32 := Scalar.addi v273 c0_i32_199
  let c0_i32_200 : BitVec 32 := 0#32
  let v281 : BitVec 32 := Scalar.addi v280 c0_i32_200
  v281
def k0_off1 (k0_t1 : Fin k0_t1_loop.trips) (c0_i32_199 : BitVec 32) (c0_i32_200 : BitVec 32) : Fin 2 → Nat :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let v280 : BitVec 32 := Scalar.addi v273 c0_i32_199
  let v281 : BitVec 32 := Scalar.addi v280 c0_i32_200
  let v282 : BitVec 32 := v281
  let v285 : Index := Scalar.indexCast v282
  let c0_204 : Index := 0#32
  ![v285.toNat, 0]
def k0_mult2 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_205 : BitVec 32 := 0#32
  let v289 : BitVec 32 := Scalar.addi v273 c0_i32_205
  let c8_i32 : BitVec 32 := 8#32
  let v290 : BitVec 32 := Scalar.addi v289 c8_i32
  v290
def k0_mult3 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_210 : BitVec 32 := 0#32
  let v298 : BitVec 32 := Scalar.addi v273 c0_i32_210
  let c16_i32_211 : BitVec 32 := 16#32
  let v299 : BitVec 32 := Scalar.addi v298 c16_i32_211
  v299
def k0_mult4 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_216 : BitVec 32 := 0#32
  let v307 : BitVec 32 := Scalar.addi v273 c0_i32_216
  let c24_i32 : BitVec 32 := 24#32
  let v308 : BitVec 32 := Scalar.addi v307 c24_i32
  v308
def k0_mult5 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_224 : BitVec 32 := 0#32
  let v318 : BitVec 32 := Scalar.addi v273 c0_i32_224
  let c0_i32_225 : BitVec 32 := 0#32
  let v319 : BitVec 32 := Scalar.addi v318 c0_i32_225
  v319
def k0_mult6 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_229 : BitVec 32 := 0#32
  let v327 : BitVec 32 := Scalar.addi v273 c0_i32_229
  let c8_i32_230 : BitVec 32 := 8#32
  let v328 : BitVec 32 := Scalar.addi v327 c8_i32_230
  v328
def k0_mult7 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_235 : BitVec 32 := 0#32
  let v336 : BitVec 32 := Scalar.addi v273 c0_i32_235
  let c16_i32_236 : BitVec 32 := 16#32
  let v337 : BitVec 32 := Scalar.addi v336 c16_i32_236
  v337
def k0_mult8 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_241 : BitVec 32 := 0#32
  let v345 : BitVec 32 := Scalar.addi v273 c0_i32_241
  let c24_i32_242 : BitVec 32 := 24#32
  let v346 : BitVec 32 := Scalar.addi v345 c24_i32_242
  v346
def k0_mult9 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_250 : BitVec 32 := 0#32
  let v356 : BitVec 32 := Scalar.addi v273 c0_i32_250
  let c0_i32_251 : BitVec 32 := 0#32
  let v357 : BitVec 32 := Scalar.addi v356 c0_i32_251
  v357
def k0_mult10 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_255 : BitVec 32 := 0#32
  let v365 : BitVec 32 := Scalar.addi v273 c0_i32_255
  let c8_i32_256 : BitVec 32 := 8#32
  let v366 : BitVec 32 := Scalar.addi v365 c8_i32_256
  v366
def k0_mult11 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_261 : BitVec 32 := 0#32
  let v374 : BitVec 32 := Scalar.addi v273 c0_i32_261
  let c16_i32_262 : BitVec 32 := 16#32
  let v375 : BitVec 32 := Scalar.addi v374 c16_i32_262
  v375
def k0_mult12 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_267 : BitVec 32 := 0#32
  let v383 : BitVec 32 := Scalar.addi v273 c0_i32_267
  let c24_i32_268 : BitVec 32 := 24#32
  let v384 : BitVec 32 := Scalar.addi v383 c24_i32_268
  v384
def k0_mult13 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_276 : BitVec 32 := 0#32
  let v394 : BitVec 32 := Scalar.addi v273 c0_i32_276
  let c0_i32_277 : BitVec 32 := 0#32
  let v395 : BitVec 32 := Scalar.addi v394 c0_i32_277
  v395
def k0_mult14 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_281 : BitVec 32 := 0#32
  let v403 : BitVec 32 := Scalar.addi v273 c0_i32_281
  let c8_i32_282 : BitVec 32 := 8#32
  let v404 : BitVec 32 := Scalar.addi v403 c8_i32_282
  v404
def k0_mult15 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_287 : BitVec 32 := 0#32
  let v412 : BitVec 32 := Scalar.addi v273 c0_i32_287
  let c16_i32_288 : BitVec 32 := 16#32
  let v413 : BitVec 32 := Scalar.addi v412 c16_i32_288
  v413
def k0_mult16 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_293 : BitVec 32 := 0#32
  let v421 : BitVec 32 := Scalar.addi v273 c0_i32_293
  let c24_i32_294 : BitVec 32 := 24#32
  let v422 : BitVec 32 := Scalar.addi v421 c24_i32_294
  v422
def k0_mult17 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_302 : BitVec 32 := 0#32
  let v432 : BitVec 32 := Scalar.addi v273 c0_i32_302
  let c0_i32_303 : BitVec 32 := 0#32
  let v433 : BitVec 32 := Scalar.addi v432 c0_i32_303
  v433
def k0_mult18 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_307 : BitVec 32 := 0#32
  let v441 : BitVec 32 := Scalar.addi v273 c0_i32_307
  let c8_i32_308 : BitVec 32 := 8#32
  let v442 : BitVec 32 := Scalar.addi v441 c8_i32_308
  v442
def k0_mult19 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_313 : BitVec 32 := 0#32
  let v450 : BitVec 32 := Scalar.addi v273 c0_i32_313
  let c16_i32_314 : BitVec 32 := 16#32
  let v451 : BitVec 32 := Scalar.addi v450 c16_i32_314
  v451
def k0_mult20 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_319 : BitVec 32 := 0#32
  let v459 : BitVec 32 := Scalar.addi v273 c0_i32_319
  let c24_i32_320 : BitVec 32 := 24#32
  let v460 : BitVec 32 := Scalar.addi v459 c24_i32_320
  v460
def k0_mult21 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_328 : BitVec 32 := 0#32
  let v470 : BitVec 32 := Scalar.addi v273 c0_i32_328
  let c0_i32_329 : BitVec 32 := 0#32
  let v471 : BitVec 32 := Scalar.addi v470 c0_i32_329
  v471
def k0_mult22 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_333 : BitVec 32 := 0#32
  let v479 : BitVec 32 := Scalar.addi v273 c0_i32_333
  let c8_i32_334 : BitVec 32 := 8#32
  let v480 : BitVec 32 := Scalar.addi v479 c8_i32_334
  v480
def k0_mult23 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_339 : BitVec 32 := 0#32
  let v488 : BitVec 32 := Scalar.addi v273 c0_i32_339
  let c16_i32_340 : BitVec 32 := 16#32
  let v489 : BitVec 32 := Scalar.addi v488 c16_i32_340
  v489
def k0_mult24 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_345 : BitVec 32 := 0#32
  let v497 : BitVec 32 := Scalar.addi v273 c0_i32_345
  let c24_i32_346 : BitVec 32 := 24#32
  let v498 : BitVec 32 := Scalar.addi v497 c24_i32_346
  v498
def k0_mult25 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_354 : BitVec 32 := 8#32
  let v508 : BitVec 32 := Scalar.addi v273 c8_i32_354
  let c0_i32_355 : BitVec 32 := 0#32
  let v509 : BitVec 32 := Scalar.addi v508 c0_i32_355
  v509
def k0_off2 (k0_t1 : Fin k0_t1_loop.trips) (c8_i32_354 : BitVec 32) (c0_i32_355 : BitVec 32) : Fin 2 → Nat :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let v508 : BitVec 32 := Scalar.addi v273 c8_i32_354
  let v509 : BitVec 32 := Scalar.addi v508 c0_i32_355
  let v510 : BitVec 32 := v509
  let v511 : Index := Scalar.indexCast v510
  let c0_356 : Index := 0#32
  ![v511.toNat, 0]
def k0_mult26 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_357 : BitVec 32 := 8#32
  let v515 : BitVec 32 := Scalar.addi v273 c8_i32_357
  let c8_i32_358 : BitVec 32 := 8#32
  let v516 : BitVec 32 := Scalar.addi v515 c8_i32_358
  v516
def k0_mult27 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_360 : BitVec 32 := 8#32
  let v522 : BitVec 32 := Scalar.addi v273 c8_i32_360
  let c16_i32_361 : BitVec 32 := 16#32
  let v523 : BitVec 32 := Scalar.addi v522 c16_i32_361
  v523
def k0_mult28 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_363 : BitVec 32 := 8#32
  let v529 : BitVec 32 := Scalar.addi v273 c8_i32_363
  let c24_i32_364 : BitVec 32 := 24#32
  let v530 : BitVec 32 := Scalar.addi v529 c24_i32_364
  v530
def k0_mult29 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_369 : BitVec 32 := 8#32
  let v538 : BitVec 32 := Scalar.addi v273 c8_i32_369
  let c0_i32_370 : BitVec 32 := 0#32
  let v539 : BitVec 32 := Scalar.addi v538 c0_i32_370
  v539
def k0_mult30 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_375 : BitVec 32 := 8#32
  let v547 : BitVec 32 := Scalar.addi v273 c8_i32_375
  let c8_i32_376 : BitVec 32 := 8#32
  let v548 : BitVec 32 := Scalar.addi v547 c8_i32_376
  v548
def k0_mult31 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_381 : BitVec 32 := 8#32
  let v556 : BitVec 32 := Scalar.addi v273 c8_i32_381
  let c16_i32_382 : BitVec 32 := 16#32
  let v557 : BitVec 32 := Scalar.addi v556 c16_i32_382
  v557
def k0_mult32 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_387 : BitVec 32 := 8#32
  let v565 : BitVec 32 := Scalar.addi v273 c8_i32_387
  let c24_i32_388 : BitVec 32 := 24#32
  let v566 : BitVec 32 := Scalar.addi v565 c24_i32_388
  v566
def k0_mult33 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_396 : BitVec 32 := 8#32
  let v576 : BitVec 32 := Scalar.addi v273 c8_i32_396
  let c0_i32_397 : BitVec 32 := 0#32
  let v577 : BitVec 32 := Scalar.addi v576 c0_i32_397
  v577
def k0_mult34 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_402 : BitVec 32 := 8#32
  let v585 : BitVec 32 := Scalar.addi v273 c8_i32_402
  let c8_i32_403 : BitVec 32 := 8#32
  let v586 : BitVec 32 := Scalar.addi v585 c8_i32_403
  v586
def k0_mult35 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_408 : BitVec 32 := 8#32
  let v594 : BitVec 32 := Scalar.addi v273 c8_i32_408
  let c16_i32_409 : BitVec 32 := 16#32
  let v595 : BitVec 32 := Scalar.addi v594 c16_i32_409
  v595
def k0_mult36 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_414 : BitVec 32 := 8#32
  let v603 : BitVec 32 := Scalar.addi v273 c8_i32_414
  let c24_i32_415 : BitVec 32 := 24#32
  let v604 : BitVec 32 := Scalar.addi v603 c24_i32_415
  v604
def k0_mult37 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_423 : BitVec 32 := 8#32
  let v614 : BitVec 32 := Scalar.addi v273 c8_i32_423
  let c0_i32_424 : BitVec 32 := 0#32
  let v615 : BitVec 32 := Scalar.addi v614 c0_i32_424
  v615
def k0_mult38 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_429 : BitVec 32 := 8#32
  let v623 : BitVec 32 := Scalar.addi v273 c8_i32_429
  let c8_i32_430 : BitVec 32 := 8#32
  let v624 : BitVec 32 := Scalar.addi v623 c8_i32_430
  v624
def k0_mult39 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_435 : BitVec 32 := 8#32
  let v632 : BitVec 32 := Scalar.addi v273 c8_i32_435
  let c16_i32_436 : BitVec 32 := 16#32
  let v633 : BitVec 32 := Scalar.addi v632 c16_i32_436
  v633
def k0_mult40 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_441 : BitVec 32 := 8#32
  let v641 : BitVec 32 := Scalar.addi v273 c8_i32_441
  let c24_i32_442 : BitVec 32 := 24#32
  let v642 : BitVec 32 := Scalar.addi v641 c24_i32_442
  v642
def k0_mult41 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_450 : BitVec 32 := 8#32
  let v652 : BitVec 32 := Scalar.addi v273 c8_i32_450
  let c0_i32_451 : BitVec 32 := 0#32
  let v653 : BitVec 32 := Scalar.addi v652 c0_i32_451
  v653
def k0_mult42 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_456 : BitVec 32 := 8#32
  let v661 : BitVec 32 := Scalar.addi v273 c8_i32_456
  let c8_i32_457 : BitVec 32 := 8#32
  let v662 : BitVec 32 := Scalar.addi v661 c8_i32_457
  v662
def k0_mult43 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_462 : BitVec 32 := 8#32
  let v670 : BitVec 32 := Scalar.addi v273 c8_i32_462
  let c16_i32_463 : BitVec 32 := 16#32
  let v671 : BitVec 32 := Scalar.addi v670 c16_i32_463
  v671
def k0_mult44 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_468 : BitVec 32 := 8#32
  let v679 : BitVec 32 := Scalar.addi v273 c8_i32_468
  let c24_i32_469 : BitVec 32 := 24#32
  let v680 : BitVec 32 := Scalar.addi v679 c24_i32_469
  v680
def k0_mult45 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_477 : BitVec 32 := 8#32
  let v690 : BitVec 32 := Scalar.addi v273 c8_i32_477
  let c0_i32_478 : BitVec 32 := 0#32
  let v691 : BitVec 32 := Scalar.addi v690 c0_i32_478
  v691
def k0_mult46 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_483 : BitVec 32 := 8#32
  let v699 : BitVec 32 := Scalar.addi v273 c8_i32_483
  let c8_i32_484 : BitVec 32 := 8#32
  let v700 : BitVec 32 := Scalar.addi v699 c8_i32_484
  v700
def k0_mult47 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_489 : BitVec 32 := 8#32
  let v708 : BitVec 32 := Scalar.addi v273 c8_i32_489
  let c16_i32_490 : BitVec 32 := 16#32
  let v709 : BitVec 32 := Scalar.addi v708 c16_i32_490
  v709
def k0_mult48 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_495 : BitVec 32 := 8#32
  let v717 : BitVec 32 := Scalar.addi v273 c8_i32_495
  let c24_i32_496 : BitVec 32 := 24#32
  let v718 : BitVec 32 := Scalar.addi v717 c24_i32_496
  v718
def k0_mult49 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_504 : BitVec 32 := 8#32
  let v728 : BitVec 32 := Scalar.addi v273 c8_i32_504
  let c0_i32_505 : BitVec 32 := 0#32
  let v729 : BitVec 32 := Scalar.addi v728 c0_i32_505
  v729
def k0_mult50 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_510 : BitVec 32 := 8#32
  let v737 : BitVec 32 := Scalar.addi v273 c8_i32_510
  let c8_i32_511 : BitVec 32 := 8#32
  let v738 : BitVec 32 := Scalar.addi v737 c8_i32_511
  v738
def k0_mult51 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_516 : BitVec 32 := 8#32
  let v746 : BitVec 32 := Scalar.addi v273 c8_i32_516
  let c16_i32_517 : BitVec 32 := 16#32
  let v747 : BitVec 32 := Scalar.addi v746 c16_i32_517
  v747
def k0_mult52 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_522 : BitVec 32 := 8#32
  let v755 : BitVec 32 := Scalar.addi v273 c8_i32_522
  let c24_i32_523 : BitVec 32 := 24#32
  let v756 : BitVec 32 := Scalar.addi v755 c24_i32_523
  v756
def k0_mult53 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_531 : BitVec 32 := 8#32
  let v766 : BitVec 32 := Scalar.addi v273 c8_i32_531
  let c0_i32_532 : BitVec 32 := 0#32
  let v767 : BitVec 32 := Scalar.addi v766 c0_i32_532
  v767
def k0_mult54 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_537 : BitVec 32 := 8#32
  let v775 : BitVec 32 := Scalar.addi v273 c8_i32_537
  let c8_i32_538 : BitVec 32 := 8#32
  let v776 : BitVec 32 := Scalar.addi v775 c8_i32_538
  v776
def k0_mult55 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_543 : BitVec 32 := 8#32
  let v784 : BitVec 32 := Scalar.addi v273 c8_i32_543
  let c16_i32_544 : BitVec 32 := 16#32
  let v785 : BitVec 32 := Scalar.addi v784 c16_i32_544
  v785
def k0_mult56 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_549 : BitVec 32 := 8#32
  let v793 : BitVec 32 := Scalar.addi v273 c8_i32_549
  let c24_i32_550 : BitVec 32 := 24#32
  let v794 : BitVec 32 := Scalar.addi v793 c24_i32_550
  v794
def k0_mult57 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_558 : BitVec 32 := 16#32
  let v804 : BitVec 32 := Scalar.addi v273 c16_i32_558
  let c0_i32_559 : BitVec 32 := 0#32
  let v805 : BitVec 32 := Scalar.addi v804 c0_i32_559
  v805
def k0_mult58 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_561 : BitVec 32 := 16#32
  let v811 : BitVec 32 := Scalar.addi v273 c16_i32_561
  let c8_i32_562 : BitVec 32 := 8#32
  let v812 : BitVec 32 := Scalar.addi v811 c8_i32_562
  v812
def k0_mult59 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_564 : BitVec 32 := 16#32
  let v818 : BitVec 32 := Scalar.addi v273 c16_i32_564
  let c16_i32_565 : BitVec 32 := 16#32
  let v819 : BitVec 32 := Scalar.addi v818 c16_i32_565
  v819
def k0_mult60 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_567 : BitVec 32 := 16#32
  let v825 : BitVec 32 := Scalar.addi v273 c16_i32_567
  let c24_i32_568 : BitVec 32 := 24#32
  let v826 : BitVec 32 := Scalar.addi v825 c24_i32_568
  v826
def k0_mult61 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_573 : BitVec 32 := 16#32
  let v834 : BitVec 32 := Scalar.addi v273 c16_i32_573
  let c0_i32_574 : BitVec 32 := 0#32
  let v835 : BitVec 32 := Scalar.addi v834 c0_i32_574
  v835
def k0_mult62 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_579 : BitVec 32 := 16#32
  let v843 : BitVec 32 := Scalar.addi v273 c16_i32_579
  let c8_i32_580 : BitVec 32 := 8#32
  let v844 : BitVec 32 := Scalar.addi v843 c8_i32_580
  v844
def k0_mult63 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_585 : BitVec 32 := 16#32
  let v852 : BitVec 32 := Scalar.addi v273 c16_i32_585
  let c16_i32_586 : BitVec 32 := 16#32
  let v853 : BitVec 32 := Scalar.addi v852 c16_i32_586
  v853
def k0_mult64 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_591 : BitVec 32 := 16#32
  let v861 : BitVec 32 := Scalar.addi v273 c16_i32_591
  let c24_i32_592 : BitVec 32 := 24#32
  let v862 : BitVec 32 := Scalar.addi v861 c24_i32_592
  v862
def k0_mult65 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_600 : BitVec 32 := 16#32
  let v872 : BitVec 32 := Scalar.addi v273 c16_i32_600
  let c0_i32_601 : BitVec 32 := 0#32
  let v873 : BitVec 32 := Scalar.addi v872 c0_i32_601
  v873
def k0_mult66 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_606 : BitVec 32 := 16#32
  let v881 : BitVec 32 := Scalar.addi v273 c16_i32_606
  let c8_i32_607 : BitVec 32 := 8#32
  let v882 : BitVec 32 := Scalar.addi v881 c8_i32_607
  v882
def k0_mult67 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_612 : BitVec 32 := 16#32
  let v890 : BitVec 32 := Scalar.addi v273 c16_i32_612
  let c16_i32_613 : BitVec 32 := 16#32
  let v891 : BitVec 32 := Scalar.addi v890 c16_i32_613
  v891
def k0_mult68 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_618 : BitVec 32 := 16#32
  let v899 : BitVec 32 := Scalar.addi v273 c16_i32_618
  let c24_i32_619 : BitVec 32 := 24#32
  let v900 : BitVec 32 := Scalar.addi v899 c24_i32_619
  v900
def k0_mult69 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_627 : BitVec 32 := 16#32
  let v910 : BitVec 32 := Scalar.addi v273 c16_i32_627
  let c0_i32_628 : BitVec 32 := 0#32
  let v911 : BitVec 32 := Scalar.addi v910 c0_i32_628
  v911
def k0_mult70 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_633 : BitVec 32 := 16#32
  let v919 : BitVec 32 := Scalar.addi v273 c16_i32_633
  let c8_i32_634 : BitVec 32 := 8#32
  let v920 : BitVec 32 := Scalar.addi v919 c8_i32_634
  v920
def k0_mult71 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_639 : BitVec 32 := 16#32
  let v928 : BitVec 32 := Scalar.addi v273 c16_i32_639
  let c16_i32_640 : BitVec 32 := 16#32
  let v929 : BitVec 32 := Scalar.addi v928 c16_i32_640
  v929
def k0_mult72 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_645 : BitVec 32 := 16#32
  let v937 : BitVec 32 := Scalar.addi v273 c16_i32_645
  let c24_i32_646 : BitVec 32 := 24#32
  let v938 : BitVec 32 := Scalar.addi v937 c24_i32_646
  v938
def k0_mult73 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_654 : BitVec 32 := 16#32
  let v948 : BitVec 32 := Scalar.addi v273 c16_i32_654
  let c0_i32_655 : BitVec 32 := 0#32
  let v949 : BitVec 32 := Scalar.addi v948 c0_i32_655
  v949
def k0_mult74 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_660 : BitVec 32 := 16#32
  let v957 : BitVec 32 := Scalar.addi v273 c16_i32_660
  let c8_i32_661 : BitVec 32 := 8#32
  let v958 : BitVec 32 := Scalar.addi v957 c8_i32_661
  v958
def k0_mult75 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_666 : BitVec 32 := 16#32
  let v966 : BitVec 32 := Scalar.addi v273 c16_i32_666
  let c16_i32_667 : BitVec 32 := 16#32
  let v967 : BitVec 32 := Scalar.addi v966 c16_i32_667
  v967
def k0_mult76 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_672 : BitVec 32 := 16#32
  let v975 : BitVec 32 := Scalar.addi v273 c16_i32_672
  let c24_i32_673 : BitVec 32 := 24#32
  let v976 : BitVec 32 := Scalar.addi v975 c24_i32_673
  v976
def k0_mult77 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_681 : BitVec 32 := 16#32
  let v986 : BitVec 32 := Scalar.addi v273 c16_i32_681
  let c0_i32_682 : BitVec 32 := 0#32
  let v987 : BitVec 32 := Scalar.addi v986 c0_i32_682
  v987
def k0_mult78 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_687 : BitVec 32 := 16#32
  let v995 : BitVec 32 := Scalar.addi v273 c16_i32_687
  let c8_i32_688 : BitVec 32 := 8#32
  let v996 : BitVec 32 := Scalar.addi v995 c8_i32_688
  v996
def k0_mult79 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_693 : BitVec 32 := 16#32
  let v1004 : BitVec 32 := Scalar.addi v273 c16_i32_693
  let c16_i32_694 : BitVec 32 := 16#32
  let v1005 : BitVec 32 := Scalar.addi v1004 c16_i32_694
  v1005
def k0_mult80 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_699 : BitVec 32 := 16#32
  let v1013 : BitVec 32 := Scalar.addi v273 c16_i32_699
  let c24_i32_700 : BitVec 32 := 24#32
  let v1014 : BitVec 32 := Scalar.addi v1013 c24_i32_700
  v1014
def k0_mult81 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_708 : BitVec 32 := 16#32
  let v1024 : BitVec 32 := Scalar.addi v273 c16_i32_708
  let c0_i32_709 : BitVec 32 := 0#32
  let v1025 : BitVec 32 := Scalar.addi v1024 c0_i32_709
  v1025
def k0_mult82 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_714 : BitVec 32 := 16#32
  let v1033 : BitVec 32 := Scalar.addi v273 c16_i32_714
  let c8_i32_715 : BitVec 32 := 8#32
  let v1034 : BitVec 32 := Scalar.addi v1033 c8_i32_715
  v1034
def k0_mult83 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_720 : BitVec 32 := 16#32
  let v1042 : BitVec 32 := Scalar.addi v273 c16_i32_720
  let c16_i32_721 : BitVec 32 := 16#32
  let v1043 : BitVec 32 := Scalar.addi v1042 c16_i32_721
  v1043
def k0_mult84 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_726 : BitVec 32 := 16#32
  let v1051 : BitVec 32 := Scalar.addi v273 c16_i32_726
  let c24_i32_727 : BitVec 32 := 24#32
  let v1052 : BitVec 32 := Scalar.addi v1051 c24_i32_727
  v1052
def k0_mult85 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_735 : BitVec 32 := 16#32
  let v1062 : BitVec 32 := Scalar.addi v273 c16_i32_735
  let c0_i32_736 : BitVec 32 := 0#32
  let v1063 : BitVec 32 := Scalar.addi v1062 c0_i32_736
  v1063
def k0_mult86 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_741 : BitVec 32 := 16#32
  let v1071 : BitVec 32 := Scalar.addi v273 c16_i32_741
  let c8_i32_742 : BitVec 32 := 8#32
  let v1072 : BitVec 32 := Scalar.addi v1071 c8_i32_742
  v1072
def k0_mult87 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_747 : BitVec 32 := 16#32
  let v1080 : BitVec 32 := Scalar.addi v273 c16_i32_747
  let c16_i32_748 : BitVec 32 := 16#32
  let v1081 : BitVec 32 := Scalar.addi v1080 c16_i32_748
  v1081
def k0_mult88 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_753 : BitVec 32 := 16#32
  let v1089 : BitVec 32 := Scalar.addi v273 c16_i32_753
  let c24_i32_754 : BitVec 32 := 24#32
  let v1090 : BitVec 32 := Scalar.addi v1089 c24_i32_754
  v1090
def k0_mult89 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_762 : BitVec 32 := 24#32
  let v1100 : BitVec 32 := Scalar.addi v273 c24_i32_762
  let c0_i32_763 : BitVec 32 := 0#32
  let v1101 : BitVec 32 := Scalar.addi v1100 c0_i32_763
  v1101
def k0_mult90 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_765 : BitVec 32 := 24#32
  let v1107 : BitVec 32 := Scalar.addi v273 c24_i32_765
  let c8_i32_766 : BitVec 32 := 8#32
  let v1108 : BitVec 32 := Scalar.addi v1107 c8_i32_766
  v1108
def k0_mult91 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_768 : BitVec 32 := 24#32
  let v1114 : BitVec 32 := Scalar.addi v273 c24_i32_768
  let c16_i32_769 : BitVec 32 := 16#32
  let v1115 : BitVec 32 := Scalar.addi v1114 c16_i32_769
  v1115
def k0_mult92 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_771 : BitVec 32 := 24#32
  let v1121 : BitVec 32 := Scalar.addi v273 c24_i32_771
  let c24_i32_772 : BitVec 32 := 24#32
  let v1122 : BitVec 32 := Scalar.addi v1121 c24_i32_772
  v1122
def k0_mult93 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_777 : BitVec 32 := 24#32
  let v1130 : BitVec 32 := Scalar.addi v273 c24_i32_777
  let c0_i32_778 : BitVec 32 := 0#32
  let v1131 : BitVec 32 := Scalar.addi v1130 c0_i32_778
  v1131
def k0_mult94 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_783 : BitVec 32 := 24#32
  let v1139 : BitVec 32 := Scalar.addi v273 c24_i32_783
  let c8_i32_784 : BitVec 32 := 8#32
  let v1140 : BitVec 32 := Scalar.addi v1139 c8_i32_784
  v1140
def k0_mult95 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_789 : BitVec 32 := 24#32
  let v1148 : BitVec 32 := Scalar.addi v273 c24_i32_789
  let c16_i32_790 : BitVec 32 := 16#32
  let v1149 : BitVec 32 := Scalar.addi v1148 c16_i32_790
  v1149
def k0_mult96 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_795 : BitVec 32 := 24#32
  let v1157 : BitVec 32 := Scalar.addi v273 c24_i32_795
  let c24_i32_796 : BitVec 32 := 24#32
  let v1158 : BitVec 32 := Scalar.addi v1157 c24_i32_796
  v1158
def k0_mult97 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_804 : BitVec 32 := 24#32
  let v1168 : BitVec 32 := Scalar.addi v273 c24_i32_804
  let c0_i32_805 : BitVec 32 := 0#32
  let v1169 : BitVec 32 := Scalar.addi v1168 c0_i32_805
  v1169
def k0_mult98 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_810 : BitVec 32 := 24#32
  let v1177 : BitVec 32 := Scalar.addi v273 c24_i32_810
  let c8_i32_811 : BitVec 32 := 8#32
  let v1178 : BitVec 32 := Scalar.addi v1177 c8_i32_811
  v1178
def k0_mult99 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_816 : BitVec 32 := 24#32
  let v1186 : BitVec 32 := Scalar.addi v273 c24_i32_816
  let c16_i32_817 : BitVec 32 := 16#32
  let v1187 : BitVec 32 := Scalar.addi v1186 c16_i32_817
  v1187
def k0_mult100 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_822 : BitVec 32 := 24#32
  let v1195 : BitVec 32 := Scalar.addi v273 c24_i32_822
  let c24_i32_823 : BitVec 32 := 24#32
  let v1196 : BitVec 32 := Scalar.addi v1195 c24_i32_823
  v1196
def k0_mult101 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_831 : BitVec 32 := 24#32
  let v1206 : BitVec 32 := Scalar.addi v273 c24_i32_831
  let c0_i32_832 : BitVec 32 := 0#32
  let v1207 : BitVec 32 := Scalar.addi v1206 c0_i32_832
  v1207
def k0_mult102 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_837 : BitVec 32 := 24#32
  let v1215 : BitVec 32 := Scalar.addi v273 c24_i32_837
  let c8_i32_838 : BitVec 32 := 8#32
  let v1216 : BitVec 32 := Scalar.addi v1215 c8_i32_838
  v1216
def k0_mult103 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_843 : BitVec 32 := 24#32
  let v1224 : BitVec 32 := Scalar.addi v273 c24_i32_843
  let c16_i32_844 : BitVec 32 := 16#32
  let v1225 : BitVec 32 := Scalar.addi v1224 c16_i32_844
  v1225
def k0_mult104 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_849 : BitVec 32 := 24#32
  let v1233 : BitVec 32 := Scalar.addi v273 c24_i32_849
  let c24_i32_850 : BitVec 32 := 24#32
  let v1234 : BitVec 32 := Scalar.addi v1233 c24_i32_850
  v1234
def k0_mult105 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_858 : BitVec 32 := 24#32
  let v1244 : BitVec 32 := Scalar.addi v273 c24_i32_858
  let c0_i32_859 : BitVec 32 := 0#32
  let v1245 : BitVec 32 := Scalar.addi v1244 c0_i32_859
  v1245
def k0_mult106 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_864 : BitVec 32 := 24#32
  let v1253 : BitVec 32 := Scalar.addi v273 c24_i32_864
  let c8_i32_865 : BitVec 32 := 8#32
  let v1254 : BitVec 32 := Scalar.addi v1253 c8_i32_865
  v1254
def k0_mult107 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_870 : BitVec 32 := 24#32
  let v1262 : BitVec 32 := Scalar.addi v273 c24_i32_870
  let c16_i32_871 : BitVec 32 := 16#32
  let v1263 : BitVec 32 := Scalar.addi v1262 c16_i32_871
  v1263
def k0_mult108 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_876 : BitVec 32 := 24#32
  let v1271 : BitVec 32 := Scalar.addi v273 c24_i32_876
  let c24_i32_877 : BitVec 32 := 24#32
  let v1272 : BitVec 32 := Scalar.addi v1271 c24_i32_877
  v1272
def k0_mult109 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_885 : BitVec 32 := 24#32
  let v1282 : BitVec 32 := Scalar.addi v273 c24_i32_885
  let c0_i32_886 : BitVec 32 := 0#32
  let v1283 : BitVec 32 := Scalar.addi v1282 c0_i32_886
  v1283
def k0_mult110 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_891 : BitVec 32 := 24#32
  let v1291 : BitVec 32 := Scalar.addi v273 c24_i32_891
  let c8_i32_892 : BitVec 32 := 8#32
  let v1292 : BitVec 32 := Scalar.addi v1291 c8_i32_892
  v1292
def k0_mult111 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_897 : BitVec 32 := 24#32
  let v1300 : BitVec 32 := Scalar.addi v273 c24_i32_897
  let c16_i32_898 : BitVec 32 := 16#32
  let v1301 : BitVec 32 := Scalar.addi v1300 c16_i32_898
  v1301
def k0_mult112 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_903 : BitVec 32 := 24#32
  let v1309 : BitVec 32 := Scalar.addi v273 c24_i32_903
  let c24_i32_904 : BitVec 32 := 24#32
  let v1310 : BitVec 32 := Scalar.addi v1309 c24_i32_904
  v1310
def k0_mult113 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_912 : BitVec 32 := 24#32
  let v1320 : BitVec 32 := Scalar.addi v273 c24_i32_912
  let c0_i32_913 : BitVec 32 := 0#32
  let v1321 : BitVec 32 := Scalar.addi v1320 c0_i32_913
  v1321
def k0_mult114 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_918 : BitVec 32 := 24#32
  let v1329 : BitVec 32 := Scalar.addi v273 c24_i32_918
  let c8_i32_919 : BitVec 32 := 8#32
  let v1330 : BitVec 32 := Scalar.addi v1329 c8_i32_919
  v1330
def k0_mult115 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_924 : BitVec 32 := 24#32
  let v1338 : BitVec 32 := Scalar.addi v273 c24_i32_924
  let c16_i32_925 : BitVec 32 := 16#32
  let v1339 : BitVec 32 := Scalar.addi v1338 c16_i32_925
  v1339
def k0_mult116 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_930 : BitVec 32 := 24#32
  let v1347 : BitVec 32 := Scalar.addi v273 c24_i32_930
  let c24_i32_931 : BitVec 32 := 24#32
  let v1348 : BitVec 32 := Scalar.addi v1347 c24_i32_931
  v1348
def k0_mult117 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_939 : BitVec 32 := 24#32
  let v1358 : BitVec 32 := Scalar.addi v273 c24_i32_939
  let c0_i32_940 : BitVec 32 := 0#32
  let v1359 : BitVec 32 := Scalar.addi v1358 c0_i32_940
  v1359
def k0_mult118 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_945 : BitVec 32 := 24#32
  let v1367 : BitVec 32 := Scalar.addi v273 c24_i32_945
  let c8_i32_946 : BitVec 32 := 8#32
  let v1368 : BitVec 32 := Scalar.addi v1367 c8_i32_946
  v1368
def k0_mult119 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_951 : BitVec 32 := 24#32
  let v1376 : BitVec 32 := Scalar.addi v273 c24_i32_951
  let c16_i32_952 : BitVec 32 := 16#32
  let v1377 : BitVec 32 := Scalar.addi v1376 c16_i32_952
  v1377
def k0_mult120 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_957 : BitVec 32 := 24#32
  let v1385 : BitVec 32 := Scalar.addi v273 c24_i32_957
  let c24_i32_958 : BitVec 32 := 24#32
  let v1386 : BitVec 32 := Scalar.addi v1385 c24_i32_958
  v1386
def k0_mult121 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c32_i32_966 : BitVec 32 := 32#32
  let v1396 : BitVec 32 := Scalar.addi v273 c32_i32_966
  let c0_i32_967 : BitVec 32 := 0#32
  let v1397 : BitVec 32 := Scalar.addi v1396 c0_i32_967
  v1397
def k0_mult122 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c32_i32_969 : BitVec 32 := 32#32
  let v1403 : BitVec 32 := Scalar.addi v273 c32_i32_969
  let c8_i32_970 : BitVec 32 := 8#32
  let v1404 : BitVec 32 := Scalar.addi v1403 c8_i32_970
  v1404
def k0_mult123 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c32_i32_972 : BitVec 32 := 32#32
  let v1410 : BitVec 32 := Scalar.addi v273 c32_i32_972
  let c16_i32_973 : BitVec 32 := 16#32
  let v1411 : BitVec 32 := Scalar.addi v1410 c16_i32_973
  v1411
def k0_mult124 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c32_i32_975 : BitVec 32 := 32#32
  let v1417 : BitVec 32 := Scalar.addi v273 c32_i32_975
  let c24_i32_976 : BitVec 32 := 24#32
  let v1418 : BitVec 32 := Scalar.addi v1417 c24_i32_976
  v1418
def k0_mult125 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c0_i32_978 : BitVec 32 := 0#32
  let v1424 : BitVec 32 := Scalar.addi v273 c0_i32_978
  v1424
def k0_off3 (k0_t1 : Fin k0_t1_loop.trips) (c0_i32_978 : BitVec 32) : Fin 2 → Nat :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let v1424 : BitVec 32 := Scalar.addi v273 c0_i32_978
  let v1425 : BitVec 32 := v1424
  let v1426 : Index := Scalar.indexCast v1425
  let c0_979 : Index := 0#32
  ![v1426.toNat, 0]
def k0_mult126 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c8_i32_980 : BitVec 32 := 8#32
  let v1430 : BitVec 32 := Scalar.addi v273 c8_i32_980
  v1430
def k0_mult127 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c16_i32_982 : BitVec 32 := 16#32
  let v1436 : BitVec 32 := Scalar.addi v273 c16_i32_982
  v1436
def k0_mult128 (k0_t1 : Fin k0_t1_loop.trips) : BitVec 32 :=
  let c0_i32_168 : BitVec 32 := 0#32
  let c1_i32 : BitVec 32 := 1#32
  let arg16 : BitVec 32 := Scf.iv c0_i32_168 c1_i32 k0_t1
  let c32_i32 : BitVec 32 := 32#32
  let v273 : BitVec 32 := Scalar.muli arg16 c32_i32
  let c24_i32_984 : BitVec 32 := 24#32
  let v1442 : BitVec 32 := Scalar.addi v273 c24_i32_984
  v1442
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRefIdeal.lean ====
abbrev S16x2048x1024 : Shape := ⟨3, ![16, 2048, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S16x2078x1024 : Shape := ⟨3, ![16, 2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S16x2048x31x1024 : Shape := ⟨4, ![16, 2048, 31, 1024]⟩
abbrev S1x1x31x1024 : Shape := ⟨4, ![1, 1, 31, 1024]⟩
abbrev S1x1x1024 : Shape := ⟨3, ![1, 1, 1024]⟩
abbrev S16x2048 : Shape := ⟨2, ![16, 2048]⟩
abbrev S16x2048x1 : Shape := ⟨3, ![16, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S16x2078x1024, .f32⟩
  | .hbm, ⟨11, _⟩ => ⟨S2048, .i32⟩
  | .hbm, ⟨12, _⟩ => ⟨S2048x1, .i32⟩
  | .hbm, ⟨13, _⟩ => ⟨S31, .i32⟩
  | .hbm, ⟨14, _⟩ => ⟨S1x31, .i32⟩
  | .hbm, ⟨15, _⟩ => ⟨S2048x31, .i32⟩
  | .hbm, ⟨16, _⟩ => ⟨S2048x31, .i32⟩
  | .hbm, ⟨17, _⟩ => ⟨S2048x31, .i32⟩
  | .hbm, ⟨18, _⟩ => ⟨S2048x31x1, .i32⟩
  | .hbm, ⟨19, _⟩ => ⟨S16x2048x31x1024, .f32⟩
  | .hbm, ⟨20, _⟩ => ⟨S1x1x31x1024, .f32⟩
  | .hbm, ⟨21, _⟩ => ⟨S16x2048x31x1024, .f32⟩
  | .hbm, ⟨22, _⟩ => ⟨S16x2048x31x1024, .f32⟩
  | .hbm, ⟨23, _⟩ => ⟨S_, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S1x1x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Outp.lean ====
abbrev S16x2048x1024 : Shape := ⟨3, ![16, 2048, 1024]⟩
abbrev S16x2048x512 : Shape := ⟨3, ![16, 2048, 512]⟩
abbrev S1024x1024 : Shape := ⟨2, ![1024, 1024]⟩
abbrev S32768x1024 : Shape := ⟨2, ![32768, 1024]⟩
abbrev S32768x512 : Shape := ⟨2, ![32768, 512]⟩
abbrev S512x1024 : Shape := ⟨2, ![512, 1024]⟩
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S32768x1024, .f32⟩
  | .hbm, ⟨5, _⟩ => ⟨S32768x512, .bf16⟩
  | .hbm, ⟨6, _⟩ => ⟨S32768x512, .bf16⟩
  | .hbm, ⟨7, _⟩ => ⟨S1024x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutpRefIdeal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S32768x1024 : Shape := ⟨2, ![32768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S16x2048x512, .f32⟩
  | .hbm, ⟨5, _⟩ => ⟨S16x2048x512, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ret.lean ====
abbrev S16x2048x3584 : Shape := ⟨3, ![16, 2048, 3584]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8 : Shape := ⟨1, ![8]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S1x8 : Shape := ⟨2, ![1, 8]⟩
abbrev S256x8 : Shape := ⟨2, ![256, 8]⟩
abbrev S256x8x64 : Shape := ⟨3, ![256, 8, 64]⟩
abbrev S256x512 : Shape := ⟨2, ![256, 512]⟩
abbrev S256x4x128 : Shape := ⟨3, ![256, 4, 128]⟩
abbrev S4x256x128 : Shape := ⟨3, ![4, 256, 128]⟩
abbrev S1x8x64 : Shape := ⟨3, ![1, 8, 64]⟩
abbrev S1x512 : Shape := ⟨2, ![1, 512]⟩
abbrev S1x4x128 : Shape := ⟨3, ![1, 4, 128]⟩
abbrev S4x1x128 : Shape := ⟨3, ![4, 1, 128]⟩
abbrev S16x2048x512 : Shape := ⟨3, ![16, 2048, 512]⟩
abbrev S1x2048x128 : Shape := ⟨3, ![1, 2048, 128]⟩
abbrev S2x256x256 : Shape := ⟨3, ![2, 256, 256]⟩
abbrev S1x256x128 : Shape := ⟨3, ![1, 256, 128]⟩
abbrev S1x1x128 : Shape := ⟨3, ![1, 1, 128]⟩
abbrev S256x128 : Shape := ⟨2, ![256, 128]⟩
abbrev S128x128 : Shape := ⟨2, ![128, 128]⟩
abbrev S128x256 : Shape := ⟨2, ![128, 256]⟩

abbrev nBuf : Space → Nat
  | .hbm => 125
  | .vmem => 20
  | .smem => 0
  | _ => 0

abbrev bufTy : (tb : Table) → Fin (tcTables nBuf tb) → BufTy
  | .hbm, ⟨0, _⟩ => ⟨S16x2048x3584, .bf16⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S2048x1, .f32⟩
  | .hbm, ⟨11, _⟩ => ⟨S1x32, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S1x2048x1x32, .f32⟩
  | .hbm, ⟨17, _⟩ => ⟨S1x2048x4x32, .f32⟩
  | .hbm, ⟨18, _⟩ => ⟨S2048x128, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S64, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S2048x32, .f32⟩
  | .hbm, ⟨29, _⟩ => ⟨S1x2048x1x32, .f32⟩
  | .hbm, ⟨30, _⟩ => ⟨S1x2048x4x32, .f32⟩
  | .hbm, ⟨31, _⟩ => ⟨S2048x128, .f32⟩
  | .hbm, ⟨32, _⟩ => ⟨S1x128, .f32⟩
  | .hbm, ⟨33, _⟩ => ⟨S2048x128, .f32⟩
  | .hbm, ⟨34, _⟩ => ⟨S2048x128, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S256, .f32⟩
  | .hbm, ⟨47, _⟩ => ⟨S256, .i32⟩
  | .hbm, ⟨48, _⟩ => ⟨S_, .i32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S256, .i32⟩
  | .hbm, ⟨57, _⟩ => ⟨S256, .i32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S256, .i1⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S256, .i32⟩
  | .hbm, ⟨66, _⟩ => ⟨S1x256, .i32⟩
  | .hbm, ⟨67, _⟩ => ⟨S256x1, .i32⟩
  | .hbm, ⟨68, _⟩ => ⟨S256x256, .i32⟩
  | .hbm, ⟨69, _⟩ => ⟨S256x256, .i32⟩
  | .hbm, ⟨70, _⟩ => ⟨S256x256, .i1⟩
  | .hbm, ⟨71, _⟩ => ⟨S1x256x256, .i1⟩
  | .hbm, ⟨72, _⟩ => ⟨S8x1x1, .f32⟩
  | .hbm, ⟨73, _⟩ => ⟨S256x1, .f32⟩
  | .hbm, ⟨74, _⟩ => ⟨S1x256, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S1x256x256, .f32⟩
  | .hbm, ⟨80, _⟩ => ⟨S8x256x256, .f32⟩
  | .hbm, ⟨81, _⟩ => ⟨S8x256x256, .f32⟩
  | .hbm, ⟨82, _⟩ => ⟨S8x256x256, .f32⟩
  | .hbm, ⟨83, _⟩ => ⟨S8x256x256, .f32⟩
  | .hbm, ⟨84, _⟩ => ⟨S_, .f32⟩
  | .hbm, ⟨85, _⟩ => ⟨S_, .f32⟩
  | .hbm, ⟨86, _⟩ => ⟨S8x256x256, .i1⟩
  | .hbm, ⟨87, _⟩ => ⟨S8x256x256, .f32⟩
  | .hbm, ⟨88, _⟩ => ⟨S8x256x256, .f32⟩
  | .hbm, ⟨89, _⟩ => ⟨S1x8, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S256x1, .f32⟩
  | .hbm, ⟨94, _⟩ => ⟨S256x8, .f32⟩
  | .hbm, ⟨95, _⟩ => ⟨S256x8, .f32⟩
  | .hbm, ⟨96, _⟩ => ⟨S256x8, .f32⟩
  | .hbm, ⟨97, _⟩ => ⟨S256x8, .f32⟩
  | .hbm, ⟨98, _⟩ => ⟨S256x8x64, .f32⟩
  | .hbm, ⟨99, _⟩ => ⟨S256x512, .f32⟩
  | .hbm, ⟨100, _⟩ => ⟨S256x4x128, .f32⟩
  | .hbm, ⟨101, _⟩ => ⟨S4x256x128, .f32⟩
  | .hbm, ⟨102, _⟩ => ⟨S1x8, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S256x1, .f32⟩
  | .hbm, ⟨107, _⟩ => ⟨S256x8, .f32⟩
  | .hbm, ⟨108, _⟩ => ⟨S256x8, .f32⟩
  | .hbm, ⟨109, _⟩ => ⟨S256x8, .f32⟩
  | .hbm, ⟨110, _⟩ => ⟨S256x8, .f32⟩
  | .hbm, ⟨111, _⟩ => ⟨S256x8x64, .f32⟩
  | .hbm, ⟨112, _⟩ => ⟨S256x512, .f32⟩
  | .hbm, ⟨113, _⟩ => ⟨S256x4x128, .f32⟩
  | .hbm, ⟨114, _⟩ => ⟨S4x256x128, .f32⟩
  | .hbm, ⟨115, _⟩ => ⟨S_, .f32⟩
  | .hbm, ⟨116, _⟩ => ⟨S8, .f32⟩
  | .hbm, ⟨117, _⟩ => ⟨S8, .f32⟩
  | .hbm, ⟨118, _⟩ => ⟨S8, .f32⟩
  | .hbm, ⟨119, _⟩ => ⟨S1x8, .f32⟩
  | .hbm, ⟨120, _⟩ => ⟨S1x8x64, .f32⟩
  | .hbm, ⟨121, _⟩ => ⟨S1x512, .f32⟩
  | .hbm, ⟨122, _⟩ => ⟨S1x4x128, .f32⟩
  | .hbm, ⟨123, _⟩ => ⟨S4x1x128, .f32⟩
  | .hbm, ⟨124, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2048x128, .f32⟩
  | .local _ .vmem, ⟨9, _⟩ => ⟨S2048x128, .f32⟩
  | .local _ .vmem, ⟨10, _⟩ => ⟨S2x256x256, .f32⟩
  | .local _ .vmem, ⟨11, _⟩ => ⟨S2x256x256, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x1x128, .f32⟩
  | .local _ .vmem, ⟨17, _⟩ => ⟨S1x1x128, .f32⟩
  | .local _ .vmem, ⟨18, _⟩ => ⟨S1x2048x128, .bf16⟩
  | .local _ .vmem, ⟨19, _⟩ => ⟨S1x2048x128, .bf16⟩
  | _, _ => ⟨S16x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_cst_4 : Ref sig .tc := ⟨.hbm, 39, rfl⟩
abbrev main_v33 : Ref sig .tc := ⟨.hbm, 40, rfl⟩
abbrev main_v34 : Ref sig .tc := ⟨.hbm, 41, rfl⟩
abbrev main_cst_5 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v59 : Ref sig .tc := ⟨.hbm, 88, rfl⟩
abbrev main_v60 : Ref sig .tc := ⟨.hbm, 89, rfl⟩
abbrev main_cst_7 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_8 : BitVec 32 := 0#32
  let c8_i32 : BitVec 32 := 8#32
  let v32 : BitVec 32 := Scalar.addi c0_i32_8 c8_i32
  let c1_i32_9 : BitVec 32 := 1#32
  ⟨c0_i32_8, v32, c1_i32_9⟩
def k0_mult1 (k0_t1 : Fin k0_t1_loop.trips) : BitVec 32 :=
  let c0_i32_8 : BitVec 32 := 0#32
  let c1_i32_9 : BitVec 32 := 1#32
  let arg13 : BitVec 32 := Scf.iv c0_i32_8 c1_i32_9 k0_t1
  let c256_i32 : BitVec 32 := 256#32
  let v34 : BitVec 32 := Scalar.muli arg13 c256_i32
  v34
def k0_off1 (k0_t1 : Fin k0_t1_loop.trips) : Fin 2 → Nat :=
  let c0_i32_8 : BitVec 32 := 0#32
  let c1_i32_9 : BitVec 32 := 1#32
  let arg13 : BitVec 32 := Scf.iv c0_i32_8 c1_i32_9 k0_t1
  let c256_i32 : BitVec 32 := 256#32
  let v34 : BitVec 32 := Scalar.muli arg13 c256_i32
  let v35 : BitVec 32 := v34
  let v36 : Index := Scalar.indexCast v35
  let c0 : Index := 0#32
  ![v36.toNat, 0]
def k0_off2 (k0_t1 : Fin k0_t1_loop.trips) : Fin 3 → Nat :=
  let c0_12 : Index := 0#32
  let c0_i32_8 : BitVec 32 := 0#32
  let c1_i32_9 : BitVec 32 := 1#32
  let arg13 : BitVec 32 := Scf.iv c0_i32_8 c1_i32_9 k0_t1
  let c256_i32 : BitVec 32 := 256#32
  let v34 : BitVec 32 := Scalar.muli arg13 c256_i32
  let v35 : BitVec 32 := v34
  let v42 : Index := Scalar.indexCast v35
  let c0_13 : Index := 0#32
  ![0, v42.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetRefIdeal.lean ====
abbrev S16x2048x3584 : Shape := ⟨3, ![16, 2048, 3584]⟩
abbrev S16x2048x2048 : Shape := ⟨3, ![16, 2048, 2048]⟩
abbrev S16x2048x512 : Shape := ⟨3, ![16, 2048, 512]⟩
abbrev S16x2048x8x64 : Shape := ⟨4, ![16, 2048, 8, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x8x32 : Shape := ⟨4, ![16, 2048, 8, 32]⟩
abbrev S8 : Shape := ⟨1, ![8]⟩
abbrev S64 : Shape := ⟨1, ![64]⟩
abbrev S8x1x1 : Shape := ⟨3, ![8, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S32x1 : Shape := ⟨2, ![32, 1]⟩
abbrev S32x32 : Shape := ⟨2, ![32, 32]⟩
abbrev S1x32x32 : Shape := ⟨3, ![1, 32, 32]⟩
abbrev S8x32x32 : Shape := ⟨3, ![8, 32, 32]⟩
abbrev S16x32x64x8x64 : Shape := ⟨5, ![16, 32, 64, 8, 64]⟩
abbrev S16x32x8x64x64 : Shape := ⟨5, ![16, 32, 8, 64, 64]⟩
abbrev S1x1x8x64x64 : Shape := ⟨5, ![1, 1, 8, 64, 64]⟩
abbrev S1x1x64x8x1 : Shape := ⟨5, ![1, 1, 64, 8, 1]⟩
abbrev S8x16x64x64x32 : Shape := ⟨5, ![8, 16, 64, 64, 32]⟩
abbrev S16x32x64x8 : Shape := ⟨4, ![16, 32, 64, 8]⟩
abbrev S16x32x64x8x1 : Shape := ⟨5, ![16, 32, 64, 8, 1]⟩

abbrev nBuf : Space → Nat
  | .hbm => 206
  | .vmem => 0
  | .smem => 0
  | _ => 0

abbrev hbmTy0_0 (i : Nat) : BufTy := match i % 128 with
  | 0 => ⟨S16x2048x3584, .bf16⟩
  | 1 => ⟨S16x2048x2048, .bf16⟩
  | 2 => ⟨S16x2048x2048, .f32⟩
  | 3 => ⟨S16x2048x512, .f32⟩
  | 4 => ⟨S16x2048x512, .f32⟩
  | 5 => ⟨S16x2048x512, .f32⟩
  | 6 => ⟨S16x2048x512, .f32⟩
  | 7 => ⟨S16x2048x8x64, .f32⟩
  | 8 => ⟨S16x2048x8x64, .f32⟩
  | 9 => ⟨S16x2048x8x64, .f32⟩
  | 10 => ⟨S16x2048x8x64, .f32⟩
  | 11 => ⟨S2048, .i32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S1x2048x1x32, .f32⟩
  | 28 => ⟨S2048x32, .f32⟩
  | 29 => ⟨S1x2048x1x32, .f32⟩
  | 30 => ⟨S16x2048x8x32, .f32⟩
  | 31 => ⟨S16x2048x8x32, .f32⟩
  | 32 => ⟨S16x2048x8x32, .f32⟩
  | 33 => ⟨S16x2048x8x32, .f32⟩
  | 34 => ⟨S16x2048x8x32, .f32⟩
  | 35 => ⟨S16x2048x8x32, .f32⟩
  | 36 => ⟨S16x2048x8x32, .f32⟩
  | 37 => ⟨S16x2048x8x32, .f32⟩
  | 38 => ⟨S16x2048x8x32, .f32⟩
  | 39 => ⟨S16x2048x8x32, .f32⟩
  | 40 => ⟨S16x2048x8x32, .f32⟩
  | 41 => ⟨S16x2048x8x32, .f32⟩
  | 42 => ⟨S16x2048x8x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S16x2048x8x32, .f32⟩
  | 62 => ⟨S16x2048x8x32, .f32⟩
  | 63 => ⟨S16x2048x8x32, .f32⟩
  | 64 => ⟨S16x2048x8x32, .f32⟩
  | 65 => ⟨S16x2048x8x32, .f32⟩
  | 66 => ⟨S16x2048x8x32, .f32⟩
  | 67 => ⟨S16x2048x8x32, .f32⟩
  | 68 => ⟨S16x2048x8x32, .f32⟩
  | 69 => ⟨S16x2048x8x32, .f32⟩
  | 70 => ⟨S16x2048x8x32, .f32⟩
  | 71 => ⟨S16x2048x8x32, .f32⟩
  | 72 => ⟨S16x2048x8x32, .f32⟩
  | 73 => ⟨S16x2048x8x64, .f32⟩
  | 74 => ⟨S_, .f32⟩
  | 75 => ⟨S16x2048x8x64, .f32⟩
  | 76 => ⟨S16x2048x8x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S64, .f32⟩
  | 89 => ⟨S8x1x1, .f32⟩
  | 90 => ⟨S64x1, .f32⟩
  | 91 => ⟨S1x64, .f32⟩
  | 92 => ⟨S64x64, .f32⟩
  | 93 => ⟨S64x64, .f32⟩
  | 94 => ⟨S64x64, .f32⟩
  | 95 => ⟨S64x64, .f32⟩
  | 96 => ⟨S1x64x64, .f32⟩
  | 97 => ⟨S8x64x64, .f32⟩
  | 98 => ⟨S8x64x64, .f32⟩
  | 99 => ⟨S8x64x64, .f32⟩
  | 100 => ⟨S8x64x64, .f32⟩
  | 101 => ⟨S1x8, .f32⟩
  | 102 => ⟨S_, .f32⟩
  | 103 => ⟨S64, .f32⟩
  | 104 => ⟨S64, .f32⟩
  | 105 => ⟨S64x1, .f32⟩
  | 106 => ⟨S64x8, .f32⟩
  | 107 => ⟨S64x8, .f32⟩
  | 108 => ⟨S64x8, .f32⟩
  | 109 => ⟨S64x8, .f32⟩
  | 110 => ⟨S1x8, .f32⟩
  | 111 => ⟨S_, .f32⟩
  | 112 => ⟨S64, .f32⟩
  | 113 => ⟨S64, .f32⟩
  | 114 => ⟨S64x1, .f32⟩
  | 115 => ⟨S64x8, .f32⟩
  | 116 => ⟨S64x8, .f32⟩
  | 117 => ⟨S64x8, .f32⟩
  | 118 => ⟨S64x8, .f32⟩
  | 119 => ⟨S32, .i32⟩
  | 120 => ⟨S32x1, .i32⟩
  | 121 => ⟨S_, .i32⟩
  | 122 => ⟨S32x1, .i32⟩
  | 123 => ⟨S32x1, .i32⟩
  | 124 => ⟨S1x32, .i32⟩
  | 125 => ⟨S32x32, .i32⟩
  | 126 => ⟨S32x32, .i32⟩
  | 127 => ⟨S32x32, .i32⟩
  | _ => ⟨S16x2048x3584, .bf16⟩

abbrev hbmTy0_1 (i : Nat) : BufTy := match i % 128 with
  | 0 => ⟨S32x32, .f32⟩
  | 1 => ⟨S1x32, .i32⟩
  | 2 => ⟨S32x1, .i32⟩
  | 3 => ⟨S32x32, .i32⟩
  | 4 => ⟨S32x32, .i32⟩
  | 5 => ⟨S32x32, .i1⟩
  | 6 => ⟨S1x32x32, .i1⟩
  | 7 => ⟨S_, .f32⟩
  | 8 => ⟨S8, .f32⟩
  | 9 => ⟨S8, .f32⟩
  | 10 => ⟨S8x1x1, .f32⟩
  | 11 => ⟨S1x32x32, .f32⟩
  | 12 => ⟨S8x32x32, .f32⟩
  | 13 => ⟨S8x32x32, .f32⟩
  | 14 => ⟨S8x32x32, .f32⟩
  | 15 => ⟨S8x32x32, .f32⟩
  | 16 => ⟨S_, .f32⟩
  | 17 => ⟨S_, .f32⟩
  | 18 => ⟨S8x32x32, .i1⟩
  | 19 => ⟨S8x32x32, .f32⟩
  | 20 => ⟨S8x32x32, .f32⟩
  | 21 => ⟨S16x32x64x8x64, .f32⟩
  | 22 => ⟨S16x32x64x8x64, .f32⟩
  | 23 => ⟨S16x32x64x8x64, .f32⟩
  | 24 => ⟨S16x32x8x64x64, .f32⟩
  | 25 => ⟨S1x1x8x64x64, .f32⟩
  | 26 => ⟨S16x32x8x64x64, .f32⟩
  | 27 => ⟨S16x32x8x64x64, .f32⟩
  | 28 => ⟨S16x32x8x64x64, .f32⟩
  | 29 => ⟨S16x32x64x8x64, .f32⟩
  | 30 => ⟨S1x1x64x8x1, .f32⟩
  | 31 => ⟨S16x32x64x8x64, .f32⟩
  | 32 => ⟨S16x32x64x8x64, .f32⟩
  | 33 => ⟨S16x32x8x64x64, .f32⟩
  | 34 => ⟨S8x16x64x64x32, .f32⟩
  | 35 => ⟨S16x32x8x64x64, .f32⟩
  | 36 => ⟨S16x32x8x64x64, .f32⟩
  | 37 => ⟨S16x32x64x8x64, .f32⟩
  | 38 => ⟨S1x1x64x8x1, .f32⟩
  | 39 => ⟨S16x32x64x8x64, .f32⟩
  | 40 => ⟨S16x32x64x8x64, .f32⟩
  | 41 => ⟨S16x32x64x8x64, .f32⟩
  | 42 => ⟨S_, .f32⟩
  | 43 => ⟨S16x32x64x8, .f32⟩
  | 44 => ⟨S16x32x64x8x1, .f32⟩
  | 45 => ⟨S_, .f32⟩
  | 46 => ⟨S16x32x64x8x1, .f32⟩
  | 47 => ⟨S16x32x64x8x1, .f32⟩
  | 48 => ⟨S16x32x64x8x64, .f32⟩
  | 49 => ⟨S16x32x64x8x64, .f32⟩
  | 50 => ⟨S16x32x64x8x64, .f32⟩
  | 51 => ⟨S_, .f32⟩
  | 52 => ⟨S16x32x64x8, .f32⟩
  | 53 => ⟨S16x32x64x8x1, .f32⟩
  | 54 => ⟨S_, .f32⟩
  | 55 => ⟨S16x32x64x8x1, .f32⟩
  | 56 => ⟨S16x32x64x8x1, .f32⟩
  | 57 => ⟨S16x32x64x8x64, .f32⟩
  | 58 => ⟨S16x32x64x8x64, .f32⟩
  | 59 => ⟨S_, .f32⟩
  | 60 => ⟨S16x32x64x8x1, .f32⟩
  | 61 => ⟨S16x32x64x8x1, .f32⟩
  | 62 => ⟨S16x32x64x8x1, .f32⟩
  | 63 => ⟨S16x32x64x8x64, .f32⟩
  | 64 => ⟨S16x32x64x8x64, .f32⟩
  | 65 => ⟨S16x2048x8x64, .f32⟩
  | 66 => ⟨S16x2048x8x64, .f32⟩
  | 67 => ⟨S16x2048x8x64, .f32⟩
  | 68 => ⟨S_, .f32⟩
  | 69 => ⟨S16x2048x8x64, .f32⟩
  | 70 => ⟨S16x2048x8x64, .f32⟩
  | 71 => ⟨S_, .f32⟩
  | 72 => ⟨S16x2048x8x64, .f32⟩
  | 73 => ⟨S16x2048x8x64, .f32⟩
  | 74 => ⟨S16x2048x8x64, .f32⟩
  | 75 => ⟨S16x2048x8x64, .f32⟩
  | 76 => ⟨S16x2048x512, .f32⟩
  | 77 => ⟨S16x2048x512, .bf16⟩
  | _ => ⟨S16x2048x3584, .bf16⟩

abbrev hbmTy (i : Nat) : BufTy := match i / 128 with
  | 0 => hbmTy0_0 i
  | 1 => hbmTy0_1 i
  | _ => ⟨S16x2048x3584, .bf16⟩

abbrev bufTy : (tb : Table) → Fin (tcTables nBuf tb) → BufTy
  | .hbm, ⟨i, _⟩ => hbmTy i
  | _, _ => ⟨S16x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_1 : Ref sig .tc := ⟨.hbm, 45, rfl⟩
abbrev main_v42 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_cst_3 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_cst_6 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_cst_7 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_8 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_c : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_9 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_10 : Ref sig .tc := ⟨.hbm, 144, rfl⟩
abbrev main_call0_v0 : Ref sig .tc := ⟨.hbm, 145, rfl⟩
abbrev main_call0_v1 : Ref sig .tc := ⟨.hbm, 146, rfl⟩
abbrev main_call0_v2 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_11 : Ref sig .tc := ⟨.hbm, 170, rfl⟩
abbrev main_v153 : Ref sig .tc := ⟨.hbm, 171, rfl⟩
abbrev main_v154 : Ref sig .tc := ⟨.hbm, 172, rfl⟩
abbrev main_cst_12 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_cst_13 : Ref sig .tc := ⟨.hbm, 179, rfl⟩
abbrev main_v160 : Ref sig .tc := ⟨.hbm, 180, rfl⟩
abbrev main_v161 : Ref sig .tc := ⟨.hbm, 181, rfl⟩
abbrev main_cst_14 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_cst_15 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_call1_v0 : Ref sig .tc := ⟨.hbm, 194, rfl⟩
abbrev main_call1_v1 : Ref sig .tc := ⟨.hbm, 195, rfl⟩
abbrev main_call1_cst : Ref sig .tc := ⟨.hbm, 196, rfl⟩
abbrev main_call1_v2 : Ref sig .tc := ⟨.hbm, 197, rfl⟩
abbrev main_call1_v3 : Ref sig .tc := ⟨.hbm, 198, rfl⟩
abbrev main_call1_cst_0 : Ref sig .tc := ⟨.hbm, 199, rfl⟩
abbrev main_call1_v4 : Ref sig .tc := ⟨.hbm, 200, rfl⟩
abbrev main_call1_v5 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩

abbrev nD : Nat := 1
abbrev τ : Topo := Topo.v7x

variable {F : FTy → Type} [FloatOps F]
-- ==== Proof.Soft.lean ====
module

public import Idealize.ShloMosaic.PureOps.Ideal

@[expose] public section

noncomputable section

namespace Cert.Soft

open Idealize.ShloMosaic

variable {J K : Type} [Fintype J] [Fintype K] [DecidableEq J] [DecidableEq K]

/-- Multiplication by a finite number that is not negative distributes over any sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A maximum from minus infinity is the supremum. -/
theorem fold_max (s : K → EReal) : Finset.univ.fold max ⊥ s = Finset.univ.sup s := rfl

/-- A score of minus infinity has weight zero. -/
theorem exp_bot_sub (m : EReal) : Ideal.exp (⊥ - m) = 0 := by
  rw [sub_eq_add_neg, EReal.bot_add]; rfl

/-- The weights of finite maximum are reals that are not negative. -/
theorem exp_sub_coe (m : ℝ) (x : EReal) (hx : x ≠ ⊤) :
    ∃ r : ℝ, 0 ≤ r ∧ (x ≠ ⊥ → 0 < r) ∧ Ideal.exp (x - (m : EReal)) = (r : EReal) := by
  induction x using EReal.rec with
  | bot => exact ⟨0, le_rfl, fun h => absurd rfl h, by rw [exp_bot_sub]; rfl⟩
  | coe a => exact ⟨Real.exp (a - m), (Real.exp_pos _).le, fun _ => Real.exp_pos _, by
      rw [← EReal.coe_sub]; rfl⟩
  | top => exact absurd rfl hx

/-- The quotient of the weighted sum by the sum of the weights, over rows of which the ones outside the window of `e`
score minus infinity, is the sum over the window of each value times its share. -/
theorem mix_eq (s : K → EReal) (t : J → EReal) (e : J → K) (he : Function.Injective e)
    (hs : ∀ j, s (e j) = t j) (hoff : ∀ k, (∀ j, e j ≠ k) → s k = ⊥)
    (hfin : ∃ j, t j ≠ ⊥) (htop : ∀ j, t j ≠ ⊤) (v : K → EReal) (w : J → EReal) (hv : ∀ j, v (e j) = w j) :
    Ideal.div (∑ k, Ideal.exp (s k - Finset.univ.fold max ⊥ s) * v k) (∑ k, Ideal.exp (s k - Finset.univ.fold max ⊥ s))
      = ∑ j, w j * Ideal.div (Ideal.exp (t j - max ⊥ (Finset.univ.fold max ⊥ t)))
          (∑ j', Ideal.exp (t j' - max ⊥ (Finset.univ.fold max ⊥ t))) := by
  have hsup : Finset.univ.sup s = Finset.univ.sup t := by
    apply le_antisymm
    · refine Finset.sup_le fun k _ => ?_
      by_cases h : ∃ j, e j = k
      · obtain ⟨j, rfl⟩ := h
        rw [hs]; exact Finset.le_sup (f := t) (Finset.mem_univ j)
      · rw [hoff k fun j hj => h ⟨j, hj⟩]; exact bot_le
    · refine Finset.sup_le fun j _ => ?_
      rw [← hs]; exact Finset.le_sup (f := s) (Finset.mem_univ (e j))
  rw [fold_max, fold_max, hsup, max_eq_right bot_le]
  have hm : ∃ m : ℝ, Finset.univ.sup t = (m : EReal) := by
    have h1 : Finset.univ.sup t ≠ ⊤ := by
      apply ne_of_lt
      rw [Finset.sup_lt_iff (by exact bot_lt_top)]
      exact fun j _ => lt_top_iff_ne_top.2 (htop j)
    have h2 : Finset.univ.sup t ≠ ⊥ := by
      obtain ⟨j, hj⟩ := hfin
      exact fun h => hj (le_bot_iff.1 (h ▸ Finset.le_sup (f := t) (Finset.mem_univ j)))
    exact ⟨(Finset.univ.sup t).toReal, (EReal.coe_toReal h1 h2).symm⟩
  obtain ⟨m, hm⟩ := hm
  rw [hm]
  choose r hr0 hr1 hr using fun j => exp_sub_coe m (t j) (htop j)
  -- the sums over all rows are the sums over the window
  have hsum : ∀ f : K → EReal, (∀ k, (∀ j, e j ≠ k) → f k = 0) → ∑ k, f k = ∑ j, f (e j) := by
    intro f hf
    refine Eq.trans ?_ (Finset.sum_map Finset.univ ⟨e, he⟩ f)
    symm
    apply Finset.sum_subset (Finset.subset_univ _)
    intro k _ hk
    exact hf k fun j hj => hk (Finset.mem_map.2 ⟨j, Finset.mem_univ j, hj⟩)
  rw [hsum _ fun k hk => by rw [hoff k hk, exp_bot_sub, zero_mul],
    hsum _ fun k hk => by rw [hoff k hk, exp_bot_sub]]
  simp only [hs, hv, hr]
  rw [coe_sum]
  have hD : 0 < ∑ j, r j := by
    obtain ⟨j, hj⟩ := hfin
    exact Finset.sum_pos' (fun i _ => hr0 i) ⟨j, Finset.mem_univ j, hr1 j hj⟩
  simp only [Ideal.div_coe hD.ne']
  rw [sum_mul_coe _ _ _ (by positivity)]
  refine Finset.sum_congr rfl fun j _ => ?_
  rw [mul_comm (r j : EReal) (w j), mul_assoc]

end Cert.Soft
-- ==== Proof.Trip.lean ====
module

public import proofs.«01_k».proof.Proof.Gen.KernelIdeal.Value
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

/-- The column numbers of a group's scores. -/
abbrev cols : IVec S256x768 32 := iota Kind.tc S256x768 32 [1] iota_S256x768_d1_w32

/-- The one store of an early trip: group `k`'s rows. -/
def early (Q : Vec F S1x2048x128 .bf16) (K V : Vec F S2560x128 .bf16) (B : Vec F S2x256x768 .f32)
    (k : Fin k0_t1_loop.trips) : View.Piece (Elt F) S1x2048x128 .bf16 :=
  ⟨Rect.unit (k0_off1 k) S1x256x128.size (k0_off1_inb k),
    k0_pay19 (Scf.iv 0#32 1#32 k) (View.ld V (Rect.unit (k0_off2 k) S768x128.size (k0_off2_inb k)))
      (k0_pay3 k0_pay17 cols 0#32 1#32 k
        (View.ld Q (Rect.unit (k0_off1 k) S1x256x128.size (k0_off1_inb k)))
        (View.ld K (Rect.unit (k0_off2 k) S768x128.size (k0_off2_inb k)))
        (View.ld B (Rect.unit ![0, 0, 0] S1x256x768.size inb_S2x256x768_S1x256x768_0_0_0)))
      (k0_pay4 k0_pay17 cols 0#32 1#32 k
        (View.ld Q (Rect.unit (k0_off1 k) S1x256x128.size (k0_off1_inb k)))
        (View.ld K (Rect.unit (k0_off2 k) S768x128.size (k0_off2_inb k)))
        (View.ld B (Rect.unit ![0, 0, 0] S1x256x768.size inb_S2x256x768_S1x256x768_0_0_0)))
      (k0_pay5 k0_pay18
        (View.ld Q (Rect.unit (k0_off1 k) S1x256x128.size (k0_off1_inb k)))
        (View.ld K (Rect.unit (k0_off2 k) S768x128.size (k0_off2_inb k)))
        (View.ld B (Rect.unit ![1, 0, 0] S1x256x768.size inb_S2x256x768_S1x256x768_1_0_0))) 256#32⟩

/-- The one store of a later trip: group `k + 2`'s rows. -/
def late (Q : Vec F S1x2048x128 .bf16) (K V : Vec F S2560x128 .bf16) (B : Vec F S2x256x768 .f32)
    (k : Fin k0_t2_loop.trips) : View.Piece (Elt F) S1x2048x128 .bf16 :=
  ⟨Rect.unit (k0_off3 k) S1x256x128.size (k0_off3_inb k),
    k0_pay20 (View.ld V (Rect.unit (k0_off4 k) S768x128.size (k0_off4_inb k)))
      (k0_pay8 k0_pay17
        (View.ld Q (Rect.unit (k0_off3 k) S1x256x128.size (k0_off3_inb k)))
        (View.ld K (Rect.unit (k0_off4 k) S768x128.size (k0_off4_inb k)))
        (View.ld B (Rect.unit ![0, 0, 0] S1x256x768.size inb_S2x256x768_S1x256x768_0_0_0)))
      (k0_pay9 k0_pay17
        (View.ld Q (Rect.unit (k0_off3 k) S1x256x128.size (k0_off3_inb k)))
        (View.ld K (Rect.unit (k0_off4 k) S768x128.size (k0_off4_inb k)))
        (View.ld B (Rect.unit ![0, 0, 0] S1x256x768.size inb_S2x256x768_S1x256x768_0_0_0)))
      (k0_pay11 k0_pay18
        (View.ld Q (Rect.unit (k0_off3 k) S1x256x128.size (k0_off3_inb k)))
        (View.ld K (Rect.unit (k0_off4 k) S768x128.size (k0_off4_inb k)))
        (View.ld B (Rect.unit ![1, 0, 0] S1x256x768.size inb_S2x256x768_S1x256x768_1_0_0)))
      (k0_pay12 k0_pay18
        (View.ld Q (Rect.unit (k0_off3 k) S1x256x128.size (k0_off3_inb k)))
        (View.ld K (Rect.unit (k0_off4 k) S768x128.size (k0_off4_inb k)))
        (View.ld B (Rect.unit ![1, 0, 0] S1x256x768.size inb_S2x256x768_S1x256x768_1_0_0)))⟩

variable (𝒱 : Variants) (c : Dev nD) (bd : Option 𝒱.V) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S2x256x768 .f32) (harg5 : arg5.IsWhole)
  (arg6 : Memref sig .tc .vmem S1x2048x128 .bf16) (harg6 : arg6.IsWhole)
  (arg7 : Memref sig .tc .vmem S2560x128 .bf16) (harg7 : arg7.IsWhole)
  (arg8 : Memref sig .tc .vmem S2560x128 .bf16) (harg8 : arg8.IsWhole)

theorem trip1_eq (X2 : BufTy.Contents (Elt F) arg2.view.ty) (X5 : BufTy.Contents (Elt F) arg5.view.ty)
    (X7 : BufTy.Contents (Elt F) arg7.view.ty) (X8 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 cols X2 X5 X7 X8 k
      = [early (arg2.view.read (Elt F) X2) (arg7.view.read (Elt F) X7) (arg8.view.read (Elt F) X8) (arg5.view.read (Elt F) X5) k] := by
  unfold tripL_k0_t1 trip_k0_t1
  rfl

theorem mem_pb1 (X2 : BufTy.Contents (Elt F) arg2.view.ty) (X5 : BufTy.Contents (Elt F) arg5.view.ty)
    (X7 : BufTy.Contents (Elt F) arg7.view.ty) (X8 : BufTy.Contents (Elt F) arg8.view.ty) (n : ℕ) (hn : n ≤ k0_t1_loop.trips)
    (p : View.Piece (Elt F) S1x2048x128 .bf16) :
    p ∈ pb_k0_t1 (F := F) 𝒱 c bd i arg2 harg2 arg3 harg3 arg4 harg4 arg5 harg5 arg6 harg6 arg7 harg7 arg8 harg8 cols X2 X5 X7 X8 n
      ↔ ∃ k : Fin k0_t1_loop.trips, k.val < n ∧
          p = early (arg2.view.read (Elt F) X2) (arg7.view.read (Elt F) X7) (arg8.view.read (Elt F) X8) (arg5.view.read (Elt F) X5) k := by
  induction n with
  | zero => exact ⟨fun h => absurd h List.not_mem_nil, fun ⟨k, h, _⟩ => absurd h (Nat.not_lt_zero _)⟩
  | succ n ih =>
    have h := pb_k0_t1_succ (F := F) 𝒱 c bd i arg2 harg2 arg3 harg3 arg4 harg4 arg5 harg5 arg6 harg6 arg7 harg7 arg8 harg8 cols X2 X5 X7 X8 ⟨n, hn⟩
    rw [trip1_eq] at h
    rw [show pb_k0_t1 (F := F) 𝒱 c bd i arg2 harg2 arg3 harg3 arg4 harg4 arg5 harg5 arg6 harg6 arg7 harg7 arg8 harg8 cols X2 X5 X7 X8 (n + 1) = _ from h, List.singleton_append, List.mem_cons, ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.1 hk with hk | hk
      · exact Or.inr ⟨k, hk, h⟩
      · exact Or.inl (by rw [h]; congr 1; exact Fin.ext hk)

theorem trip2_eq (X2 : BufTy.Contents (Elt F) arg2.view.ty) (X5 : BufTy.Contents (Elt F) arg5.view.ty)
    (X7 : BufTy.Contents (Elt F) arg7.view.ty) (X8 : BufTy.Contents (Elt F) arg8.view.ty) (k : Fin k0_t2_loop.trips) :
    tripL_k0_t2 (F := F) 𝒱 c bd i arg2 harg2 arg3 harg3 arg4 harg4 arg5 harg5 arg6 harg6 arg7 harg7 arg8 harg8 X2 X5 X7 X8 k
      = [late (arg2.view.read (Elt F) X2) (arg7.view.read (Elt F) X7) (arg8.view.read (Elt F) X8) (arg5.view.read (Elt F) X5) k] := by
  unfold tripL_k0_t2 trip_k0_t2
  rfl

theorem mem_pb2 (X2 : BufTy.Contents (Elt F) arg2.view.ty) (X5 : BufTy.Contents (Elt F) arg5.view.ty)
    (X7 : BufTy.Contents (Elt F) arg7.view.ty) (X8 : BufTy.Contents (Elt F) arg8.view.ty) (n : ℕ) (hn : n ≤ k0_t2_loop.trips)
    (p : View.Piece (Elt F) S1x2048x128 .bf16) :
    p ∈ pb_k0_t2 (F := F) 𝒱 c bd i arg2 harg2 arg3 harg3 arg4 harg4 arg5 harg5 arg6 harg6 arg7 harg7 arg8 harg8 X2 X5 X7 X8 n
      ↔ ∃ k : Fin k0_t2_loop.trips, k.val < n ∧
          p = late (arg2.view.read (Elt F) X2) (arg7.view.read (Elt F) X7) (arg8.view.read (Elt F) X8) (arg5.view.read (Elt F) X5) k := by
  induction n with
  | zero => exact ⟨fun h => absurd h List.not_mem_nil, fun ⟨k, h, _⟩ => absurd h (Nat.not_lt_zero _)⟩
  | succ n ih =>
    have h := pb_k0_t2_succ (F := F) 𝒱 c bd i arg2 harg2 arg3 harg3 arg4 harg4 arg5 harg5 arg6 harg6 arg7 harg7 arg8 harg8 X2 X5 X7 X8 ⟨n, hn⟩
    rw [trip2_eq] at h
    rw [show pb_k0_t2 (F := F) 𝒱 c bd i arg2 harg2 arg3 harg3 arg4 harg4 arg5 harg5 arg6 harg6 arg7 harg7 arg8 harg8 X2 X5 X7 X8 (n + 1) = _ from h, List.singleton_append, List.mem_cons, ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.1 hk with hk | hk
      · exact Or.inr ⟨k, hk, h⟩
      · exact Or.inl (by rw [h]; congr 1; exact Fin.ext hk)

end Cert.KernelIdeal.Body
-- ==== Proof.Pay.lean ====
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen

/-- The bit that says lane `x` belongs to the first head of the pair. -/
def lane0 (x : Fin 128) : BitVec 1 := IntOp.cmpi .slt (BitVec.ofNat 32 x.val) 64#32

/-- The bit that says lane `x` belongs to the second head of the pair. -/
def lane1 (x : Fin 128) : BitVec 1 := IntOp.cmpi .sge (BitVec.ofNat 32 x.val) 64#32

/-- The score of query row `i` against key row `j`, over the lanes that `sel` selects, with its bias. -/
def score (sel : Fin 128 → BitVec 1) (q : Fin 128 → EReal) (kk : Fin 768 → Fin 128 → EReal) (b : Fin 768 → EReal)
    (j : Fin 768) : EReal :=
  (∑ x : Fin 128, Scalar.select (sel x) (q x * Ideal.ofBits .bf16 15872#16 * kk j x) 0) + b j

/-- The bit that says key row `j` of group `k` is a row of the sequence and not of the padding. -/
def seen (k : ℕ) (j : Fin 768) : BitVec 1 :=
  IntOp.cmpi .sge (BitVec.ofNat 32 j.val) (Scalar.subi 512#32 (Scalar.muli (Scf.iv 0#32 1#32 k) 256#32))

/-- A score, or minus infinity over the padding. -/
def shown (k : ℕ) (s : Fin 768 → EReal) (j : Fin 768) : EReal :=
  Scalar.select (seen k j) (s j) (Ideal.ofBits .f32 4286578688#32)

/-- The exponential of a score less the row's maximum. -/
def weight (s : Fin 768 → EReal) (j : Fin 768) : EReal :=
  Ideal.exp (s j - Finset.fold max (Ideal.ofBits .f32 4286578688#32) s Finset.univ)

/-- The weighted sum of the values divided by the sum of the weights. -/
def mixed (s v : Fin 768 → EReal) : EReal :=
  Ideal.div (∑ j, weight s j * v j) (∑ j, weight s j)

theorem pay7_apply (q : Vec Ideal S1x256x128 .bf16) (kk : Vec Ideal S768x128 .bf16) (b : Vec Ideal S1x256x768 .f32)
    (i : Fin 256) (j : Fin 768) :
    k0_pay7 (F := Ideal) k0_pay17 q kk b (ix2 i j)
      = weight (score lane0 (fun x => q (ix3 0 i x)) (fun j x => kk (ix2 j x)) (fun j => b (ix3 0 i j))) j := by
  pointwise [k0_pay7, k0_pay6, k0_pay17]
  rfl

theorem pay10_apply (q : Vec Ideal S1x256x128 .bf16) (kk : Vec Ideal S768x128 .bf16) (b : Vec Ideal S1x256x768 .f32)
    (i : Fin 256) (j : Fin 768) :
    k0_pay10 (F := Ideal) k0_pay18 q kk b (ix2 i j)
      = weight (score lane1 (fun x => q (ix3 0 i x)) (fun j x => kk (ix2 j x)) (fun j => b (ix3 0 i j))) j := by
  pointwise [k0_pay10, k0_pay6, k0_pay18]
  rfl

theorem pay2_apply (q : Vec Ideal S1x256x128 .bf16) (kk : Vec Ideal S768x128 .bf16) (b : Vec Ideal S1x256x768 .f32)
    (k : Fin k0_t1_loop.trips) (i : Fin 256) (j : Fin 768) :
    k0_pay2 (F := Ideal) k0_pay17 (iota Kind.tc S256x768 32 [1] iota_S256x768_d1_w32) 0#32 1#32 k q kk b (ix2 i j)
      = weight (shown k (score lane0 (fun x => q (ix3 0 i x)) (fun j x => kk (ix2 j x)) (fun j => b (ix3 0 i j)))) j := by
  pointwise [k0_pay2, k0_pay1, k0_pay17]
  rfl

theorem pay5_apply (q : Vec Ideal S1x256x128 .bf16) (kk : Vec Ideal S768x128 .bf16) (b : Vec Ideal S1x256x768 .f32)
    (i : Fin 256) (j : Fin 768) :
    k0_pay5 (F := Ideal) k0_pay18 q kk b (ix2 i j)
      = score lane1 (fun x => q (ix3 0 i x)) (fun j x => kk (ix2 j x)) (fun j => b (ix3 0 i j)) j := by
  pointwise [k0_pay5, k0_pay1, k0_pay18]
  rfl

theorem pay20_apply (v36 : Vec Ideal S768x128 .bf16) (v52 : FVec Ideal S256x1 .f32) (v53 : FVec Ideal S256x768 .bf16)
    (v63 : FVec Ideal S256x1 .f32) (v64 : FVec Ideal S256x768 .bf16) (i : Fin 256) (l : Fin 128) :
    k0_pay20 (F := Ideal) v36 v52 v53 v63 v64 (ix3 0 i l)
      = Scalar.select (lane0 l) (Ideal.div (∑ x : Fin 768, v53 (ix2 i x) * v36 (ix2 x l)) (v52 (ix2 i 0)))
          (Ideal.div (∑ x : Fin 768, v64 (ix2 i x) * v36 (ix2 x l)) (v63 (ix2 i 0))) := by
  pointwise [k0_pay20, k0_pay17]
  rfl

theorem pay19_apply (k : ℕ) (v36 : Vec Ideal S768x128 .bf16) (v58 : FVec Ideal S256x1 .f32) (v59 : FVec Ideal S256x768 .bf16)
    (v62 : FVec Ideal S256x768 .f32) (i : Fin 256) (l : Fin 128) :
    k0_pay19 (F := Ideal) (Scf.iv 0#32 1#32 k) v36 v58 v59 v62 256#32 (ix3 0 i l)
      = Scalar.select (lane0 l) (Ideal.div (∑ x : Fin 768, v59 (ix2 i x) * v36 (ix2 x l)) (v58 (ix2 i 0)))
          (mixed (shown k fun j => v62 (ix2 i j)) (fun j => v36 (ix2 j l))) := by
  pointwise [k0_pay19, k0_pay17]
  rfl

theorem pay8_apply (q : Vec Ideal S1x256x128 .bf16) (kk : Vec Ideal S768x128 .bf16) (b : Vec Ideal S1x256x768 .f32)
    (i : Fin 256) :
    k0_pay8 (F := Ideal) k0_pay17 q kk b (ix2 i 0)
      = ∑ j, weight (score lane0 (fun x => q (ix3 0 i x)) (fun j x => kk (ix2 j x)) (fun j => b (ix3 0 i j))) j := by
  simp only [← pay7_apply]
  unfold k0_pay8
  generalize k0_pay7 (F := Ideal) k0_pay17 q kk b = w
  pointwise

theorem pay9_apply (q : Vec Ideal S1x256x128 .bf16) (kk : Vec Ideal S768x128 .bf16) (b : Vec Ideal S1x256x768 .f32)
    (i : Fin 256) (j : Fin 768) :
    k0_pay9 (F := Ideal) k0_pay17 q kk b (ix2 i j)
      = weight (score lane0 (fun x => q (ix3 0 i x)) (fun j x => kk (ix2 j x)) (fun j => b (ix3 0 i j))) j :=
  pay7_apply q kk b i j

theorem pay11_apply (q : Vec Ideal S1x256x128 .bf16) (kk : Vec Ideal S768x128 .bf16) (b : Vec Ideal S1x256x768 .f32)
    (i : Fin 256) :
    k0_pay11 (F := Ideal) k0_pay18 q kk b (ix2 i 0)
      = ∑ j, weight (score lane1 (fun x => q (ix3 0 i x)) (fun j x => kk (ix2 j x)) (fun j => b (ix3 0 i j))) j := by
  simp only [← pay10_apply]
  unfold k0_pay11
  generalize k0_pay10 (F := Ideal) k0_pay18 q kk b = w
  pointwise

theorem pay12_apply (q : Vec Ideal S1x256x128 .bf16) (kk : Vec Ideal S768x128 .bf16) (b : Vec Ideal S1x256x768 .f32)
    (i : Fin 256) (j : Fin 768) :
    k0_pay12 (F := Ideal) k0_pay18 q kk b (ix2 i j)
      = weight (score lane1 (fun x => q (ix3 0 i x)) (fun j x => kk (ix2 j x)) (fun j => b (ix3 0 i j))) j :=
  pay10_apply q kk b i j

theorem pay3_apply (q : Vec Ideal S1x256x128 .bf16) (kk : Vec Ideal S768x128 .bf16) (b : Vec Ideal S1x256x768 .f32)
    (k : Fin k0_t1_loop.trips) (i : Fin 256) :
    k0_pay3 (F := Ideal) k0_pay17 (iota Kind.tc S256x768 32 [1] iota_S256x768_d1_w32) 0#32 1#32 k q kk b (ix2 i 0)
      = ∑ j, weight (shown k (score lane0 (fun x => q (ix3 0 i x)) (fun j x => kk (ix2 j x)) (fun j => b (ix3 0 i j)))) j := by
  simp only [← pay2_apply]
  unfold k0_pay3
  generalize k0_pay2 (F := Ideal) k0_pay17 _ 0#32 1#32 k q kk b = w
  pointwise

theorem pay4_apply (q : Vec Ideal S1x256x128 .bf16) (kk : Vec Ideal S768x128 .bf16) (b : Vec Ideal S1x256x768 .f32)
    (k : Fin k0_t1_loop.trips) (i : Fin 256) (j : Fin 768) :
    k0_pay4 (F := Ideal) k0_pay17 (iota Kind.tc S256x768 32 [1] iota_S256x768_d1_w32) 0#32 1#32 k q kk b (ix2 i j)
      = weight (shown k (score lane0 (fun x => q (ix3 0 i x)) (fun j x => kk (ix2 j x)) (fun j => b (ix3 0 i j)))) j :=
  pay2_apply q kk b k i j

/-- What a later trip stores, at row `i` and lane `l` of its group. -/
theorem piece20_apply (q : Vec Ideal S1x256x128 .bf16) (kk vv : Vec Ideal S768x128 .bf16) (b0 b1 : Vec Ideal S1x256x768 .f32)
    (i : Fin 256) (l : Fin 128) :
    k0_pay20 (F := Ideal) vv (k0_pay8 k0_pay17 q kk b0) (k0_pay9 k0_pay17 q kk b0) (k0_pay11 k0_pay18 q kk b1) (k0_pay12 k0_pay18 q kk b1) (ix3 0 i l)
      = Scalar.select (lane0 l)
          (mixed (score lane0 (fun x => q (ix3 0 i x)) (fun j x => kk (ix2 j x)) (fun j => b0 (ix3 0 i j))) (fun j => vv (ix2 j l)))
          (mixed (score lane1 (fun x => q (ix3 0 i x)) (fun j x => kk (ix2 j x)) (fun j => b1 (ix3 0 i j))) (fun j => vv (ix2 j l))) := by
  rw [pay20_apply, pay8_apply, pay11_apply]
  simp only [pay9_apply, pay12_apply]
  rfl

/-- What an early trip stores, at row `i` and lane `l` of its group. -/
theorem piece19_apply (q : Vec Ideal S1x256x128 .bf16) (kk vv : Vec Ideal S768x128 .bf16) (b0 b1 : Vec Ideal S1x256x768 .f32)
    (k : Fin k0_t1_loop.trips) (i : Fin 256) (l : Fin 128) :
    k0_pay19 (F := Ideal) (Scf.iv 0#32 1#32 k) vv (k0_pay3 k0_pay17 (iota Kind.tc S256x768 32 [1] iota_S256x768_d1_w32) 0#32 1#32 k q kk b0) (k0_pay4 k0_pay17 (iota Kind.tc S256x768 32 [1] iota_S256x768_d1_w32) 0#32 1#32 k q kk b0) (k0_pay5 k0_pay18 q kk b1) 256#32 (ix3 0 i l)
      = Scalar.select (lane0 l)
          (mixed (shown k (score lane0 (fun x => q (ix3 0 i x)) (fun j x => kk (ix2 j x)) (fun j => b0 (ix3 0 i j)))) (fun j => vv (ix2 j l)))
          (mixed (shown k (score lane1 (fun x => q (ix3 0 i x)) (fun j x => kk (ix2 j x)) (fun j => b1 (ix3 0 i j)))) (fun j => vv (ix2 j l))) := by
  rw [pay19_apply, pay3_apply, Finset.sum_congr rfl fun x _ => congrArg (· * vv (ix2 x l)) (pay4_apply q kk b0 k i x),
    funext fun j => pay5_apply q kk b1 i j]
  rfl

end Cert.KernelIdeal.Body
-- ==== Proof.Block.lean ====
module

public import proofs.«01_k».proof.Proof.Trip
public import proofs.«01_k».proof.Proof.Pay
public import Idealize.ShloMosaic.Lib.Pipeline.ValueKit.Tiles

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

theorem bits_bot : Ideal.ofBits .f32 4286578688#32 = ⊥ := by simp [Ideal.ofBits, Ideal.ieee]

/-! ## The offsets of the trips -/

theorem off1_eq : ∀ k : Fin k0_t1_loop.trips, k0_off1 k = ![0, 256 * k.val, 0] := by decide +kernel
theorem off2_eq : ∀ k : Fin k0_t1_loop.trips, k0_off2 k = ![256 * k.val, 0] := by decide +kernel
theorem off3_eq : ∀ k : Fin k0_t2_loop.trips, k0_off3 k = ![0, 256 * (k.val + 2), 0] := by decide +kernel
theorem off4_eq : ∀ k : Fin k0_t2_loop.trips, k0_off4 k = ![256 * (k.val + 2), 0] := by decide +kernel
theorem lt1 : ∀ k : Fin k0_t1_loop.trips, k.val < 2 := by decide +kernel
theorem lt2 : ∀ k : Fin k0_t2_loop.trips, k.val < 6 := by decide +kernel
theorem trips1 : k0_t1_loop.trips = 2 := by decide +kernel
theorem trips2 : k0_t2_loop.trips = 6 := by decide +kernel

/-! ## The value of a group -/

/-- Row `r` of a padded array: zero over the first 512 rows, then the rows of `x`. -/
def padAt (x : Vec Ideal S1x2048x128 .bf16) (r : ℕ) (l : Fin 128) : EReal :=
  if h : 512 ≤ r ∧ r < 2560 then x (ix3 0 ⟨r - 512, by omega⟩ l) else 0

/-- The padded array itself. -/
def padded (x : Vec Ideal S1x2048x128 .bf16) : Vec Ideal S2560x128 .bf16 := fun y => padAt x (y 0).val (y 1)

/-- The score of query row `i` of group `g` against key row `j` of the group's band: minus infinity over the padding. -/
def rowScore (sel : Fin 128 → BitVec 1) (Q K : Vec Ideal S1x2048x128 .bf16) (B : Vec Ideal S2x256x768 .f32) (hh : Fin 2)
    (g : Fin 8) (i : Fin 256) (j : Fin 768) : EReal :=
  if 512 ≤ j.val + 256 * g.val then
    score sel (fun x => Q (ix3 0 ⟨256 * g.val + i.val, by omega⟩ x)) (fun j x => padAt K (256 * g.val + j.val) x) (fun j => B (ix3 hh i j)) j
  else ⊥

/-- The output of query row `i` of group `g` at lane `l`. -/
def rowOut (Q K V : Vec Ideal S1x2048x128 .bf16) (B : Vec Ideal S2x256x768 .f32) (g : Fin 8) (i : Fin 256) (l : Fin 128) : EReal :=
  Scalar.select (lane0 l)
    (mixed (rowScore lane0 Q K B 0 g i) (fun j => padAt V (256 * g.val + j.val) l))
    (mixed (rowScore lane1 Q K B 1 g i) (fun j => padAt V (256 * g.val + j.val) l))

/-- The output block. -/
def blockOut (Q K V : Vec Ideal S1x2048x128 .bf16) (B : Vec Ideal S2x256x768 .f32) : Vec Ideal S1x2048x128 .bf16 :=
  fun y => rowOut Q K V B ⟨(y 1).val / 256, by have : (y 1).val < 2048 := (y 1).isLt; omega⟩ ⟨(y 1).val % 256, by omega⟩ (y 2)

theorem seen_eq : ∀ k : Fin k0_t1_loop.trips, ∀ j : Fin 768, seen k.val j = if 512 ≤ j.val + 256 * k.val then 1#1 else 0#1 := by
  decide +kernel

theorem select_one {α : Type} (a b : α) : Scalar.select 1#1 a b = a := rfl
theorem select_zero {α : Type} (a b : α) : Scalar.select 0#1 a b = b := rfl

/-! ## The stores of the trips -/

theorem ld_q1 (Q : Vec Ideal S1x2048x128 .bf16) (k : Fin k0_t1_loop.trips) (i : Fin 256) (x : Fin 128) :
    View.ld Q (Rect.unit (k0_off1 k) S1x256x128.size (k0_off1_inb k)) (ix3 0 i x)
      = Q (ix3 0 ⟨256 * k.val + i.val, by have := lt1 k; omega⟩ x) :=
  View.ld_unit_apply_of Q _ _ _ _ _ fun a => by
    rw [congrFun (off1_eq k) a]; match a with
    | 0 => rfl
    | 1 => rfl
    | 2 => exact (Nat.zero_add _).symm

theorem ld_k1 (K : Vec Ideal S1x2048x128 .bf16) (k : Fin k0_t1_loop.trips) (j : Fin 768) (x : Fin 128) :
    View.ld (padded K) (Rect.unit (k0_off2 k) S768x128.size (k0_off2_inb k)) (ix2 j x) = padAt K (256 * k.val + j.val) x :=
  View.ld_unit_apply_of (padded K) _ _ _ _ (ix2 ⟨256 * k.val + j.val, by have := lt1 k; omega⟩ x) fun a => by
    rw [congrFun (off2_eq k) a]; match a with
    | 0 => rfl
    | 1 => exact (Nat.zero_add _).symm

theorem ld_q2 (Q : Vec Ideal S1x2048x128 .bf16) (k : Fin k0_t2_loop.trips) (i : Fin 256) (x : Fin 128) :
    View.ld Q (Rect.unit (k0_off3 k) S1x256x128.size (k0_off3_inb k)) (ix3 0 i x)
      = Q (ix3 0 ⟨256 * (k.val + 2) + i.val, by have := lt2 k; omega⟩ x) :=
  View.ld_unit_apply_of Q _ _ _ _ _ fun a => by
    rw [congrFun (off3_eq k) a]; match a with
    | 0 => rfl
    | 1 => rfl
    | 2 => exact (Nat.zero_add _).symm

theorem ld_k2 (K : Vec Ideal S1x2048x128 .bf16) (k : Fin k0_t2_loop.trips) (j : Fin 768) (x : Fin 128) :
    View.ld (padded K) (Rect.unit (k0_off4 k) S768x128.size (k0_off4_inb k)) (ix2 j x) = padAt K (256 * (k.val + 2) + j.val) x :=
  View.ld_unit_apply_of (padded K) _ _ _ _ (ix2 ⟨256 * (k.val + 2) + j.val, by have := lt2 k; omega⟩ x) fun a => by
    rw [congrFun (off4_eq k) a]; match a with
    | 0 => rfl
    | 1 => exact (Nat.zero_add _).symm

theorem ld_b0 (B : Vec Ideal S2x256x768 .f32) (i : Fin 256) (j : Fin 768) :
    View.ld B (Rect.unit ![0, 0, 0] S1x256x768.size inb_S2x256x768_S1x256x768_0_0_0) (ix3 0 i j) = B (ix3 0 i j) :=
  View.ld_unit_apply_of B _ _ _ _ _ fun a => by
    match a with
    | 0 => rfl
    | 1 => exact (Nat.zero_add _).symm
    | 2 => exact (Nat.zero_add _).symm

theorem ld_b1 (B : Vec Ideal S2x256x768 .f32) (i : Fin 256) (j : Fin 768) :
    View.ld B (Rect.unit ![1, 0, 0] S1x256x768.size inb_S2x256x768_S1x256x768_1_0_0) (ix3 0 i j) = B (ix3 1 i j) :=
  View.ld_unit_apply_of B _ _ _ _ _ fun a => by
    match a with
    | 0 => rfl
    | 1 => exact (Nat.zero_add _).symm
    | 2 => exact (Nat.zero_add _).symm

theorem piece20_of (q : Vec Ideal S1x256x128 .bf16) (kk vv : Vec Ideal S768x128 .bf16) (b0 b1 : Vec Ideal S1x256x768 .f32)
    (i : Fin 256) (l : Fin 128) (q' : Fin 128 → EReal) (k' : Fin 768 → Fin 128 → EReal) (v' c0 c1 : Fin 768 → EReal)
    (hq : ∀ x, q (ix3 0 i x) = q' x) (hk : ∀ j x, kk (ix2 j x) = k' j x) (hv : ∀ j, vv (ix2 j l) = v' j)
    (h0 : ∀ j, b0 (ix3 0 i j) = c0 j) (h1 : ∀ j, b1 (ix3 0 i j) = c1 j) :
    k0_pay20 (F := Ideal) vv (k0_pay8 k0_pay17 q kk b0) (k0_pay9 k0_pay17 q kk b0) (k0_pay11 k0_pay18 q kk b1) (k0_pay12 k0_pay18 q kk b1) (ix3 0 i l)
      = Scalar.select (lane0 l) (mixed (score lane0 q' k' c0) v') (mixed (score lane1 q' k' c1) v') := by
  obtain rfl : (fun x => q (ix3 0 i x)) = q' := funext hq
  obtain rfl : (fun j x => kk (ix2 j x)) = k' := funext fun j => funext (hk j)
  obtain rfl : (fun j => vv (ix2 j l)) = v' := funext hv
  obtain rfl : (fun j => b0 (ix3 0 i j)) = c0 := funext h0
  obtain rfl : (fun j => b1 (ix3 0 i j)) = c1 := funext h1
  exact piece20_apply q kk vv b0 b1 i l

theorem piece19_of (q : Vec Ideal S1x256x128 .bf16) (kk vv : Vec Ideal S768x128 .bf16) (b0 b1 : Vec Ideal S1x256x768 .f32)
    (k : Fin k0_t1_loop.trips) (i : Fin 256) (l : Fin 128) (q' : Fin 128 → EReal) (k' : Fin 768 → Fin 128 → EReal)
    (v' c0 c1 : Fin 768 → EReal)
    (hq : ∀ x, q (ix3 0 i x) = q' x) (hk : ∀ j x, kk (ix2 j x) = k' j x) (hv : ∀ j, vv (ix2 j l) = v' j)
    (h0 : ∀ j, b0 (ix3 0 i j) = c0 j) (h1 : ∀ j, b1 (ix3 0 i j) = c1 j) :
    k0_pay19 (F := Ideal) (Scf.iv 0#32 1#32 k) vv (k0_pay3 k0_pay17 cols 0#32 1#32 k q kk b0) (k0_pay4 k0_pay17 cols 0#32 1#32 k q kk b0) (k0_pay5 k0_pay18 q kk b1) 256#32 (ix3 0 i l)
      = Scalar.select (lane0 l) (mixed (shown k (score lane0 q' k' c0)) v') (mixed (shown k (score lane1 q' k' c1)) v') := by
  obtain rfl : (fun x => q (ix3 0 i x)) = q' := funext hq
  obtain rfl : (fun j x => kk (ix2 j x)) = k' := funext fun j => funext (hk j)
  obtain rfl : (fun j => vv (ix2 j l)) = v' := funext hv
  obtain rfl : (fun j => b0 (ix3 0 i j)) = c0 := funext h0
  obtain rfl : (fun j => b1 (ix3 0 i j)) = c1 := funext h1
  exact piece19_apply q kk vv b0 b1 k i l

theorem shown_eq (k : Fin k0_t1_loop.trips) (s : Fin 768 → EReal) :
    shown k.val s = fun j => if 512 ≤ j.val + 256 * k.val then s j else ⊥ := by
  funext j
  unfold shown
  rw [seen_eq, bits_bot]
  split_ifs <;> rfl

theorem early_apply (Q K V : Vec Ideal S1x2048x128 .bf16) (B : Vec Ideal S2x256x768 .f32) (k : Fin k0_t1_loop.trips)
    (i : Fin 256) (l : Fin 128) :
    (early Q (padded K) (padded V) B k).2 (ix3 0 i l) = rowOut Q K V B ⟨k.val, by have := lt1 k; omega⟩ i l := by
  refine (piece19_of _ _ _ _ _ k i l _ _ _ _ _ (ld_q1 Q k i) (ld_k1 K k) (fun j => ld_k1 V k j l) (ld_b0 B i) (ld_b1 B i)).trans ?_
  rw [shown_eq, shown_eq]
  rfl

theorem late_apply (Q K V : Vec Ideal S1x2048x128 .bf16) (B : Vec Ideal S2x256x768 .f32) (k : Fin k0_t2_loop.trips)
    (i : Fin 256) (l : Fin 128) :
    (late Q (padded K) (padded V) B k).2 (ix3 0 i l) = rowOut Q K V B ⟨k.val + 2, by have := lt2 k; omega⟩ i l := by
  refine (piece20_of _ _ _ _ _ i l _ _ _ _ _ (ld_q2 Q k i) (ld_k2 K k) (fun j => ld_k2 V k j l) (ld_b0 B i) (ld_b1 B i)).trans ?_
  have hs : ∀ sel hh, rowScore sel Q K B hh ⟨k.val + 2, by have := lt2 k; omega⟩ i
      = score sel (fun x => Q (ix3 0 ⟨256 * (k.val + 2) + i.val, by have := lt2 k; omega⟩ x))
          (fun j x => padAt K (256 * (k.val + 2) + j.val) x) (fun j => B (ix3 hh i j)) := by
    intro sel hh; funext j
    exact if_pos (by show 512 ≤ j.val + 256 * (k.val + 2); omega)
  unfold rowOut
  rw [hs, hs]

/-! ## The block -/

theorem early_emb (Q K V : Vec Ideal S1x2048x128 .bf16) (B : Vec Ideal S2x256x768 .f32) (k : Fin k0_t1_loop.trips)
    (x : (early Q (padded K) (padded V) B k).1.shape.Idx) :
    (early Q (padded K) (padded V) B k).2 x = blockOut Q K V B ((early Q (padded K) (padded V) B k).1.emb x) := by
  obtain ⟨i, l, rfl⟩ : ∃ (i : Fin 256) (l : Fin 128), x = ix3 0 i l :=
    ⟨x 1, x 2, funext fun a => by match a with | 0 => exact Fin.ext (by have : (x 0).val < 1 := (x 0).isLt; show (x 0).val = 0; omega) | 1 => rfl | 2 => rfl⟩
  rw [early_apply]
  have h1 : (((early Q (padded K) (padded V) B k).1.emb (ix3 0 i l)) 1).val = 256 * k.val + i.val := by
    refine (Rect.idx_unit_val (s := S1x2048x128) (k0_off1 k) S1x256x128.size (k0_off1_inb k) (ix3 0 i l) 1).trans ?_
    rw [congrFun (off1_eq k) 1]; rfl
  have h2 : (((early Q (padded K) (padded V) B k).1.emb (ix3 0 i l)) 2) = l := by
    refine Fin.ext ((Rect.idx_unit_val (s := S1x2048x128) (k0_off1 k) S1x256x128.size (k0_off1_inb k) (ix3 0 i l) 2).trans ?_)
    rw [congrFun (off1_eq k) 2]; exact Nat.zero_add _
  unfold blockOut
  congr 1
  · exact Fin.ext (by show k.val = _ / 256; rw [h1]; omega)
  · exact Fin.ext (by show i.val = _ % 256; rw [h1]; omega)
  · exact h2.symm

theorem late_emb (Q K V : Vec Ideal S1x2048x128 .bf16) (B : Vec Ideal S2x256x768 .f32) (k : Fin k0_t2_loop.trips)
    (x : (late Q (padded K) (padded V) B k).1.shape.Idx) :
    (late Q (padded K) (padded V) B k).2 x = blockOut Q K V B ((late Q (padded K) (padded V) B k).1.emb x) := by
  obtain ⟨i, l, rfl⟩ : ∃ (i : Fin 256) (l : Fin 128), x = ix3 0 i l :=
    ⟨x 1, x 2, funext fun a => by match a with | 0 => exact Fin.ext (by have : (x 0).val < 1 := (x 0).isLt; show (x 0).val = 0; omega) | 1 => rfl | 2 => rfl⟩
  rw [late_apply]
  have h1 : (((late Q (padded K) (padded V) B k).1.emb (ix3 0 i l)) 1).val = 256 * (k.val + 2) + i.val := by
    refine (Rect.idx_unit_val (s := S1x2048x128) (k0_off3 k) S1x256x128.size (k0_off3_inb k) (ix3 0 i l) 1).trans ?_
    rw [congrFun (off3_eq k) 1]; rfl
  have h2 : (((late Q (padded K) (padded V) B k).1.emb (ix3 0 i l)) 2) = l := by
    refine Fin.ext ((Rect.idx_unit_val (s := S1x2048x128) (k0_off3 k) S1x256x128.size (k0_off3_inb k) (ix3 0 i l) 2).trans ?_)
    rw [congrFun (off3_eq k) 2]; exact Nat.zero_add _
  unfold blockOut
  congr 1
  · exact Fin.ext (by show k.val + 2 = _ / 256; rw [h1]; omega)
  · exact Fin.ext (by show i.val = _ % 256; rw [h1]; omega)
  · exact h2.symm

theorem mem_early (Q : Vec Ideal S1x2048x128 .bf16) (K V : Vec Ideal S2560x128 .bf16) (B : Vec Ideal S2x256x768 .f32) (k : Fin k0_t1_loop.trips)
    (y : S1x2048x128.Idx) (h : (y 1).val / 256 = k.val) : y ∈ (early Q K V B k).1.set := by
  refine (Rect.mem_set_unit (inb := k0_off1_inb k)).2 fun a => ?_
  rw [congrFun (off1_eq k) a]
  match a with
  | 0 => have : (y 0).val < 1 := (y 0).isLt; exact ⟨Nat.zero_le _, by show (y 0).val < 0 + 1; omega⟩
  | 1 => exact ⟨by show 256 * k.val ≤ (y 1).val; omega, by show (y 1).val < 256 * k.val + 256; omega⟩
  | 2 => have : (y 2).val < 128 := (y 2).isLt; exact ⟨Nat.zero_le _, by show (y 2).val < 0 + 128; omega⟩

theorem mem_late (Q : Vec Ideal S1x2048x128 .bf16) (K V : Vec Ideal S2560x128 .bf16) (B : Vec Ideal S2x256x768 .f32) (k : Fin k0_t2_loop.trips)
    (y : S1x2048x128.Idx) (h : (y 1).val / 256 = k.val + 2) : y ∈ (late Q K V B k).1.set := by
  refine (Rect.mem_set_unit (inb := k0_off3_inb k)).2 fun a => ?_
  rw [congrFun (off3_eq k) a]
  match a with
  | 0 => have : (y 0).val < 1 := (y 0).isLt; exact ⟨Nat.zero_le _, by show (y 0).val < 0 + 1; omega⟩
  | 1 => exact ⟨by show 256 * (k.val + 2) ≤ (y 1).val; omega, by show (y 1).val < 256 * (k.val + 2) + 256; omega⟩
  | 2 => have : (y 2).val < 128 := (y 2).isLt; exact ⟨Nat.zero_le _, by show (y 2).val < 0 + 128; omega⟩

/-! ## The padded scratch arrays -/

theorem pay13_apply (r : Fin 512) (l : Fin 128) : k0_pay13 (F := Ideal) (ix2 r l) = 0 := by
  pointwise [k0_pay13]

theorem pay14_apply (r : Fin 512) (l : Fin 128) : k0_pay14 (F := Ideal) (ix2 r l) = 0 := by
  pointwise [k0_pay14]

theorem pay15_apply (x : Vec Ideal S1x2048x128 .bf16) (r : Fin 2048) (l : Fin 128) : k0_pay15 (F := Ideal) x (ix2 r l) = x (ix3 0 r l) := by
  pointwise [k0_pay15]

theorem pay16_apply (x : Vec Ideal S1x2048x128 .bf16) (r : Fin 2048) (l : Fin 128) : k0_pay16 (F := Ideal) x (ix2 r l) = x (ix3 0 r l) := by
  pointwise [k0_pay16]

/-- What the two stores into a scratch array leave there. -/
theorem scratch_eq (w : Memref sig .tc .vmem S2560x128 .bf16) (f : BufTy.Contents (Elt Ideal) w.view.ty)
    (x : Vec Ideal S1x2048x128 .bf16) (z : FVec Ideal S512x128 .bf16) (u : FVec Ideal S2048x128 .bf16)
    (hz : ∀ r l, z (ix2 r l) = 0) (hu : ∀ r l, u (ix2 r l) = x (ix3 0 r l)) :
    w.view.read (Elt Ideal) (w.view.writes (Elt Ideal) f
      [⟨Rect.unit ![512, 0] S2048x128.size inb_S2560x128_S2048x128_512_0, u⟩,
       ⟨Rect.unit ![0, 0] S512x128.size inb_S2560x128_S512x128_0_0, z⟩]) = padded x := by
  funext y
  refine View.read_writes_apply_of_pieces w.view f (padded x) _ ?_ y ?_
  · intro p hp t
    rcases List.mem_cons.1 hp with rfl | hp
    · obtain ⟨r, l, rfl⟩ : ∃ (r : Fin 2048) (l : Fin 128), t = ix2 r l :=
        ⟨t 0, t 1, funext fun a => by match a with | 0 => rfl | 1 => rfl⟩
      refine (hu r l).trans ?_
      have h0 : (((Rect.unit (s := S2560x128) ![512, 0] S2048x128.size inb_S2560x128_S2048x128_512_0).emb (ix2 r l)) 0).val = 512 + r.val :=
        Rect.idx_unit_val _ _ _ _ 0
      have h1 : (((Rect.unit (s := S2560x128) ![512, 0] S2048x128.size inb_S2560x128_S2048x128_512_0).emb (ix2 r l)) 1) = l :=
        Fin.ext ((Rect.idx_unit_val _ _ _ _ 1).trans (Nat.zero_add _))
      show _ = padAt x _ _
      rw [h1, h0]
      unfold padAt
      rw [dif_pos (by omega)]
      exact congrArg (fun t => x (ix3 0 t l)) (Fin.ext (by show r.val = 512 + r.val - 512; omega))
    · obtain rfl := List.mem_singleton.1 hp
      obtain ⟨r, l, rfl⟩ : ∃ (r : Fin 512) (l : Fin 128), t = ix2 r l :=
        ⟨t 0, t 1, funext fun a => by match a with | 0 => rfl | 1 => rfl⟩
      refine (hz r l).trans ?_
      have h0 : (((Rect.unit (s := S2560x128) ![0, 0] S512x128.size inb_S2560x128_S512x128_0_0).emb (ix2 r l)) 0).val = r.val :=
        (Rect.idx_unit_val _ _ _ _ 0).trans (Nat.zero_add _)
      show _ = padAt x _ _
      rw [h0]
      unfold padAt
      rw [dif_neg (by omega)]
  · by_cases h : (y 0).val < 512
    · refine ⟨_, List.mem_cons_of_mem _ (List.mem_cons_self ..), (Rect.mem_set_unit (inb := inb_S2560x128_S512x128_0_0)).2 fun a => ?_⟩
      match a with
      | 0 => exact ⟨Nat.zero_le _, by show (y 0).val < 0 + 512; omega⟩
      | 1 => have : (y 1).val < 128 := (y 1).isLt; exact ⟨Nat.zero_le _, by show (y 1).val < 0 + 128; omega⟩
    · refine ⟨_, List.mem_cons_self .., (Rect.mem_set_unit (inb := inb_S2560x128_S2048x128_512_0)).2 fun a => ?_⟩
      match a with
      | 0 => have : (y 0).val < 2560 := (y 0).isLt; exact ⟨by show 512 ≤ (y 0).val; omega, by show (y 0).val < 512 + 2048; omega⟩
      | 1 => have : (y 1).val < 128 := (y 1).isLt; exact ⟨Nat.zero_le _, by show (y 1).val < 0 + 128; omega⟩

end Cert.KernelIdeal.Body
-- ==== Proof.Out.lean ====
module

public import proofs.«01_k».proof.Proof.Block

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S2x256x768 .f32) (harg5 : arg5.IsWhole)
  (arg6 : Memref sig .tc .vmem S1x2048x128 .bf16) (harg6 : arg6.IsWhole)
  (arg7 : Memref sig .tc .vmem S2560x128 .bf16) (harg7 : arg7.IsWhole)
  (arg8 : Memref sig .tc .vmem S2560x128 .bf16) (harg8 : arg8.IsWhole)

/-- The stores of one grid point: the later trips' over the early trips'. -/
theorem run_pieces {F : FTy → Type} [FloatOps F] (x0 x1 x2 : Vec F S1x2048x128 .bf16) (x3 : Vec F S2x256x768 .f32) :
    (kernelRun0_A c i arg2 harg2 arg3 harg3 arg4 harg4 arg5 harg5 arg6 harg6 arg7 harg7 arg8 harg8 x0 x1 x2 x3).1
      = pb_k0_t2 Variants.none c none i arg2 harg2 arg3 harg3 arg4 harg4 arg5 harg5 arg6 harg6 arg7 harg7 arg8 harg8 (harg2.unread x0) (harg5.unread x3)
          (arg7.view.writes (Elt F) arg7.view.junk
        [⟨Rect.unit ![512, 0] S2048x128.size inb_S2560x128_S2048x128_512_0,
            k0_pay15 (View.readAt (Elt F) arg3.view (Rect.unit ![0, 0, 0] S1x2048x128.size inb_S1x2048x128_S1x2048x128_0_0_0).toLoadRect (harg3.unread x1))⟩,
         ⟨Rect.unit ![0, 0] S512x128.size inb_S2560x128_S512x128_0_0, k0_pay13⟩])
          (arg8.view.writes (Elt F) arg8.view.junk
        [⟨Rect.unit ![512, 0] S2048x128.size inb_S2560x128_S2048x128_512_0,
            k0_pay16 (View.readAt (Elt F) arg4.view (Rect.unit ![0, 0, 0] S1x2048x128.size inb_S1x2048x128_S1x2048x128_0_0_0).toLoadRect (harg4.unread x2))⟩,
         ⟨Rect.unit ![0, 0] S512x128.size inb_S2560x128_S512x128_0_0, k0_pay14⟩]) (Scf.trips 2#32 (Scalar.addi 2#32 6#32) 1#32)
        ++ pb_k0_t1 Variants.none c none i arg2 harg2 arg3 harg3 arg4 harg4 arg5 harg5 arg6 harg6 arg7 harg7 arg8 harg8 cols (harg2.unread x0) (harg5.unread x3)
          (arg7.view.writes (Elt F) arg7.view.junk
        [⟨Rect.unit ![512, 0] S2048x128.size inb_S2560x128_S2048x128_512_0,
            k0_pay15 (View.readAt (Elt F) arg3.view (Rect.unit ![0, 0, 0] S1x2048x128.size inb_S1x2048x128_S1x2048x128_0_0_0).toLoadRect (harg3.unread x1))⟩,
         ⟨Rect.unit ![0, 0] S512x128.size inb_S2560x128_S512x128_0_0, k0_pay13⟩])
          (arg8.view.writes (Elt F) arg8.view.junk
        [⟨Rect.unit ![512, 0] S2048x128.size inb_S2560x128_S2048x128_512_0,
            k0_pay16 (View.readAt (Elt F) arg4.view (Rect.unit ![0, 0, 0] S1x2048x128.size inb_S1x2048x128_S1x2048x128_0_0_0).toLoadRect (harg4.unread x2))⟩,
         ⟨Rect.unit ![0, 0] S512x128.size inb_S2560x128_S512x128_0_0, k0_pay14⟩]) (Scf.trips 0#32 (Scalar.addi 0#32 2#32) 1#32) := by
  unfold kernelRun0_A
  dsimp only
  sl_unfold_words
  rfl

/-- One grid point writes the block of outputs of its queries, keys, values and bias. -/
theorem out_eq (x0 x1 x2 : Vec Ideal S1x2048x128 .bf16) (x3 : Vec Ideal S2x256x768 .f32) :
    out0_A_4 (F := Ideal) c i arg2 harg2 arg3 harg3 arg4 harg4 arg5 harg5 arg6 harg6 arg7 harg7 arg8 harg8 x0 x1 x2 x3 = blockOut x0 x1 x2 x3 := by
  funext y
  unfold out0_A_4
  have hv : ∀ (a : Memref sig .tc .vmem S1x2048x128 .bf16) (ha : a.IsWhole) (x : Vec Ideal S1x2048x128 .bf16),
      View.readAt (Elt Ideal) a.view (Rect.unit ![0, 0, 0] S1x2048x128.size inb_S1x2048x128_S1x2048x128_0_0_0).toLoadRect (ha.unread x) = x := by
    intro a ha x
    rw [View.readAt_eq_ld, ha.read_unread]
    exact View.ld_unit_zero (by decide) _ x
  have h7 := scratch_eq arg7 arg7.view.junk x1 k0_pay13 (k0_pay15 x1) pay13_apply (pay15_apply x1)
  have h8 := scratch_eq arg8 arg8.view.junk x2 k0_pay14 (k0_pay16 x2) pay14_apply (pay16_apply x2)
  refine View.read_writes_apply_of_pieces _ _ (blockOut x0 x1 x2 x3) _ ?_ y ?_
  · intro p hp
    rw [run_pieces, List.mem_append] at hp
    rcases hp with hp | hp
    · rw [mem_pb2 _ _ _ _ arg2 harg2 arg3 harg3 arg4 harg4 arg5 harg5 arg6 harg6 arg7 harg7 arg8 harg8 _ _ _ _ _ (by decide +kernel), harg2.read_unread, harg5.read_unread, hv arg3, hv arg4, h7, h8] at hp
      obtain ⟨k, -, rfl⟩ := hp
      exact late_emb x0 x1 x2 x3 k
    · rw [mem_pb1 _ _ _ _ arg2 harg2 arg3 harg3 arg4 harg4 arg5 harg5 arg6 harg6 arg7 harg7 arg8 harg8 _ _ _ _ _ (by decide +kernel), harg2.read_unread, harg5.read_unread, hv arg3, hv arg4, h7, h8] at hp
      obtain ⟨k, -, rfl⟩ := hp
      exact early_emb x0 x1 x2 x3 k
  · have hy : (y 1).val < 2048 := (y 1).isLt
    by_cases h : (y 1).val / 256 < 2
    · refine ⟨early x0 (padded x1) (padded x2) x3 ⟨(y 1).val / 256, by rw [trips1]; exact h⟩, ?_, mem_early _ _ _ _ _ _ rfl⟩
      rw [run_pieces, List.mem_append]
      refine Or.inr ?_
      rw [mem_pb1 _ _ _ _ arg2 harg2 arg3 harg3 arg4 harg4 arg5 harg5 arg6 harg6 arg7 harg7 arg8 harg8 _ _ _ _ _ (by decide +kernel), harg2.read_unread, harg5.read_unread, hv arg3, hv arg4, h7, h8]
      exact ⟨_, by show (y 1).val / 256 < 2; exact h, rfl⟩
    · refine ⟨late x0 (padded x1) (padded x2) x3 ⟨(y 1).val / 256 - 2, by rw [trips2]; omega⟩, ?_, mem_late _ _ _ _ _ _ (by show _ = _ / 256 - 2 + 2; omega)⟩
      rw [run_pieces, List.mem_append]
      refine Or.inl ?_
      rw [mem_pb2 _ _ _ _ arg2 harg2 arg3 harg3 arg4 harg4 arg5 harg5 arg6 harg6 arg7 harg7 arg8 harg8 _ _ _ _ _ (by decide +kernel), harg2.read_unread, harg5.read_unread, hv arg3, hv arg4, h7, h8]
      exact ⟨_, by show (y 1).val / 256 - 2 < 6; omega, rfl⟩

end Cert.KernelIdeal.Body
-- ==== Proof.Final.lean ====
module

public import proofs.«01_k».proof.Proof.Out

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen
open Idealize.ShloMosaic.Pipeline (Dat)

variable (m : (ℓ : Loc nD τ sig) → Buf (Elt Ideal) ℓ)

/-- Lane block `o` of batch `b` of the projection. -/
def laneBlock (P : Vec Ideal S16x2048x3584 .bf16) (b : Fin 16) (o : Fin 28) : Vec Ideal S1x2048x128 .bf16 :=
  fun y => P (ix3 b (y 1) ⟨o.val * 128 + (y 2).val, by have : (y 2).val < 128 := (y 2).isLt; omega⟩)

/-- The bias of head pair `p`. -/
def pairBias (B : Vec Ideal S8x256x768 .f32) (p : Fin 4) : Vec Ideal S2x256x768 .f32 :=
  fun y => B (ix3 ⟨p.val * 2 + (y 0).val, by have : (y 0).val < 2 := (y 0).isLt; omega⟩ (y 1) (y 2))

/-- The output of the attention at batch `b`, row `r` and lane `l` of pair `p`. -/
def attnAt (P : Vec Ideal S16x2048x3584 .bf16) (B : Vec Ideal S8x256x768 .f32) (b : Fin 16) (p : Fin 4) :
    Vec Ideal S1x2048x128 .bf16 :=
  blockOut (laneBlock P b ⟨p.val, by omega⟩) (laneBlock P b ⟨4 + p.val, by omega⟩) (laneBlock P b ⟨8 + p.val, by omega⟩) (pairBias B p)

/-- The output array. -/
def attn (P : Vec Ideal S16x2048x3584 .bf16) (B : Vec Ideal S8x256x768 .f32) : Vec Ideal S16x2048x512 .bf16 :=
  fun y => attnAt P B (y 0) ⟨(y 2).val / 128, by have : (y 2).val < 512 := (y 2).isLt; omega⟩ (ix3 0 (y 1) ⟨(y 2).val % 128, by omega⟩)

theorem ix0 : ∀ t : Fin grid0.N, win0_0.index t 0 = t.val / 4 ∧ win0_0.index t 1 = 0 ∧ win0_0.index t 2 = t.val % 4 := by decide +kernel
theorem ix1 : ∀ t : Fin grid0.N, win0_1.index t 0 = t.val / 4 ∧ win0_1.index t 1 = 0 ∧ win0_1.index t 2 = 4 + t.val % 4 := by decide +kernel
theorem ix2' : ∀ t : Fin grid0.N, win0_2.index t 0 = t.val / 4 ∧ win0_2.index t 1 = 0 ∧ win0_2.index t 2 = 8 + t.val % 4 := by decide +kernel
theorem ix3' : ∀ t : Fin grid0.N, win0_3.index t 0 = t.val % 4 ∧ win0_3.index t 1 = 0 ∧ win0_3.index t 2 = 0 := by decide +kernel
theorem ix4' : ∀ t : Fin grid0.N, win0_4.index t 0 = t.val / 4 ∧ win0_4.index t 1 = 0 ∧ win0_4.index t 2 = t.val % 4 := by decide +kernel
theorem pts : grid0.N = 64 := by decide +kernel
theorem flush4 : ∀ t : Fin cfg0.N, (cfg0.win 4).flush t = true := (by decide +kernel : ∀ t : Fin grid0.N, win0_4.flush t = true)
theorem xs4 : ∀ t : Fin grid0.N, win0_4.xsize (grid0.coords t) 0 = 1 ∧ win0_4.xsize (grid0.coords t) 1 = 2048 ∧ win0_4.xsize (grid0.coords t) 2 = 128 := by decide +kernel

/-- The batch of a grid point, and its pair of heads. -/
def batchOf (t : Fin cfg0.N) : Fin 16 := ⟨t.val / 4, by have := t.isLt; have : cfg0.N = 64 := pts; omega⟩
def pairOf (t : Fin cfg0.N) : Fin 4 := ⟨t.val % 4, by omega⟩

theorem blk0 (c : Dev nD) (t : Fin cfg0.N) :
    iblk m c 0 t = laneBlock (V m c main_arg0) (batchOf t) ⟨(pairOf t).val, by have := (pairOf t).isLt; omega⟩ := by
  have h := ix0 t
  funext y
  unfold iblk laneBlock
  rw [View.read_apply]
  show V m c main_arg0 _ = V m c main_arg0 _
  congr 1
  funext a
  apply Fin.ext
  have h0 : (y 0).val < 1 := (y 0).isLt
  match a with
  | ⟨0, _⟩ => show win0_0.index t 0 * 1 + 1 * (y 0).val = t.val / 4; rw [h.1]; omega
  | ⟨1, _⟩ => show win0_0.index t 1 * 2048 + 1 * (y 1).val = (y 1).val; rw [h.2.1]; omega
  | ⟨2, _⟩ => show win0_0.index t 2 * 128 + 1 * (y 2).val = t.val % 4 * 128 + (y 2).val; rw [h.2.2]; omega

theorem blk1 (c : Dev nD) (t : Fin cfg0.N) :
    iblk m c 1 t = laneBlock (V m c main_arg0) (batchOf t) ⟨4 + (pairOf t).val, by have := (pairOf t).isLt; omega⟩ := by
  have h := ix1 t
  funext y
  unfold iblk laneBlock
  rw [View.read_apply]
  show V m c main_arg0 _ = V m c main_arg0 _
  congr 1
  funext a
  apply Fin.ext
  have h0 : (y 0).val < 1 := (y 0).isLt
  match a with
  | ⟨0, _⟩ => show win0_1.index t 0 * 1 + 1 * (y 0).val = t.val / 4; rw [h.1]; omega
  | ⟨1, _⟩ => show win0_1.index t 1 * 2048 + 1 * (y 1).val = (y 1).val; rw [h.2.1]; omega
  | ⟨2, _⟩ => show win0_1.index t 2 * 128 + 1 * (y 2).val = (4 + t.val % 4) * 128 + (y 2).val; rw [h.2.2]; omega

theorem blk2 (c : Dev nD) (t : Fin cfg0.N) :
    iblk m c 2 t = laneBlock (V m c main_arg0) (batchOf t) ⟨8 + (pairOf t).val, by have := (pairOf t).isLt; omega⟩ := by
  have h := ix2' t
  funext y
  unfold iblk laneBlock
  rw [View.read_apply]
  show V m c main_arg0 _ = V m c main_arg0 _
  congr 1
  funext a
  apply Fin.ext
  have h0 : (y 0).val < 1 := (y 0).isLt
  match a with
  | ⟨0, _⟩ => show win0_2.index t 0 * 1 + 1 * (y 0).val = t.val / 4; rw [h.1]; omega
  | ⟨1, _⟩ => show win0_2.index t 1 * 2048 + 1 * (y 1).val = (y 1).val; rw [h.2.1]; omega
  | ⟨2, _⟩ => show win0_2.index t 2 * 128 + 1 * (y 2).val = (8 + t.val % 4) * 128 + (y 2).val; rw [h.2.2]; omega

theorem blk3 (c : Dev nD) (t : Fin cfg0.N) : iblk m c 3 t = pairBias (V m c main_v35) (pairOf t) := by
  have h := ix3' t
  funext y
  unfold iblk pairBias
  rw [View.read_apply]
  show V m c main_v35 _ = V m c main_v35 _
  congr 1
  funext a
  apply Fin.ext
  match a with
  | ⟨0, _⟩ => show win0_3.index t 0 * 2 + 1 * (y 0).val = t.val % 4 * 2 + (y 0).val; rw [h.1]; omega
  | ⟨1, _⟩ => show win0_3.index t 1 * 256 + 1 * (y 1).val = (y 1).val; rw [h.2.1]; omega
  | ⟨2, _⟩ => show win0_3.index t 2 * 768 + 1 * (y 2).val = (y 2).val; rw [h.2.2]; omega

/-- What a grid point writes back is its block of the output array. -/
theorem flushed_eq (c : Dev nD) (t : Fin cfg0.N) :
    (dats m 0 c).flushed 4 t = ((cfg0.win 4).blk t).view.read (Elt Ideal) (attn (V m c main_arg0) (V m c main_v35)) := by
  rw [Cert.KernelIdeal.Value.flushed4_A, out_eq, blk0, blk1, blk2, blk3]
  have h := ix4' t
  have hN : t.val < 64 := pts ▸ t.isLt
  funext y
  rw [View.read_apply]
  have h0 : (y 0).val < 1 := (y 0).isLt
  have h1 : (y 1).val < 2048 := (y 1).isLt
  have h2 : (y 2).val < 128 := (y 2).isLt
  show attnAt (V m c main_arg0) (V m c main_v35) (batchOf t) (pairOf t) y = attn (V m c main_arg0) (V m c main_v35) (((cfg0.win 4).blk t).view.emb y)
  have e0 : ((((cfg0.win 4).blk t).view.emb y) 0).val = t.val / 4 := by
    show win0_4.index t 0 * 1 + 1 * (y 0).val = t.val / 4; rw [h.1]; omega
  have e1 : ((((cfg0.win 4).blk t).view.emb y) 1).val = (y 1).val := by
    show win0_4.index t 1 * 2048 + 1 * (y 1).val = _; rw [h.2.1]; omega
  have e2 : ((((cfg0.win 4).blk t).view.emb y) 2).val = t.val % 4 * 128 + (y 2).val := by
    show win0_4.index t 2 * 128 + 1 * (y 2).val = _; rw [h.2.2]; omega
  unfold attn
  congr 1
  · exact Fin.ext e0.symm
  · exact Fin.ext (by show t.val % 4 = _ / 128; rw [e2]; omega)
  · funext a
    apply Fin.ext
    match a with
    | ⟨0, _⟩ => show (y 0).val = 0; omega
    | ⟨1, _⟩ => exact e1.symm
    | ⟨2, _⟩ => show (y 2).val = _ % 128; rw [e2]; omega

theorem final_eq (c : Dev nD) : (dats m 0 c).arrAt 4 cfg0.N = attn (V m c main_arg0) (V m c main_v35) :=
  (dats m 0 c).arrAt_eq_of_cover 4 _ (fun t _ => flushed_eq m c t) fun i => by
    have h0 : (i 0 : Nat) < 16 := (i 0).isLt
    have h1 : (i 1 : Nat) < 2048 := (i 1).isLt
    have h2 : (i 2 : Nat) < 512 := (i 2).isLt
    have hN : cfg0.N = 64 := pts
    let t : Fin cfg0.N := ⟨(i 0).val * 4 + (i 2).val / 128, by omega⟩
    refine ⟨t, flush4 t, ?_⟩
    have h := ix4' t
    have hx := xs4 t
    have ht : t.val = (i 0).val * 4 + (i 2).val / 128 := rfl
    show i ∈ ((View.whole main_v36).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + win0_4.xsize (grid0.coords t) 0
                rw [h.1, hx.1]; omega
    | ⟨1, _⟩ => show win0_4.index t 1 * 2048 ≤ (i 1 : Nat) ∧ (i 1 : Nat) < win0_4.index t 1 * 2048 + win0_4.xsize (grid0.coords t) 1
                rw [h.2.1, hx.2.1]; omega
    | ⟨2, _⟩ => show win0_4.index t 2 * 128 ≤ (i 2 : Nat) ∧ (i 2 : Nat) < win0_4.index t 2 * 128 + win0_4.xsize (grid0.coords t) 2
                rw [h.2.2, hx.2.2]; omega

end Cert.KernelIdeal.Body
-- ==== Proof.Bias.lean ====
module

public import proofs.«01_k».proof.Proof.Final
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

/-- The table of biases with its two end columns repeated on either side. -/
def wide (R : Vec Ideal S8x257 .f32) : Vec Ideal S8x1023 .f32 :=
  concatenate S8x1023 1 [⟨S8x127, broadcastInDim S8x127 ![0, 1] bcast_S8x1_S8x127_0_1 (extractStridedSlice S8x1 ![0, 0] R slices_S8x257_S8x1_0_0)⟩,
    ⟨S8x257, R⟩, ⟨S8x639, broadcastInDim S8x639 ![0, 1] bcast_S8x1_S8x639_0_1 (extractStridedSlice S8x1 ![0, 256] R slices_S8x257_S8x1_0_256)⟩]
    concatenates_S8x127_S8x257_S8x639_S8x1023_d1

/-- The widened table turned round, so that each row of the strip is the row above it moved by one. -/
def ring (W : Vec Ideal S8x1023 .f32) : Vec Ideal S8x1024 .f32 :=
  concatenate S8x1024 1 [⟨S8x768, Host.reverse [1] (extractStridedSlice S8x768 ![0, 0] W slices_S8x1023_S8x768_0_0)⟩,
    ⟨S8x1, extractStridedSlice S8x1 ![0, 0] W slices_S8x1023_S8x1_0_0⟩,
    ⟨S8x255, Host.reverse [1] (extractStridedSlice S8x255 ![0, 768] W slices_S8x1023_S8x255_0_768)⟩]
    concatenates_S8x768_S8x1_S8x255_S8x1024_d1

/-- The ring repeated once per query row. -/
def rings (G : Vec Ideal S8x1024 .f32) : Vec Ideal S8x262144 .f32 :=
  shapeCast S8x262144 (broadcastInDim S1x8x256x1024 ![0, 1, 2, 3] bcast_S1x8x1x1024_S1x8x256x1024_0_1_2_3 (shapeCast S1x8x1x1024 G shapeCasts_S8x1024_S1x8x1x1024))
    shapeCasts_S1x8x256x1024_S8x262144

/-- The repeated ring cut into rows one entry shorter than the ring. -/
def strip (G : Vec Ideal S8x262144 .f32) : Vec Ideal S8x256x768 .f32 :=
  extractStridedSlice S8x256x768 ![0, 0, 0]
    (shapeCast S8x256x1023 (extractStridedSlice S8x261888 ![0, 0] G slices_S8x262144_S8x261888_0_0) shapeCasts_S8x261888_S8x256x1023)
    slices_S8x256x1023_S8x256x768_0_0_0

/-- Division of row numbers by a word, rounding down. -/
def fdivCol (x : Vec Ideal S256x1 .i32) (k : Vec Ideal S_ .i32) : Vec Ideal S256x1 .i32 :=
  select (andi (cmpi .ne (signi x) (broadcastInDim S256x1 ![] bcast_S_S256x1 (signi k)))
      (cmpi .ne (Host.remsi x (broadcastInDim S256x1 ![] bcast_S_S256x1 k)) (broadcastInDim S256x1 ![] bcast_S_S256x1 (constantI S_ 32 0#32))))
    (subi (Host.divsi x (broadcastInDim S256x1 ![] bcast_S_S256x1 k)) (broadcastInDim S256x1 ![] bcast_S_S256x1 (constantI S_ 32 1#32)))
    (Host.divsi x (broadcastInDim S256x1 ![] bcast_S_S256x1 k))

/-- Division of column numbers by a word, rounding down. -/
def fdivRow (x : Vec Ideal S1x768 .i32) (k : Vec Ideal S_ .i32) : Vec Ideal S1x768 .i32 :=
  select (andi (cmpi .ne (signi x) (broadcastInDim S1x768 ![] bcast_S_S1x768 (signi k)))
      (cmpi .ne (Host.remsi x (broadcastInDim S1x768 ![] bcast_S_S1x768 k)) (broadcastInDim S1x768 ![] bcast_S_S1x768 (constantI S_ 32 0#32))))
    (subi (Host.divsi x (broadcastInDim S1x768 ![] bcast_S_S1x768 k)) (broadcastInDim S1x768 ![] bcast_S_S1x768 (constantI S_ 32 1#32)))
    (Host.divsi x (broadcastInDim S1x768 ![] bcast_S_S1x768 k))

/-- The query chunk of each row. -/
def qChunk : Vec Ideal S256x1 .i32 :=
  addi (fdivCol (broadcastInDim S256x1 ![0] bcast_S256_S256x1_0 (iotaInDim S256 32 0)) (constantI S_ 32 64#32))
    (broadcastInDim S256x1 ![] bcast_S_S256x1 (constantI S_ 32 8#32))

/-- The key chunk of each column. -/
def kChunk : Vec Ideal S1x768 .i32 :=
  fdivRow (broadcastInDim S1x768 ![1] bcast_S768_S1x768_1 (iotaInDim S768 32 0)) (constantI S_ 32 64#32)

/-- Which columns each row sees, from the chunks. -/
def inBand (q : Vec Ideal S256x1 .i32) (k : Vec Ideal S1x768 .i32) : Vec Ideal S1x256x768 .i1 :=
  broadcastInDim S1x256x768 ![1, 2] bcast_S256x768_S1x256x768_1_2
    (andi (cmpi .sle (broadcastInDim S256x768 ![0, 1] bcast_S1x768_S256x768_0_1 k) (broadcastInDim S256x768 ![0, 1] bcast_S256x1_S256x768_0_1 q))
      (cmpi .sge (broadcastInDim S256x768 ![0, 1] bcast_S1x768_S256x768_0_1 k)
        (broadcastInDim S256x768 ![0, 1] bcast_S256x1_S256x768_0_1 (subi q (broadcastInDim S256x1 ![] bcast_S_S256x1 (constantI S_ 32 8#32))))))

/-- The strip where the band allows, minus infinity elsewhere. -/
def keep (b : Vec Ideal S1x256x768 .i1) (s : Vec Ideal S8x256x768 .f32) : Vec Ideal S8x256x768 .f32 :=
  select (broadcastInDim S8x256x768 ![0, 1, 2] bcast_S1x256x768_S8x256x768_0_1_2 b) s
    (broadcastInDim S8x256x768 ![] bcast_S_S8x256x768 (constant (F := Ideal) S_ .f32 0xFF800000#32))

section Reads
variable (W : Valuation τ sig (Elt Ideal))

theorem ops5 : StableHlo.after (hostOps0_5 (F := Ideal)) W main_v35 =
    select (broadcastInDim S8x256x768 ![0, 1, 2] bcast_S1x256x768_S8x256x768_0_1_2 (W main_v34)) (W main_v20 : Vec Ideal S8x256x768 .f32)
      (broadcastInDim S8x256x768 ![] bcast_S_S8x256x768 (W main_cst)) := by
  after_results
  rfl
theorem ops4_mask : StableHlo.after (hostOps0_4 (F := Ideal)) W main_v34 = inBand (W main_v23) (W main_v24) := by
  after_results
  rfl
theorem ops4_cst : StableHlo.after (hostOps0_4 (F := Ideal)) W main_cst = constant (F := Ideal) S_ .f32 0xFF800000#32 := by
  after_results
theorem ops4_strip : StableHlo.after (hostOps0_4 (F := Ideal)) W main_v20 = W main_v20 := by
  after_results
theorem ops3_k : StableHlo.after (hostOps0_3 (F := Ideal)) W main_v24 = fdivRow (W main_v3) (W main_c_1) := by
  after_results
  rfl
theorem ops3_q : StableHlo.after (hostOps0_3 (F := Ideal)) W main_v23 = W main_v23 := by
  after_results
theorem ops3_strip : StableHlo.after (hostOps0_3 (F := Ideal)) W main_v20 = W main_v20 := by
  after_results
theorem ops2_q : StableHlo.after (hostOps0_2 (F := Ideal)) W main_v23 =
    addi (W main_v21 : Vec Ideal S256x1 .i32) (broadcastInDim S256x1 ![] bcast_S_S256x1 (constantI S_ 32 8#32)) := by
  after_results
theorem ops2_c : StableHlo.after (hostOps0_2 (F := Ideal)) W main_c_1 = constantI S_ 32 64#32 := by
  after_results
theorem ops2_k : StableHlo.after (hostOps0_2 (F := Ideal)) W main_v3 = W main_v3 := by
  after_results
theorem ops2_strip : StableHlo.after (hostOps0_2 (F := Ideal)) W main_v20 = W main_v20 := by
  after_results
theorem ops1_q : StableHlo.after (hostOps0_1 (F := Ideal)) W main_v21 = fdivCol (W main_v1) (W main_c) := by
  after_results
  rfl
theorem ops1_k : StableHlo.after (hostOps0_1 (F := Ideal)) W main_v3 = W main_v3 := by
  after_results
theorem ops1_strip : StableHlo.after (hostOps0_1 (F := Ideal)) W main_v20 = W main_v20 := by
  after_results
theorem ops0_q : StableHlo.after (hostOps0 (F := Ideal)) W main_v1 = broadcastInDim S256x1 ![0] bcast_S256_S256x1_0 (iotaInDim S256 32 0) := by
  after_results
theorem ops0_k : StableHlo.after (hostOps0 (F := Ideal)) W main_v3 = broadcastInDim S1x768 ![1] bcast_S768_S1x768_1 (iotaInDim S768 32 0) := by
  after_results
theorem ops0_c : StableHlo.after (hostOps0 (F := Ideal)) W main_c = constantI S_ 32 64#32 := by
  after_results
theorem ops0_strip : StableHlo.after (hostOps0 (F := Ideal)) W main_v20 = strip (rings (ring (wide (W main_arg1)))) := by
  after_results
  rfl

end Reads

/-- The bias array the region finds. -/
theorem V_bias (m : (ℓ : Loc nD τ sig) → Buf (Elt Ideal) ℓ) (c : Dev nD) :
    V m c main_v35 = keep (inBand qChunk kChunk) (strip (rings (ring (wide (m ((c : Thread nD τ).loc main_arg1)))))) := by
  unfold V
  simp only [List.flatten_cons, List.flatten_nil, List.append_nil, StableHlo.after_append]
  rw [ops5, ops4_mask, ops4_cst, ops4_strip, ops3_k, ops3_q, ops3_strip, ops2_q, ops2_c, ops2_k, ops2_strip, ops1_q, ops1_k, ops1_strip,
    ops0_q, ops0_k, ops0_c, ops0_strip]
  rfl

end Cert.KernelIdeal.Body
-- ==== Proof.BiasAt.lean ====
module

public import proofs.«01_k».proof.Proof.Bias
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

theorem wide_apply (R : Vec Ideal S8x257 .f32) (h : Fin 8) (n : Fin 1023) :
    wide R (ix2 h n) = R (ix2 h ⟨min 256 (n.val - 127), by omega⟩) := by
  pointwise [wide]
  by_cases h1 : n.val < 127
  · rw [dif_pos h1]; congr 2; apply Fin.ext; show 0 = min 256 (n.val - 127); omega
  · rw [dif_neg h1]
    by_cases h2 : n.val - 127 < 257
    · rw [dif_pos h2]; congr 2; apply Fin.ext; show n.val - 127 = min 256 (n.val - 127); omega
    · rw [dif_neg h2]; congr 2; apply Fin.ext; show 256 = min 256 (n.val - 127); omega

theorem ring_apply (G : Vec Ideal S8x1023 .f32) (h : Fin 8) (n : Fin 1024) :
    ring G (ix2 h n) = G (ix2 h ⟨if n.val < 768 then 767 - n.val else if n.val = 768 then 0 else 1791 - n.val, by split_ifs <;> omega⟩) := by
  pointwise [ring]
  by_cases h1 : n.val < 768
  · rw [dif_pos h1]
    refine congrArg G (congrArg₂ ix2 rfl (Fin.ext ?_))
    show 768 - (n.val + 1) = if n.val < 768 then 767 - n.val else if n.val = 768 then 0 else 1791 - n.val
    rw [if_pos h1]; omega
  · rw [dif_neg h1]
    by_cases h2 : n.val - 768 < 1
    · rw [dif_pos h2]
      refine congrArg G (congrArg₂ ix2 rfl (Fin.ext ?_))
      show n.val - 768 = if n.val < 768 then 767 - n.val else if n.val = 768 then 0 else 1791 - n.val
      split_ifs <;> omega
    · rw [dif_neg h2]
      refine congrArg G (congrArg₂ ix2 rfl (Fin.ext ?_))
      show 768 + (255 - (n.val - 768 - 1 + 1)) = if n.val < 768 then 767 - n.val else if n.val = 768 then 0 else 1791 - n.val
      split_ifs <;> omega

theorem rings_apply (G : Vec Ideal S8x1024 .f32) (h : Fin 8) (n : Fin 262144) :
    rings G (ix2 h n) = G (ix2 h ⟨n.val % 1024, by omega⟩) := by
  pointwise [rings]

theorem strip_apply (G : Vec Ideal S8x262144 .f32) (h : Fin 8) (i : Fin 256) (j : Fin 768) :
    strip G (ix3 h i j) = G (ix2 h ⟨i.val * 1023 + j.val, by omega⟩) := by
  pointwise [strip]

theorem qChunk_apply (i : Fin 256) : qChunk (ix2 i 0) = BitVec.ofNat 32 (i.val / 64 + 8) := by
  pointwise [qChunk, fdivCol]
  revert i
  decide +kernel

theorem kChunk_apply (j : Fin 768) : kChunk (ix2 0 j) = BitVec.ofNat 32 (j.val / 64) := by
  pointwise [kChunk, fdivRow]
  revert j
  decide +kernel

theorem inBand_apply (q : Vec Ideal S256x1 .i32) (k : Vec Ideal S1x768 .i32) (i : Fin 256) (j : Fin 768) :
    inBand q k (ix3 0 i j) = IntOp.andi (IntOp.cmpi .sle (k (ix2 0 j)) (q (ix2 i 0)))
      (IntOp.cmpi .sge (k (ix2 0 j)) (IntOp.subi (q (ix2 i 0)) 8#32)) := by
  pointwise [inBand]

/-- The band's word for a query chunk and a key chunk. -/
theorem band_word : ∀ (a : Fin 4) (k : Fin 12), IntOp.andi (IntOp.cmpi .sle (BitVec.ofNat 32 k.val) (BitVec.ofNat 32 (a.val + 8)))
      (IntOp.cmpi .sge (BitVec.ofNat 32 k.val) (IntOp.subi (BitVec.ofNat 32 (a.val + 8)) 8#32))
      = if a.val ≤ k.val ∧ k.val ≤ a.val + 8 then 1#1 else 0#1 := by
  decide +kernel

theorem keep_apply (b : Vec Ideal S1x256x768 .i1) (s : Vec Ideal S8x256x768 .f32) (h : Fin 8) (i : Fin 256) (j : Fin 768) :
    keep b s (ix3 h i j) = Scalar.select (b (ix3 0 i j)) (s (ix3 h i j)) (Ideal.ofBits .f32 0xFF800000#32) := by
  pointwise [keep]

/-- The bias of head `h`, query row `i` of a block and key column `j` of its window. -/
def biasOf (R : Vec Ideal S8x257 .f32) (h : Fin 8) (i j : ℕ) : EReal :=
  if 64 * (i / 64) ≤ j ∧ j < 64 * (i / 64) + 576 then R (ix2 h ⟨min 256 (640 + i - j), by omega⟩) else Ideal.ofBits .f32 0xFF800000#32

theorem bias_apply (R : Vec Ideal S8x257 .f32) (h : Fin 8) (i : Fin 256) (j : Fin 768) :
    keep (inBand qChunk kChunk) (strip (rings (ring (wide R)))) (ix3 h i j) = biasOf R h i.val j.val := by
  rw [keep_apply, inBand_apply, qChunk_apply, kChunk_apply]
  have hb := band_word ⟨i.val / 64, by omega⟩ ⟨j.val / 64, by omega⟩
  rw [show BitVec.ofNat 32 (j.val / 64) = BitVec.ofNat 32 (⟨j.val / 64, by omega⟩ : Fin 12).val from rfl,
    show BitVec.ofNat 32 (i.val / 64 + 8) = BitVec.ofNat 32 ((⟨i.val / 64, by omega⟩ : Fin 4).val + 8) from rfl, hb]
  rw [strip_apply, rings_apply, ring_apply, wide_apply]
  unfold biasOf
  by_cases hin : 64 * (i.val / 64) ≤ j.val ∧ j.val < 64 * (i.val / 64) + 576
  · rw [if_pos (by show i.val / 64 ≤ j.val / 64 ∧ j.val / 64 ≤ i.val / 64 + 8; omega), if_pos hin, select_one]
    congr 2
    apply Fin.ext
    show min 256 ((if (i.val * 1023 + j.val) % 1024 < 768 then 767 - (i.val * 1023 + j.val) % 1024
      else if (i.val * 1023 + j.val) % 1024 = 768 then 0 else 1791 - (i.val * 1023 + j.val) % 1024) - 127) = min 256 (640 + i.val - j.val)
    split_ifs <;> omega
  · rw [if_neg (by show ¬ (i.val / 64 ≤ j.val / 64 ∧ j.val / 64 ≤ i.val / 64 + 8); omega), if_neg hin, select_zero]

end Cert.KernelIdeal.Body
-- ==== Proof.Ref.lean ====
module

public import proofs.«01_k».proof.Proof.Gen.ReferenceIdeal.Read
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.SL Idealize.SL.Sem
open Cert.ReferenceIdeal Cert.ReferenceIdeal.Gen Cert.ReferenceIdeal.Read

variable (x0 : Vec Ideal S16x2048x3584 .bf16) (x1 : Vec Ideal S8x257 .f32)
variable (b : Fin 16) (c : Fin 32) (i : Fin 64) (h : Fin 8) (x : Fin 64) (j : Fin 576)

theorem v39_at : val_main_v39 (F := Ideal) x0 (ix5 b c i h x) = x0 (ix3 b ⟨c.val * 64 + i.val, by omega⟩ ⟨h.val * 64 + x.val, by omega⟩) := by
  pointwise [val_main_v39, val_main_v5, val_main_v2, val_main_v1, val_main_v0]

/-- Row `r` of a padded array whose columns begin at `o`: 512 rows of zeros, then the rows of the argument. -/
def padRow (x0 : Vec Ideal S16x2048x3584 .bf16) (b : Fin 16) (r : ℕ) (o : ℕ) : EReal :=
  if q : 512 ≤ r ∧ r < 2560 ∧ o < 3584 then x0 (ix3 b ⟨r - 512, by omega⟩ ⟨o, q.2.2⟩) else 0

theorem v28_at (r : Fin 2560) : val_main_v28 (F := Ideal) x0 (ix4 b r h x) = padRow x0 b r.val (512 + (h.val * 64 + x.val)) := by
  pointwise [val_main_v28, val_main_v27, val_main_cst, val_main_v6, val_main_v3, val_main_v1, val_main_v0]
  unfold padRow
  by_cases q : r.val < 512
  · rw [dif_pos q, dif_neg (by omega)]
  · rw [dif_neg q, dif_pos (by omega)]

theorem v29_at (r : Fin 2560) : val_main_v29 (F := Ideal) x0 (ix4 b r h x) = padRow x0 b r.val (1024 + (h.val * 64 + x.val)) := by
  pointwise [val_main_v29, val_main_v27, val_main_cst, val_main_v7, val_main_v4, val_main_v1, val_main_v0]
  unfold padRow
  by_cases q : r.val < 512
  · rw [dif_pos q, dif_neg (by omega)]
  · rw [dif_neg q, dif_pos (by omega)]

theorem row_word (c j : ℕ) : IntOp.addi (IntOp.muli (BitVec.ofNat 32 c) 64#32) (BitVec.ofNat 32 j) = BitVec.ofNat 32 (c * 64 + j) := by
  show BitVec.ofNat 32 c * BitVec.ofNat 32 64 + BitVec.ofNat 32 j = _
  rw [← BitVec.ofNat_mul, ← BitVec.ofNat_add]

theorem row_at1 : val_main_call1_v0 (F := Ideal) (ix3 c j 0) = BitVec.ofNat 32 (c.val * 64 + j.val) := by
  pointwise [val_main_call1_v0, val_main_v38, val_main_v37, val_main_v36, val_main_v35, val_main_v34, val_main_v33, val_main_v32, val_main_v31, val_main_v30, val_main_c_5]
  exact row_word _ _
theorem row_at2 : val_main_call2_v0 (F := Ideal) (ix3 c j 0) = BitVec.ofNat 32 (c.val * 64 + j.val) := by
  pointwise [val_main_call2_v0, val_main_v38, val_main_v37, val_main_v36, val_main_v35, val_main_v34, val_main_v33, val_main_v32, val_main_v31, val_main_v30, val_main_c_5]
  exact row_word _ _

theorem clip_word : ∀ n : Fin 640, IntOp.minsi 128#32 (IntOp.maxsi 4294967168#32 (IntOp.subi (BitVec.ofNat 32 n.val) 64#32))
    = IntOp.subi (BitVec.ofNat 32 (min 256 (64 + n.val))) 128#32 := by
  decide +kernel
theorem wrap_word : ∀ n : Fin 257, Scalar.select (IntOp.cmpi CmpIPredicate.slt (IntOp.addi (IntOp.subi (BitVec.ofNat 32 n.val) 128#32) 128#32) 0#32)
    (IntOp.addi (IntOp.addi (IntOp.subi (BitVec.ofNat 32 n.val) 128#32) 128#32) 257#32)
    (IntOp.addi (IntOp.subi (BitVec.ofNat 32 n.val) 128#32) 128#32) = BitVec.ofNat 32 n.val := by
  decide +kernel
theorem dist_word (i j n : ℕ) (hi : i < 64) (hj : j < 576) (hn : n + j = 576 + i) :
    IntOp.subi (IntOp.addi (512#32) (BitVec.ofNat 32 i)) (BitVec.ofNat 32 j) = IntOp.subi (BitVec.ofNat 32 n) 64#32 := by
  show BitVec.ofNat 32 512 + BitVec.ofNat 32 i - BitVec.ofNat 32 j = BitVec.ofNat 32 n - BitVec.ofNat 32 64
  apply BitVec.eq_of_toNat_eq
  simp only [BitVec.toNat_sub, BitVec.toNat_add, BitVec.toNat_ofNat]
  omega
theorem v17_at : val_main_v17 (F := Ideal) (ix2 i j) = IntOp.subi (BitVec.ofNat 32 (min 256 (640 + i.val - j.val))) 128#32 := by
  pointwise [val_main_v17, val_main_call0_v4, val_main_call0_v3, val_main_call0_v2, val_main_call0_v1, val_main_call0_v0, val_main_c_0, val_main_c_1, val_main_v16, val_main_v15, val_main_v14, val_main_v13, val_main_v12, val_main_v11, val_main_v10, val_main_v9, val_main_v8, val_main_c]
  rw [dist_word i.val j.val (576 + i.val - j.val) i.isLt j.isLt (by omega)]
  refine (clip_word ⟨576 + i.val - j.val, by omega⟩).trans ?_
  show IntOp.subi (BitVec.ofNat 32 (min 256 (64 + (576 + i.val - j.val)))) 128#32 = _
  rw [show 64 + (576 + i.val - j.val) = 640 + i.val - j.val by omega]
theorem v25_at : val_main_v25 (F := Ideal) (ix3 i j 0) = BitVec.ofNat 32 (min 256 (640 + i.val - j.val)) := by
  pointwise [val_main_v25, val_main_v24, val_main_v23, val_main_v22, val_main_c_4, val_main_v21, val_main_v20, val_main_c_3, val_main_v19, val_main_v18, val_main_c_2]
  rw [v17_at]
  exact wrap_word ⟨min 256 (640 + i.val - j.val), by omega⟩
theorem valid_word : ∀ (c : Fin 32) (j : Fin 576), IntOp.cmpi CmpIPredicate.sge (BitVec.ofNat 32 j.val) (IntOp.muli (IntOp.subi (8#32) (BitVec.ofNat 32 c.val)) 64#32) =
    if 512 ≤ j.val + 64 * c.val then 1#1 else 0#1 := by
  decide +kernel
theorem v56_at : val_main_v56 (F := Ideal) (ix2 c j) = if 512 ≤ j.val + 64 * c.val then 1#1 else 0#1 := by
  pointwise [val_main_v56, val_main_v55, val_main_v54, val_main_v53, val_main_v52, val_main_c_8, val_main_v51, val_main_v50, val_main_c_7, val_main_v49, val_main_v48, val_main_v31, val_main_v30]
  exact valid_word c j

/-- The score of query row `i` of chunk `c` against key `j` of the chunk's window. -/
def refScore (x0 : Vec Ideal S16x2048x3584 .bf16) (x1 : Vec Ideal S8x257 .f32) (b : Fin 16) (c : Fin 32) (h : Fin 8) (i : Fin 64) (j : Fin 576) : EReal :=
  Scalar.select (if 512 ≤ j.val + 64 * c.val then 1#1 else 0#1)
    ((∑ x : Fin 64, x0 (ix3 b ⟨c.val * 64 + i.val, by omega⟩ ⟨h.val * 64 + x.val, by omega⟩) * padRow x0 b (c.val * 64 + j.val) (512 + (h.val * 64 + x.val)))
      * Ideal.ofBits .f32 1040187392#32 + x1 (ix2 h ⟨min 256 (640 + i.val - j.val), by omega⟩))
    (Ideal.ofBits .f32 4286578688#32)

/-- Rows taken from the second axis of a rank-4 array, one row index per chunk and key. -/
theorem take_rows {α : Type} (y : S16x2560x8x64.Idx → α) (idx : IVec S32x576x1 32) (n : Fin 2560) (hn : idx (ix3 c j 0) = BitVec.ofNat 32 n.val) :
    Host.gather gather_S16x2560x8x64_S32x576x1_S16x32x576x8x64_034_1_n_n_1_2_161864 y idx (ix5 b c j h x) = y (ix4 b n h x) := by
  unfold Host.gather
  congr 1
  funext a
  refine Fin.ext ?_
  show gather_S16x2560x8x64_S32x576x1_S16x32x576x8x64_034_1_n_n_1_2_161864.start (ix5 b c j h x) idx a
    + gather_S16x2560x8x64_S32x576x1_S16x32x576x8x64_034_1_n_n_1_2_161864.batchCoord (ix5 b c j h x) a
    + gather_S16x2560x8x64_S32x576x1_S16x32x576x8x64_034_1_n_n_1_2_161864.offCoord (ix5 b c j h x) a = _
  rw [GatherDims.batchCoord_eq_zero _ _ _ List.not_mem_nil]
  fin_cases a
  · exact Nat.zero_add _
  · rw [GatherDims.offCoord_eq_zero _ _ _ (fun h => ((GatherDims.mem_sKept _ _).mp h).1 (List.mem_singleton.mpr rfl))]
    simp only [Nat.add_zero]
    unfold GatherDims.start
    rw [dif_pos (by exact List.mem_singleton.mpr rfl)]
    have hsi : ∀ q, gather_S16x2560x8x64_S32x576x1_S16x32x576x8x64_034_1_n_n_1_2_161864.siIdx (ix5 b c j h x) q = ix3 c j 0 := by
      intro q; funext e; refine Fin.ext ?_
      fin_cases e
      · rfl
      · rfl
      · show q.val = 0
        have : q.val < 1 := q.isLt
        omega
    rw [hsi, hn]
    show min (BitVec.ofNat 32 n.val).toInt.toNat 2559 = n.val
    rw [BitVec.toInt_ofNat', Int.bmod_eq_of_le (by omega) (by omega)]
    omega
  · exact Nat.zero_add _
  · exact Nat.zero_add _

theorem take_at1 : val_main_v40 (F := Ideal) x0 (ix5 b c j h x) = val_main_v28 (F := Ideal) x0 (ix4 b ⟨c.val * 64 + j.val, by omega⟩ h x) := by
  unfold val_main_v40
  exact take_rows b c h x j _ _ ⟨c.val * 64 + j.val, by omega⟩ (row_at1 c j)
theorem take_at2 : val_main_v41 (F := Ideal) x0 (ix5 b c j h x) = val_main_v29 (F := Ideal) x0 (ix4 b ⟨c.val * 64 + j.val, by omega⟩ h x) := by
  unfold val_main_v41
  exact take_rows b c h x j _ _ ⟨c.val * 64 + j.val, by omega⟩ (row_at2 c j)

theorem v26_at : val_main_v26 (F := Ideal) x1 (ix3 h i j) = x1 (ix2 h ⟨min 256 (640 + i.val - j.val), by omega⟩) := by
  unfold val_main_v26 Host.gather
  congr 1
  funext a
  refine Fin.ext ?_
  show gather_S8x257_S64x576x1_S8x64x576_0_1_n_n_1_2_81.start (ix3 h i j) val_main_v25 a
    + gather_S8x257_S64x576x1_S8x64x576_0_1_n_n_1_2_81.batchCoord (ix3 h i j) a
    + gather_S8x257_S64x576x1_S8x64x576_0_1_n_n_1_2_81.offCoord (ix3 h i j) a = _
  rw [GatherDims.batchCoord_eq_zero _ _ _ List.not_mem_nil]
  fin_cases a
  · exact Nat.zero_add _
  · rw [GatherDims.offCoord_eq_zero _ _ _ (fun h => ((GatherDims.mem_sKept _ _).mp h).1 (List.mem_singleton.mpr rfl))]
    simp only [Nat.add_zero]
    unfold GatherDims.start
    rw [dif_pos (by exact List.mem_singleton.mpr rfl)]
    have hsi : ∀ q, gather_S8x257_S64x576x1_S8x64x576_0_1_n_n_1_2_81.siIdx (ix3 h i j) q = ix3 i j 0 := by
      intro q; funext e; refine Fin.ext ?_
      fin_cases e
      · rfl
      · rfl
      · show q.val = 0
        have : q.val < 1 := q.isLt
        omega
    rw [hsi, v25_at]
    show min (BitVec.ofNat 32 (min 256 (640 + i.val - j.val))).toInt.toNat 256 = min 256 (640 + i.val - j.val)
    rw [BitVec.toInt_ofNat', Int.bmod_eq_of_le (by omega) (by omega)]
    omega

theorem v47_at : val_main_v47 (F := Ideal) x0 x1 (ix5 b c h i j) =
    (∑ x, val_main_v39 (F := Ideal) x0 (ix5 b c i h x) * val_main_v40 (F := Ideal) x0 (ix5 b c j h x)) * Ideal.ofBits FTy.f32 1040187392#32 +
      val_main_v26 (F := Ideal) x1 (ix3 h i j) := by
  pointwise [val_main_v47, val_main_v46, val_main_v45, val_main_v44, val_main_v43, val_main_cst_6, val_main_v42]
theorem v58_at : val_main_v58 (F := Ideal) x0 x1 (ix5 b c h i j) = refScore x0 x1 b c h i j := by
  pointwise [val_main_v58, val_main_call3_v1, val_main_call3_v2, val_main_call3_v0, val_main_cst_9, val_main_v57]
  rw [v56_at, v47_at]
  simp only [v39_at, take_at1, v28_at, v26_at]
  rfl
theorem v59_at : val_main_v59 (F := Ideal) x0 x1 (ix4 b c h i) = Finset.univ.fold max (Ideal.ofBits .f32 4286578688#32) (fun j => refScore x0 x1 b c h i j) := by
  pointwise [val_main_v59]
  simp only [v58_at]
  rfl
theorem v65_at : val_main_v65 (F := Ideal) x0 x1 (ix5 b c h i j) =
    Ideal.exp (refScore x0 x1 b c h i j - max (Ideal.ofBits .f32 4286578688#32) (Finset.univ.fold max (Ideal.ofBits .f32 4286578688#32) (fun j => refScore x0 x1 b c h i j))) := by
  rw [val_main_v65_apply, val_main_v64_apply, v58_at, val_main_v63_apply, val_main_v62_apply, val_main_v61_apply, val_main_v60_apply,
    show idx_main_v62 (idx_main_v63 (ix5 b c h i j)) = ix4 b c h i from funext fun a => by fin_cases a <;> rfl, v59_at]
  rfl
theorem v69_at : val_main_v69 (F := Ideal) x0 x1 (ix5 b c h i j) =
    Ideal.div (val_main_v65 (F := Ideal) x0 x1 (ix5 b c h i j)) (∑ y, val_main_v65 (F := Ideal) x0 x1 (ix5 b c h i y)) := by
  pointwise [val_main_v69, val_main_v68, val_main_v67, val_main_v66, val_main_cst_12]
theorem v70_at : val_main_v70 (F := Ideal) x0 x1 (ix5 b c h x i) = ∑ y, val_main_v41 (F := Ideal) x0 (ix5 b c y h x) * val_main_v69 (F := Ideal) x0 x1 (ix5 b c h i y) := by
  pointwise [val_main_v70]
theorem v74_at (r : Fin 2048) (w : Fin 512) : val_main_v74 (F := Ideal) x0 x1 (ix3 b r w)
    = val_main_v70 (F := Ideal) x0 x1 (ix5 b ⟨r.val / 64, by omega⟩ ⟨w.val / 64, by omega⟩ ⟨w.val % 64, by omega⟩ ⟨r.val % 64, by omega⟩) := by
  pointwise [val_main_v74, val_main_v73, val_main_v72, val_main_v71]

/-- The reference at an entry: the values of the window's keys, weighted by the softmax of the row's scores. -/
theorem ref_at (r : Fin 2048) (w : Fin 512) (c : Fin 32) (h : Fin 8) (i x : Fin 64) (hc : c.val = r.val / 64) (hi : i.val = r.val % 64)
    (hh : h.val = w.val / 64) (hx : x.val = w.val % 64) :
    val_main_v74 (F := Ideal) x0 x1 (ix3 b r w) = ∑ j : Fin 576, padRow x0 b (c.val * 64 + j.val) (1024 + (h.val * 64 + x.val)) *
      Ideal.div (Ideal.exp (refScore x0 x1 b c h i j - max (Ideal.ofBits .f32 4286578688#32) (Finset.univ.fold max (Ideal.ofBits .f32 4286578688#32) (fun j => refScore x0 x1 b c h i j))))
        (∑ y, Ideal.exp (refScore x0 x1 b c h i y - max (Ideal.ofBits .f32 4286578688#32) (Finset.univ.fold max (Ideal.ofBits .f32 4286578688#32) (fun j => refScore x0 x1 b c h i j)))) := by
  rw [v74_at, show (⟨r.val / 64, by omega⟩ : Fin 32) = c from Fin.ext hc.symm, show (⟨r.val % 64, by omega⟩ : Fin 64) = i from Fin.ext hi.symm,
    show (⟨w.val / 64, by omega⟩ : Fin 8) = h from Fin.ext hh.symm, show (⟨w.val % 64, by omega⟩ : Fin 64) = x from Fin.ext hx.symm, v70_at]
  simp only [take_at2, v29_at, v69_at, v65_at]

end Cert.ReferenceIdeal.Body
-- ==== Proof.Equal.lean ====
module

public import proofs.«01_k».proof.Proof.Soft
public import proofs.«01_k».proof.Proof.BiasAt
public import proofs.«01_k».proof.Proof.Ref

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen
open Cert.ReferenceIdeal.Body (padRow refScore)

/-- An eighth, in the narrow format. -/
theorem bits_eighth16 : Ideal.ofBits .bf16 15872#16 = ((1 / 8 : ℝ) : EReal) := by
  simp [Ideal.ofBits, Ideal.ieee, -EReal.coe_mul]; norm_num
/-- An eighth, in the wide format. -/
theorem bits_eighth32 : Ideal.ofBits .f32 1040187392#32 = ((1 / 8 : ℝ) : EReal) := by
  simp [Ideal.ofBits, Ideal.ieee, -EReal.coe_mul]; norm_num

theorem lane0_eq : ∀ x : Fin 128, lane0 x = if x.val < 64 then 1#1 else 0#1 := by decide +kernel
theorem lane1_eq : ∀ x : Fin 128, lane1 x = if x.val < 64 then 0#1 else 1#1 := by decide +kernel

/-- The selector of head `hh` of a pair. -/
def laneOf (hh : Fin 2) : Fin 128 → BitVec 1 := if hh = 0 then lane0 else lane1

/-- A sum over the lanes of one head is a sum over that head's 64 lanes. -/
theorem lane_sum (hh : Fin 2) (f : Fin 128 → EReal) :
    ∑ x, Scalar.select (laneOf hh x) (f x) 0 = ∑ y : Fin 64, f ⟨64 * hh.val + y.val, by omega⟩ := by
  rw [Fin.sum_univ_two_halves 64 64 rfl]
  have hlo : ∀ (x : Fin 128), x.val < 64 → Scalar.select (laneOf hh x) (f x) 0 = if hh = 0 then f x else 0 := fun x hx => by
    unfold laneOf
    split_ifs with h
    · rw [lane0_eq, if_pos hx, select_one]
    · rw [lane1_eq, if_pos hx, select_zero]
  have hhi : ∀ (x : Fin 128), ¬ x.val < 64 → Scalar.select (laneOf hh x) (f x) 0 = if hh = 0 then 0 else f x := fun x hx => by
    unfold laneOf
    split_ifs with h
    · rw [lane0_eq, if_neg hx, select_zero]
    · rw [lane1_eq, if_neg hx, select_one]
  refine (congrArg₂ (· + ·) (Finset.sum_congr rfl fun (k : Fin 64) _ => hlo ⟨k.val, by omega⟩ k.isLt)
    (Finset.sum_congr rfl fun (k : Fin 64) _ => hhi ⟨64 + k.val, by omega⟩ (by show ¬ (64 + k.val < 64); omega))).trans ?_
  by_cases h : hh = 0
  · subst h
    simp only [if_true, Finset.sum_const_zero, add_zero]
    exact Finset.sum_congr rfl fun k _ => congrArg f (Fin.ext (by show k.val = 64 * 0 + k.val; omega))
  · have h1 : hh.val = 1 := by have := hh.isLt; have : hh.val ≠ 0 := fun e => h (Fin.ext e); omega
    simp only [if_neg h, Finset.sum_const_zero, zero_add]
    exact Finset.sum_congr rfl fun k _ => congrArg f (Fin.ext (by show 64 + k.val = 64 * hh.val + k.val; omega))

section Head
variable (P : Vec Ideal S16x2048x3584 .bf16) (R : Vec Ideal S8x257 .f32) (b : Fin 16) (p : Fin 4) (hh : Fin 2) (g : Fin 8) (i : Fin 256)

/-- The queries of head pair `p`. -/
abbrev qOf : Vec Ideal S1x2048x128 .bf16 := laneBlock P b ⟨p.val, by omega⟩
/-- The keys of head pair `p`. -/
abbrev kOf : Vec Ideal S1x2048x128 .bf16 := laneBlock P b ⟨4 + p.val, by omega⟩
/-- The values of head pair `p`. -/
abbrev vOf : Vec Ideal S1x2048x128 .bf16 := laneBlock P b ⟨8 + p.val, by omega⟩
/-- The bias array of the call. -/
abbrev biasArr : Vec Ideal S8x256x768 .f32 := keep (inBand qChunk kChunk) (strip (rings (ring (wide R))))

/-- The head's number. -/
abbrev headOf : Fin 8 := ⟨p.val * 2 + hh.val, by omega⟩
/-- The query's chunk in the sequence. -/
abbrev chunkOf : Fin 32 := ⟨4 * g.val + i.val / 64, by omega⟩
/-- The query's row in its chunk. -/
abbrev rowOf : Fin 64 := ⟨i.val % 64, by omega⟩
/-- The column of the band at which key `j` of the chunk's window stands. -/
abbrev bandAt (j : Fin 576) : Fin 768 := ⟨64 * (i.val / 64) + j.val, by omega⟩

/-- The kernel's scores of one row. -/
abbrev kScore : Fin 768 → EReal := rowScore (laneOf hh) (qOf P b p) (kOf P b p) (pairBias (biasArr R) p) hh g i

theorem pair_bias (j : Fin 768) : pairBias (biasArr R) p (ix3 hh i j) = biasOf R (headOf p hh) i.val j.val := bias_apply R _ i j

theorem key_row (r : ℕ) (y : Fin 64) : padAt (kOf P b p) r ⟨64 * hh.val + y.val, by omega⟩ = padRow P b r (512 + ((headOf p hh).val * 64 + y.val)) := by
  unfold padAt padRow
  by_cases h : 512 ≤ r ∧ r < 2560
  · rw [dif_pos h, dif_pos ⟨h.1, h.2, by show 512 + ((p.val * 2 + hh.val) * 64 + y.val) < 3584; omega⟩]
    refine congrArg P (congrArg₂ (ix3 b) rfl (Fin.ext ?_))
    show (4 + p.val) * 128 + (64 * hh.val + y.val) = 512 + ((p.val * 2 + hh.val) * 64 + y.val)
    omega
  · rw [dif_neg h, dif_neg fun q => h ⟨q.1, q.2.1⟩]

theorem value_row (r : ℕ) (y : Fin 64) : padAt (vOf P b p) r ⟨64 * hh.val + y.val, by omega⟩ = padRow P b r (1024 + ((headOf p hh).val * 64 + y.val)) := by
  unfold padAt padRow
  by_cases h : 512 ≤ r ∧ r < 2560
  · rw [dif_pos h, dif_pos ⟨h.1, h.2, by show 1024 + ((p.val * 2 + hh.val) * 64 + y.val) < 3584; omega⟩]
    refine congrArg P (congrArg₂ (ix3 b) rfl (Fin.ext ?_))
    show (8 + p.val) * 128 + (64 * hh.val + y.val) = 1024 + ((p.val * 2 + hh.val) * 64 + y.val)
    omega
  · rw [dif_neg h, dif_neg fun q => h ⟨q.1, q.2.1⟩]

/-- A column of the band carries the reference's score. -/
theorem score_in (j : Fin 576) : kScore P R b p hh g i (bandAt i j) = refScore P R b (chunkOf g i) (headOf p hh) (rowOf i) j := by
  unfold kScore rowScore refScore
  by_cases hm : 512 ≤ j.val + 64 * (4 * g.val + i.val / 64)
  · rw [if_pos (show 512 ≤ 64 * (i.val / 64) + j.val + 256 * g.val by omega), if_pos hm, select_one]
    unfold score
    rw [lane_sum]
    refine congrArg₂ (· + ·) ?_ ((pair_bias R p hh i (bandAt i j)).trans ?_)
    · rw [bits_eighth32, Cert.Soft.sum_mul_coe _ _ _ (by norm_num)]
      refine Finset.sum_congr rfl fun y _ => ?_
      beta_reduce
      rw [key_row, bits_eighth16, mul_right_comm]
      congr 2
      · refine congrArg P (congrArg₂ (ix3 b) (Fin.ext ?_) (Fin.ext ?_))
        · show 256 * g.val + i.val = (4 * g.val + i.val / 64) * 64 + i.val % 64
          omega
        · show p.val * 128 + (64 * hh.val + y.val) = (p.val * 2 + hh.val) * 64 + y.val
          omega
      · refine congrArg (fun n => padRow P b n _) ?_
        show 256 * g.val + (64 * (i.val / 64) + j.val) = (4 * g.val + i.val / 64) * 64 + j.val
        omega
    · unfold biasOf
      rw [if_pos (by show 64 * (i.val / 64) ≤ 64 * (i.val / 64) + j.val ∧ 64 * (i.val / 64) + j.val < 64 * (i.val / 64) + 576; omega)]
      refine congrArg R (congrArg₂ ix2 rfl (Fin.ext ?_))
      show min 256 (640 + i.val - (64 * (i.val / 64) + j.val)) = min 256 (640 + i.val % 64 - j.val)
      omega
  · rw [if_neg (show ¬ 512 ≤ 64 * (i.val / 64) + j.val + 256 * g.val by omega), if_neg hm, select_zero, bits_bot]

/-- Off the band the score is minus infinity. -/
theorem score_off (k : Fin 768) (hk : ∀ j, bandAt i j ≠ k) : kScore P R b p hh g i k = ⊥ := by
  unfold kScore rowScore
  split_ifs with hm
  · unfold score
    refine (congrArg₂ (· + ·) rfl (pair_bias R p hh i k)).trans ?_
    unfold biasOf
    rw [if_neg, bits_bot]
    · exact EReal.add_bot _
    rintro ⟨h1, h2⟩
    exact hk ⟨k.val - 64 * (i.val / 64), by omega⟩ (Fin.ext (by show 64 * (i.val / 64) + (k.val - 64 * (i.val / 64)) = k.val; omega))
  · rfl

/-- The queries, the keys and the bias are finite. -/
structure Finite : Prop where
  proj : ∀ (b : Fin 16) (r : Fin 2048) (w : Fin 3584), w.val < 1024 → ∃ z : ℝ, P (ix3 b r w) = (z : EReal)
  bias : ∀ (h : Fin 8) (n : Fin 257), ∃ z : ℝ, R (ix2 h n) = (z : EReal)

theorem padRow_real (hF : Finite P R) (r o : ℕ) (ho : o < 1024) : ∃ z : ℝ, padRow P b r o = (z : EReal) := by
  unfold padRow
  split_ifs with q
  · exact hF.proj b _ _ ho
  · exact ⟨0, rfl⟩

/-- A score that is seen is a real number. -/
theorem score_real (hF : Finite P R) (c : Fin 32) (h : Fin 8) (r : Fin 64) (j : Fin 576) (hm : 512 ≤ j.val + 64 * c.val) :
    ∃ z : ℝ, refScore P R b c h r j = (z : EReal) := by
  unfold refScore
  rw [if_pos hm, select_one, bits_eighth32]
  obtain ⟨u, hu⟩ := hF.bias h ⟨min 256 (640 + r.val - j.val), by omega⟩
  have hq : ∀ x : Fin 64, ∃ z : ℝ, P (ix3 b ⟨c.val * 64 + r.val, by omega⟩ ⟨h.val * 64 + x.val, by omega⟩)
      * padRow P b (c.val * 64 + j.val) (512 + (h.val * 64 + x.val)) = (z : EReal) := fun x => by
    obtain ⟨z1, h1⟩ := hF.proj b ⟨c.val * 64 + r.val, by omega⟩ ⟨h.val * 64 + x.val, by omega⟩ (by show h.val * 64 + x.val < 1024; omega)
    obtain ⟨z2, h2⟩ := padRow_real P R b hF (c.val * 64 + j.val) (512 + (h.val * 64 + x.val)) (by omega)
    exact ⟨z1 * z2, by rw [h1, h2, EReal.coe_mul]⟩
  choose f hf using hq
  rw [hu, Finset.sum_congr rfl fun x _ => hf x, Cert.Soft.coe_sum]
  exact ⟨(∑ x, f x) * (1 / 8) + u, by rw [EReal.coe_add, EReal.coe_mul]⟩

/-- One head's mixture of the values is the reference's. -/
theorem head_eq (hF : Finite P R) (y : Fin 64) :
    mixed (kScore P R b p hh g i) (fun j => padAt (vOf P b p) (256 * g.val + j.val) ⟨64 * hh.val + y.val, by omega⟩)
      = ∑ j : Fin 576, padRow P b ((chunkOf g i).val * 64 + j.val) (1024 + ((headOf p hh).val * 64 + y.val)) *
      Ideal.div (Ideal.exp (refScore P R b (chunkOf g i) (headOf p hh) (rowOf i) j - max (Ideal.ofBits .f32 4286578688#32) (Finset.univ.fold max (Ideal.ofBits .f32 4286578688#32) (fun j => refScore P R b (chunkOf g i) (headOf p hh) (rowOf i) j))))
        (∑ y, Ideal.exp (refScore P R b (chunkOf g i) (headOf p hh) (rowOf i) y - max (Ideal.ofBits .f32 4286578688#32) (Finset.univ.fold max (Ideal.ofBits .f32 4286578688#32) (fun j => refScore P R b (chunkOf g i) (headOf p hh) (rowOf i) j)))) := by
  unfold mixed weight
  rw [bits_bot]
  refine Cert.Soft.mix_eq (kScore P R b p hh g i) (fun j => refScore P R b (chunkOf g i) (headOf p hh) (rowOf i) j) (bandAt i)
    (fun j j' e => Fin.ext (by have := congrArg Fin.val e; simp only at this; omega)) (score_in P R b p hh g i) (score_off P R b p hh g i) ?_ ?_ _ _ ?_
  · have hm : 512 ≤ (⟨512 + i.val % 64, by omega⟩ : Fin 576).val + 64 * (chunkOf g i).val := by show 512 ≤ 512 + i.val % 64 + _; omega
    obtain ⟨z, hz⟩ := score_real P R b hF (chunkOf g i) (headOf p hh) (rowOf i) _ hm
    exact ⟨_, by rw [hz]; exact EReal.coe_ne_bot z⟩
  · intro j
    by_cases hm : 512 ≤ j.val + 64 * (chunkOf g i).val
    · obtain ⟨z, hz⟩ := score_real P R b hF (chunkOf g i) (headOf p hh) (rowOf i) j hm
      rw [hz]; exact EReal.coe_ne_top z
    · unfold refScore
      rw [if_neg hm, select_zero, bits_bot]; exact bot_ne_top
  · intro j
    rw [value_row]
    congr 1
    show 256 * g.val + (64 * (i.val / 64) + j.val) = (4 * g.val + i.val / 64) * 64 + j.val
    omega

end Head

/-- The kernel's array is the reference's. -/
theorem attn_eq (P : Vec Ideal S16x2048x3584 .bf16) (R : Vec Ideal S8x257 .f32) (hF : Finite P R) :
    attn P (biasArr R) = Cert.ReferenceIdeal.Read.val_main_v74 (F := Ideal) P R := by
  funext z
  obtain ⟨b, r, w, rfl⟩ : ∃ (b : Fin 16) (r : Fin 2048) (w : Fin 512), z = ix3 b r w := ⟨z 0, z 1, z 2, eq_ix3 z⟩
  by_cases hl : w.val % 128 < 64
  · rw [Cert.ReferenceIdeal.Body.ref_at P R b r w (chunkOf ⟨r.val / 256, by omega⟩ ⟨r.val % 256, by omega⟩) (headOf ⟨w.val / 128, by omega⟩ 0)
      (rowOf ⟨r.val % 256, by omega⟩) ⟨w.val % 64, by omega⟩ (by show 4 * (r.val / 256) + r.val % 256 / 64 = r.val / 64; omega)
      (by show r.val % 256 % 64 = r.val % 64; omega) (by show w.val / 128 * 2 + 0 = w.val / 64; omega) rfl, ← head_eq P R b _ _ _ _ hF]
    show Scalar.select (lane0 ⟨w.val % 128, _⟩) _ _ = _
    rw [lane0_eq, if_pos hl, select_one]
    show mixed (kScore P R b ⟨w.val / 128, _⟩ 0 ⟨r.val / 256, _⟩ ⟨r.val % 256, _⟩) (fun j => padAt (vOf P b ⟨w.val / 128, _⟩) (256 * (r.val / 256) + j.val) ⟨w.val % 128, _⟩) = _
    rw [show (⟨w.val % 128, by omega⟩ : Fin 128) = ⟨64 * (0 : Fin 2).val + (⟨w.val % 64, by omega⟩ : Fin 64).val, by omega⟩ from
      Fin.ext (by show w.val % 128 = 64 * 0 + w.val % 64; omega)]
  · rw [Cert.ReferenceIdeal.Body.ref_at P R b r w (chunkOf ⟨r.val / 256, by omega⟩ ⟨r.val % 256, by omega⟩) (headOf ⟨w.val / 128, by omega⟩ 1)
      (rowOf ⟨r.val % 256, by omega⟩) ⟨w.val % 64, by omega⟩ (by show 4 * (r.val / 256) + r.val % 256 / 64 = r.val / 64; omega)
      (by show r.val % 256 % 64 = r.val % 64; omega) (by show w.val / 128 * 2 + 1 = w.val / 64; omega) rfl, ← head_eq P R b _ _ _ _ hF]
    show Scalar.select (lane0 ⟨w.val % 128, _⟩) _ _ = _
    rw [lane0_eq, if_neg hl, select_zero]
    show mixed (kScore P R b ⟨w.val / 128, _⟩ 1 ⟨r.val / 256, _⟩ ⟨r.val % 256, _⟩) (fun j => padAt (vOf P b ⟨w.val / 128, _⟩) (256 * (r.val / 256) + j.val) ⟨w.val % 128, _⟩) = _
    rw [show (⟨w.val % 128, by omega⟩ : Fin 128) = ⟨64 * (1 : Fin 2).val + (⟨w.val % 64, by omega⟩ : Fin 64).val, by omega⟩ from
      Fin.ext (by show w.val % 128 = 64 * 1 + w.val % 64; omega)]

end Cert.KernelIdeal.Body
-- ==== Proof.Norm.lean ====
module

public import Idealize.ShloMosaic.Lib.Pointwise

@[expose] public section

set_option maxRecDepth 16384

noncomputable section

namespace Cert.Norm

open Idealize.ShloMosaic

/-- The mean of the squares of a row of 1024 numbers, and the small number added to it. -/
def power (x : Fin 1024 → EReal) : EReal :=
  Ideal.div (∑ j, x j * x j) (Ideal.ofBits .f32 1149239296#32) + Ideal.ofBits .f32 897988541#32

/-- Entry `k` of a row over the root of its mean square, times its gain. -/
def normed (x g : Fin 1024 → EReal) (k : Fin 1024) : EReal := x k * Ideal.rsqrt (power x) * g k

/-- The product of a normed row with a column. -/
def proj (x g w : Fin 1024 → EReal) : EReal := ∑ k, normed x g k * w k

/-- The batch of a row of the flattened array, and its place in the sequence. -/
def batch (r : Fin 32768) : Fin 16 := ⟨r.val / 2048, by omega⟩
def place (r : Fin 32768) : Fin 2048 := ⟨r.val % 2048, by omega⟩

/-- A linear unit with its gate: the first number times the logistic function of the second. -/
def gated (a gate : EReal) : EReal := Ideal.div a (Ideal.ofBits .f32 1065353216#32 + Ideal.exp (Ideal.ofBits .f32 0#32 - gate))

theorem bits_one : Ideal.ofBits .f32 1065353216#32 = 1 := by
  simp [Ideal.ofBits, Ideal.ieee, -EReal.coe_mul]
  norm_num

theorem bits_zero : Ideal.ofBits .f32 0#32 = 0 := by simp [Ideal.ofBits, Ideal.ieee]

theorem exp_nonneg (x : EReal) : 0 ≤ Ideal.exp x := by
  induction x using EReal.rec with
  | bot => exact le_refl _
  | top => exact le_top
  | coe z => exact EReal.coe_nonneg.mpr (Real.exp_pos z).le

/-- Dividing by one plus an exponential is multiplying by its reciprocal. -/
theorem gated_eq (a gate : EReal) :
    gated a gate = a * Ideal.div (Ideal.ofBits .f32 1065353216#32) (Ideal.ofBits .f32 1065353216#32 + Ideal.exp (-gate)) := by
  unfold gated
  rw [bits_one, bits_zero, zero_sub]
  have h : (1 : EReal) + Ideal.exp (-gate) ≠ 0 := (lt_of_lt_of_le zero_lt_one (le_add_of_nonneg_right (exp_nonneg _))).ne'
  unfold Ideal.div
  rw [if_neg h, if_neg h, one_mul]

end Cert.Norm
-- ==== Proof.ProjVal.lean ====
module

public import proofs.«01_k».proof.Proof.Gen.ProjIdeal.Value
public import proofs.«01_k».proof.Proof.Norm

@[expose] public section

set_option maxRecDepth 16384

noncomputable section

namespace Cert.ProjIdeal.Body

open Idealize.ShloMosaic Idealize.ShloMosaic.TcCoe Idealize.ShloMosaic.Tactic
open Idealize.SL Idealize.SL.Sem
open Cert.ProjIdeal Cert.ProjIdeal.Gen Cert.Norm
open Idealize.ShloMosaic.Pipeline (Dat)

theorem pay5_apply (x : Vec Ideal S512x1024 .f32) (g : Vec Ideal S1x1024 .f32) (i : Fin 512) (k : Fin 1024) :
    k0_pay5 (F := Ideal) x g (ix2 i k) = normed (fun j => x (ix2 i j)) (fun j => g (ix2 0 j)) k := by
  pointwise [k0_pay5]
  rfl

theorem pay1_apply (x : FVec Ideal S512x1024 .bf16) (w : Vec Ideal S1024x512 .bf16) (i : Fin 512) (n : Fin 512) :
    k0_pay1 (F := Ideal) x w (ix2 i n) = ∑ k, x (ix2 i k) * w (ix2 k n) := by
  pointwise [k0_pay1]

/-- A block of 512 normed rows times the weights. -/
def projBlock (x : Vec Ideal S512x1024 .f32) (g : Vec Ideal S1x1024 .f32) (w : Vec Ideal S1024x3584 .bf16) : Vec Ideal S512x3584 .bf16 :=
  fun y => proj (fun j => x (ix2 (y 0) j)) (fun j => g (ix2 0 j)) (fun k => w (ix2 k (y 1)))

/-- A chunk of 512 columns of the block, from the columns of the weights at the same offset. -/
theorem piece_eq (o : ℕ) (hw : ∀ a, (![0, o] : Fin 2 → ℕ) a + S1024x512.size a ≤ S1024x3584.size a)
    (ho : ∀ a, (![0, o] : Fin 2 → ℕ) a + S512x512.size a ≤ S512x3584.size a)
    (x : Vec Ideal S512x1024 .f32) (g : Vec Ideal S1x1024 .f32) (w : Vec Ideal S1024x3584 .bf16) (y : S512x512.Idx) :
    k0_pay1 (F := Ideal) (k0_pay5 (View.ld x r0_0) (View.ld g r0_1)) (View.ld w (Rect.unit (s := S1024x3584) ![0, o] S1024x512.size hw)) y
      = projBlock x g w ((Rect.unit (s := S512x3584) ![0, o] S512x512.size ho).emb y) := by
  rw [View.ld_unit_zero (by decide), View.ld_unit_zero (by decide)]
  obtain ⟨i, n, rfl⟩ : ∃ i n, y = ix2 i n := ⟨y 0, y 1, by funext a; match a with | ⟨0, _⟩ => rfl | ⟨1, _⟩ => rfl⟩
  rw [pay1_apply]
  unfold projBlock proj
  refine Finset.sum_congr rfl fun k _ => ?_
  rw [pay5_apply]
  refine congrArg₂ (· * ·) (congrArg (fun z => normed z _ k) (funext fun j => congrArg x ?_)) (congrArg w ?_)
  · funext a
    apply Fin.ext
    match a with
    | ⟨0, _⟩ => show i.val = 0 + 1 * i.val; omega
    | ⟨1, _⟩ => rfl
  · funext a
    apply Fin.ext
    match a with
    | ⟨0, _⟩ => show 0 + 1 * k.val = k.val; omega
    | ⟨1, _⟩ => rfl

theorem out_eq (x : Vec Ideal S512x1024 .f32) (g : Vec Ideal S1x1024 .f32) (w : Vec Ideal S1024x3584 .bf16) :
    out0_3 (F := Ideal) x g w = projBlock x g w := by
  funext y
  unfold out0_3 k0_pay9
  refine View.canon_apply_of_pieces (projBlock x g w) _ ?_ y (cover0_3 _ _ _ _ _ _ _ y)
  simp only [List.forall_mem_cons]
  exact ⟨piece_eq 3072 _ _ x g w, piece_eq 2560 _ _ x g w, piece_eq 2048 _ _ x g w, piece_eq 1536 _ _ x g w,
    piece_eq 1024 _ _ x g w, piece_eq 512 _ _ x g w, piece_eq 0 _ _ x g w, fun _ h => absurd h List.not_mem_nil⟩

variable (m : (ℓ : Loc nD τ sig) → Buf (Elt Ideal) ℓ)

/-- The product of the normed rows with the weights. -/
def projOf (x : Vec Ideal S32768x1024 .f32) (g : Vec Ideal S1x1024 .f32) (w : Vec Ideal S1024x3584 .bf16) : Vec Ideal S32768x3584 .bf16 :=
  fun y => proj (fun j => x (ix2 (y 0) j)) (fun j => g (ix2 0 j)) (fun k => w (ix2 k (y 1)))

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val ∧ win0_3.index t 1 = 0 := by decide +kernel
theorem pts : grid0.N = 64 := by decide +kernel
theorem xs3 : ∀ t : Fin grid0.N, win0_3.xsize (grid0.coords t) 0 = 512 ∧ win0_3.xsize (grid0.coords t) 1 = 3584 := by decide +kernel

/-- Row `i` of grid point `t`'s block. -/
def rowAt (t : Fin cfg0.N) (i : Fin 512) : Fin 32768 := ⟨t.val * 512 + i.val, by have := t.isLt; have : cfg0.N = 64 := pts; omega⟩

theorem blk0 (c : Dev nD) (t : Fin cfg0.N) (i : Fin 512) (j : Fin 1024) :
    iblk m c 0 t (ix2 i j) = V m c main_v0 (ix2 (rowAt t i) j) := by
  have h := at0 t
  unfold iblk
  rw [View.read_apply]
  show V m c main_v0 _ = V m c main_v0 _
  congr 1
  funext a
  apply Fin.ext
  match a with
  | ⟨0, _⟩ => show win0_0.index t 0 * 512 + 1 * i.val = t.val * 512 + i.val; rw [h.1]; omega
  | ⟨1, _⟩ => show win0_0.index t 1 * 1024 + 1 * j.val = j.val; rw [h.2]; omega

theorem blk1 (c : Dev nD) (t : Fin cfg0.N) : iblk m c 1 t = V m c main_v1 := by
  have h := at1 t
  funext y
  unfold iblk
  rw [View.read_apply]
  show V m c main_v1 _ = V m c main_v1 _
  congr 1
  funext a
  apply Fin.ext
  match a with
  | ⟨0, _⟩ => show win0_1.index t 0 * 1 + 1 * (y 0).val = (y 0).val; rw [h.1]; omega
  | ⟨1, _⟩ => show win0_1.index t 1 * 1024 + 1 * (y 1).val = (y 1).val; rw [h.2]; omega

theorem blk2 (c : Dev nD) (t : Fin cfg0.N) : iblk m c 2 t = V m c main_v2 := by
  have h := at2 t
  funext y
  unfold iblk
  rw [View.read_apply]
  show V m c main_v2 _ = V m c main_v2 _
  congr 1
  funext a
  apply Fin.ext
  match a with
  | ⟨0, _⟩ => show win0_2.index t 0 * 1024 + 1 * (y 0).val = (y 0).val; rw [h.1]; omega
  | ⟨1, _⟩ => show win0_2.index t 1 * 3584 + 1 * (y 1).val = (y 1).val; rw [h.2]; omega

/-- What a grid point writes back is its rows of the output array. -/
theorem flushed_eq (c : Dev nD) (t : Fin cfg0.N) :
    (dats m 0 c).flushed 3 t = ((cfg0.win 3).blk t).view.read (Elt Ideal) (projOf (V m c main_v0) (V m c main_v1) (V m c main_v2)) := by
  rw [Cert.ProjIdeal.Value.flushed3, out_eq, blk1, blk2]
  have h := at3 t
  funext y
  rw [View.read_apply]
  have h0 : (y 0).val < 512 := (y 0).isLt
  have h1 : (y 1).val < 3584 := (y 1).isLt
  show projBlock (iblk m c 0 t) (V m c main_v1) (V m c main_v2) y = projOf (V m c main_v0) (V m c main_v1) (V m c main_v2) (((cfg0.win 3).blk t).view.emb y)
  have e : ((cfg0.win 3).blk t).view.emb y = ix2 (rowAt t (y 0)) (y 1) := by
    funext a
    apply Fin.ext
    match a with
    | ⟨0, _⟩ => show win0_3.index t 0 * 512 + 1 * (y 0).val = t.val * 512 + (y 0).val; rw [h.1]; omega
    | ⟨1, _⟩ => show win0_3.index t 1 * 3584 + 1 * (y 1).val = (y 1).val; rw [h.2]; omega
  rw [e]
  exact congrArg (fun z => proj z _ _) (funext fun j => blk0 m c t (y 0) j)

theorem final_eq (c : Dev nD) : (dats m 0 c).arrAt 3 cfg0.N = projOf (V m c main_v0) (V m c main_v1) (V m c main_v2) :=
  (dats m 0 c).arrAt_eq_of_cover 3 _ (fun t _ => flushed_eq m c t) fun i => by
    have h0 : (i 0 : Nat) < 32768 := (i 0).isLt
    have h1 : (i 1 : Nat) < 3584 := (i 1).isLt
    have hN : cfg0.N = 64 := pts
    let t : Fin cfg0.N := ⟨(i 0).val / 512, by omega⟩
    refine ⟨t, flush0_3 t, ?_⟩
    have h := at3 t
    have hx := xs3 t
    have ht : t.val = (i 0).val / 512 := rfl
    show i ∈ ((View.whole main_v3).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + win0_3.xsize (grid0.coords t) 0
                rw [h.1, hx.1]; omega
    | ⟨1, _⟩ => show win0_3.index t 1 * 3584 ≤ (i 1 : Nat) ∧ (i 1 : Nat) < win0_3.index t 1 * 3584 + win0_3.xsize (grid0.coords t) 1
                rw [h.2, hx.2]; omega

theorem host_rows (c : Dev nD) : V m c main_v0 = shapeCast S32768x1024 (m ((c : Thread nD τ).loc main_arg0)) shapeCasts_S16x2048x1024_S32768x1024 := by
  unfold V
  after_results
  rfl

theorem host_gain (c : Dev nD) : V m c main_v1 = shapeCast S1x1024 (m ((c : Thread nD τ).loc main_arg1)) shapeCasts_S1024_S1x1024 := by
  unfold V
  after_results
  rfl

theorem host_weights (c : Dev nD) :
    V m c main_v2 = truncf (F := Ideal) .bf16 (m ((c : Thread nD τ).loc main_arg2) : FVec Ideal S1024x3584 .f32) bitsLt_bf16_f32 := by
  unfold V
  after_results

theorem rows_apply (x : Vec Ideal S16x2048x1024 .f32) (r : Fin 32768) (j : Fin 1024) :
    shapeCast S32768x1024 x shapeCasts_S16x2048x1024_S32768x1024 (ix2 r j) = x (ix3 (batch r) (place r) j) := by
  refine shapeCast_apply x _ _ _ ?_
  rw [Shape.rowMajor_val_three, Shape.rowMajor_val_two]
  show (r.val / 2048 * 2048 + r.val % 2048) * 1024 + j.val = r.val * 1024 + j.val
  omega

theorem gain_apply (g : Vec Ideal S1024 .f32) (j : Fin 1024) :
    shapeCast S1x1024 g shapeCasts_S1024_S1x1024 (ix2 0 j) = g (ix1 j) := by
  refine shapeCast_apply g _ _ _ ?_
  rw [Shape.rowMajor_val_one, Shape.rowMajor_val_two]
  show j.val = 0 * 1024 + j.val
  omega

/-- The array the kernel leaves, from its arguments. -/
theorem final_at (c : Dev nD) (r : Fin 32768) (n : Fin 3584) :
    (dats m 0 c).arrAt 3 cfg0.N (ix2 r n)
      = proj (fun j => m ((c : Thread nD τ).loc main_arg0) (ix3 (batch r) (place r) j)) (fun j => m ((c : Thread nD τ).loc main_arg1) (ix1 j))
          (fun k => m ((c : Thread nD τ).loc main_arg2) (ix2 k n)) := by
  rw [final_eq, host_rows, host_gain, host_weights]
  unfold projOf
  refine congr (congrArg₂ proj (funext fun j => rows_apply _ _ _) (funext fun j => gain_apply _ _)) rfl

end Cert.ProjIdeal.Body
-- ==== Proof.ProjRefVal.lean ====
module

public import proofs.«01_k».proof.Proof.Gen.ProjRefIdeal.Read
public import proofs.«01_k».proof.Proof.Norm

@[expose] public section

set_option maxRecDepth 16384

noncomputable section

namespace Cert.ProjRefIdeal.Body

open Idealize.ShloMosaic Idealize.ShloMosaic.TcCoe
open Cert.ProjRefIdeal Cert.ProjRefIdeal.Gen Cert.ProjRefIdeal.Read Cert.Norm

theorem normed_at (x : Vec Ideal S16x2048x1024 .f32) (g : Vec Ideal S1024 .f32) (b : Fin 16) (s : Fin 2048) (k : Fin 1024) :
    val_main_v12 (F := Ideal) x g (ix3 b s k) = normed (fun j => x (ix3 b s j)) (fun j => g (ix1 j)) k := by
  rw [val_main_v12_apply, val_main_v9_apply, val_main_v8_apply, val_main_v7_apply, val_main_v6_apply, val_main_v4_apply,
    val_main_v2_apply, val_main_v1_apply, val_main_cst_apply, val_main_v3_apply, val_main_cst_0_apply, val_main_v5_apply, val_main_cst_1_apply, val_main_v11_apply, val_main_v10_apply]
  simp only [val_main_v0_apply]
  show x (ix3 b s k) * Ideal.rsqrt (Ideal.div (Ideal.ofBits .f32 0#32 + ∑ j : Fin 1024, x _ * x _) _ + _) * g _ = _
  rw [bits_zero, zero_add]
  have e : ∀ j, idx_main_v1 (idx_main_v2 (idx_main_v8 (ix3 b s k))) j = ix3 b s j := fun j => by
    funext a; match a with | ⟨0, _⟩ => rfl | ⟨1, _⟩ => rfl | ⟨2, _⟩ => rfl
  have e' : idx_main_v10 (idx_main_v11 (ix3 b s k)) = ix1 k := by
    funext a; match a with | ⟨0, _⟩ => rfl
  simp only [e, e']
  rfl

theorem ref_at (x : Vec Ideal S16x2048x1024 .f32) (g : Vec Ideal S1024 .f32) (w : Vec Ideal S1024x3584 .f32) (r : Fin 32768) (n : Fin 3584) :
    val_main_v15 (F := Ideal) x g w (ix2 r n)
      = proj (fun j => x (ix3 (batch r) (place r) j)) (fun j => g (ix1 j)) (fun k => w (ix2 k n)) := by
  rw [val_main_v15_apply, val_main_v14_apply, val_main_v13_apply]
  have hn := n.isLt
  have e : ∀ k, lidx_main_v13 (idx_main_v14 (ix2 r n)) k = ix3 (batch r) (place r) k := fun k => by
    funext a
    apply Fin.ext
    match a with
    | ⟨0, _⟩ => show (r.val * 3584 + n.val) / 7340032 = r.val / 2048; omega
    | ⟨1, _⟩ => show (r.val * 3584 + n.val) / 3584 % 2048 = r.val % 2048; omega
    | ⟨2, _⟩ => rfl
  have e' : ∀ k, ridx_main_v13 (idx_main_v14 (ix2 r n)) k = ix2 k n := fun k => by
    funext a
    apply Fin.ext
    match a with
    | ⟨0, _⟩ => rfl
    | ⟨1, _⟩ => show (r.val * 3584 + n.val) % 3584 = n.val; omega
  show ∑ k : Fin 1024, _ = _
  unfold proj
  refine Finset.sum_congr rfl fun k _ => ?_
  rw [e, e', normed_at]

end Cert.ProjRefIdeal.Body
-- ==== Proof.GluVal.lean ====
module

public import proofs.«01_k».proof.Proof.Gen.GluIdeal.Value
public import proofs.«01_k».proof.Proof.Norm

@[expose] public section

set_option maxRecDepth 16384

noncomputable section

namespace Cert.GluIdeal.Body

open Idealize.ShloMosaic Idealize.ShloMosaic.TcCoe Idealize.ShloMosaic.Tactic
open Idealize.SL Idealize.SL.Sem
open Cert.GluIdeal Cert.GluIdeal.Gen Cert.Norm
open Idealize.ShloMosaic.Pipeline (Dat)

/-- Entry `n` of a gated row: the product with the left half of the weights, gated by the product with the right half. -/
def unit (x g : Fin 1024 → EReal) (w : Fin 1024 → Fin 2048 → EReal) (b : Fin 2048 → EReal) (n : Fin 1024) : EReal :=
  gated (proj x g (fun k => w k ⟨n.val, by omega⟩) + b ⟨n.val, by omega⟩)
    (proj x g (fun k => w k ⟨1024 + n.val, by omega⟩) + b ⟨1024 + n.val, by omega⟩)

theorem pay_apply (x : Vec Ideal S512x1024 .f32) (g : Vec Ideal S1x1024 .f32) (wa : Vec Ideal S1024x1024 .bf16) (ba : Vec Ideal S1x1024 .f32)
    (wg : Vec Ideal S1024x1024 .bf16) (bg : Vec Ideal S1x1024 .f32) (i : Fin 512) (n : Fin 1024) :
    k0_pay1 (F := Ideal) x g wa ba wg bg (ix2 i n)
      = gated (proj (fun j => x (ix2 i j)) (fun j => g (ix2 0 j)) (fun k => wa (ix2 k n)) + ba (ix2 0 n))
          (proj (fun j => x (ix2 i j)) (fun j => g (ix2 0 j)) (fun k => wg (ix2 k n)) + bg (ix2 0 n)) := by
  pointwise [k0_pay1]
  unfold gated
  rw [bits_one, bits_zero]
  rfl

/-- A block of 512 gated rows. -/
def gluBlock (x : Vec Ideal S512x1024 .f32) (g : Vec Ideal S1x1024 .f32) (w : Vec Ideal S1024x2048 .bf16) (b : Vec Ideal S1x2048 .f32) :
    Vec Ideal S512x1024 .f32 :=
  fun y => unit (fun j => x (ix2 (y 0) j)) (fun j => g (ix2 0 j)) (fun k n => w (ix2 k n)) (fun n => b (ix2 0 n)) (y 1)

theorem ld_w (o : ℕ) (hw : ∀ a, (![0, o] : Fin 2 → ℕ) a + S1024x1024.size a ≤ S1024x2048.size a) (w : Vec Ideal S1024x2048 .bf16)
    (k n : Fin 1024) (h : o + n.val < 2048) :
    View.ld w (Rect.unit (s := S1024x2048) ![0, o] S1024x1024.size hw) (ix2 k n) = w (ix2 k ⟨o + n.val, h⟩) := by
  refine congrArg w (funext fun a => Fin.ext ?_)
  match a with
  | ⟨0, _⟩ => show 0 + 1 * k.val = k.val; omega
  | ⟨1, _⟩ => show o + 1 * n.val = o + n.val; omega

theorem ld_b (o : ℕ) (hw : ∀ a, (![0, o] : Fin 2 → ℕ) a + S1x1024.size a ≤ S1x2048.size a) (b : Vec Ideal S1x2048 .f32)
    (n : Fin 1024) (h : o + n.val < 2048) :
    View.ld b (Rect.unit (s := S1x2048) ![0, o] S1x1024.size hw) (ix2 0 n) = b (ix2 0 ⟨o + n.val, h⟩) := by
  refine congrArg b (funext fun a => Fin.ext ?_)
  match a with
  | ⟨0, _⟩ => rfl
  | ⟨1, _⟩ => show o + 1 * n.val = o + n.val; omega

theorem out_eq (x : Vec Ideal S512x1024 .f32) (g : Vec Ideal S1x1024 .f32) (w : Vec Ideal S1024x2048 .bf16) (b : Vec Ideal S1x2048 .f32) :
    out0_4 (F := Ideal) x g w b = gluBlock x g w b := by
  unfold out0_4
  rw [View.canon_unit_zero (by decide), View.ld_unit_zero (by decide), View.ld_unit_zero (by decide)]
  funext y
  obtain ⟨i, n, rfl⟩ : ∃ i n, y = ix2 i n := ⟨y 0, y 1, by funext a; match a with | ⟨0, _⟩ => rfl | ⟨1, _⟩ => rfl⟩
  have e : (⟨0 + n.val, by omega⟩ : Fin 2048) = ⟨n.val, by omega⟩ := Fin.ext (Nat.zero_add _)
  rw [pay_apply, ld_b 0 _ _ _ (by omega), ld_b 1024 _ _ _ (by omega), e]
  refine congrArg₂ gated (congrArg (· + _) (congrArg (proj _ _) (funext fun k => ?_))) (congrArg (· + _) (congrArg (proj _ _) (funext fun k => ?_)))
  · exact (ld_w 0 _ w k n (by omega)).trans (congrArg (fun z => w (ix2 k z)) e)
  · exact ld_w 1024 _ w k n (by omega)

variable (m : (ℓ : Loc nD τ sig) → Buf (Elt Ideal) ℓ)

/-- The gated rows. -/
def gluOf (x : Vec Ideal S32768x1024 .f32) (g : Vec Ideal S1x1024 .f32) (w : Vec Ideal S1024x2048 .bf16) (b : Vec Ideal S1x2048 .f32) :
    Vec Ideal S32768x1024 .f32 :=
  fun y => unit (fun j => x (ix2 (y 0) j)) (fun j => g (ix2 0 j)) (fun k n => w (ix2 k n)) (fun n => b (ix2 0 n)) (y 1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem pts : grid0.N = 64 := by decide +kernel
theorem xs4 : ∀ t : Fin grid0.N, win0_4.xsize (grid0.coords t) 0 = 512 ∧ win0_4.xsize (grid0.coords t) 1 = 1024 := by decide +kernel

/-- Row `i` of grid point `t`'s block. -/
def rowAt (t : Fin cfg0.N) (i : Fin 512) : Fin 32768 := ⟨t.val * 512 + i.val, by have := t.isLt; have : cfg0.N = 64 := pts; omega⟩

theorem blk0 (c : Dev nD) (t : Fin cfg0.N) (i : Fin 512) (j : Fin 1024) :
    iblk m c 0 t (ix2 i j) = V m c main_v0 (ix2 (rowAt t i) j) := by
  have h := at0 t
  unfold iblk
  rw [View.read_apply]
  show V m c main_v0 _ = V m c main_v0 _
  congr 1
  funext a
  apply Fin.ext
  match a with
  | ⟨0, _⟩ => show win0_0.index t 0 * 512 + 1 * i.val = t.val * 512 + i.val; rw [h.1]; omega
  | ⟨1, _⟩ => show win0_0.index t 1 * 1024 + 1 * j.val = j.val; rw [h.2]; omega

theorem blk1 (c : Dev nD) (t : Fin cfg0.N) : iblk m c 1 t = V m c main_v1 := by
  have h := at1 t
  funext y
  unfold iblk
  rw [View.read_apply]
  show V m c main_v1 _ = V m c main_v1 _
  congr 1
  funext a
  apply Fin.ext
  match a with
  | ⟨0, _⟩ => show win0_1.index t 0 * 1 + 1 * (y 0).val = (y 0).val; rw [h.1]; omega
  | ⟨1, _⟩ => show win0_1.index t 1 * 1024 + 1 * (y 1).val = (y 1).val; rw [h.2]; omega

theorem blk2 (c : Dev nD) (t : Fin cfg0.N) : iblk m c 2 t = V m c main_v2 := by
  have h := at2 t
  funext y
  unfold iblk
  rw [View.read_apply]
  show V m c main_v2 _ = V m c main_v2 _
  congr 1
  funext a
  apply Fin.ext
  match a with
  | ⟨0, _⟩ => show win0_2.index t 0 * 1024 + 1 * (y 0).val = (y 0).val; rw [h.1]; omega
  | ⟨1, _⟩ => show win0_2.index t 1 * 2048 + 1 * (y 1).val = (y 1).val; rw [h.2]; omega

theorem blk3 (c : Dev nD) (t : Fin cfg0.N) : iblk m c 3 t = V m c main_v3 := by
  have h := at3 t
  funext y
  unfold iblk
  rw [View.read_apply]
  show V m c main_v3 _ = V m c main_v3 _
  congr 1
  funext a
  apply Fin.ext
  match a with
  | ⟨0, _⟩ => show win0_3.index t 0 * 1 + 1 * (y 0).val = (y 0).val; rw [h.1]; omega
  | ⟨1, _⟩ => show win0_3.index t 1 * 2048 + 1 * (y 1).val = (y 1).val; rw [h.2]; omega

/-- What a grid point writes back is its rows of the output array. -/
theorem flushed_eq (c : Dev nD) (t : Fin cfg0.N) :
    (dats m 0 c).flushed 4 t = ((cfg0.win 4).blk t).view.read (Elt Ideal) (gluOf (V m c main_v0) (V m c main_v1) (V m c main_v2) (V m c main_v3)) := by
  rw [Cert.GluIdeal.Value.flushed4, out_eq, blk1, blk2, blk3]
  have h := at4 t
  funext y
  rw [View.read_apply]
  have h0 : (y 0).val < 512 := (y 0).isLt
  have h1 : (y 1).val < 1024 := (y 1).isLt
  show gluBlock (iblk m c 0 t) (V m c main_v1) (V m c main_v2) (V m c main_v3) y = gluOf (V m c main_v0) (V m c main_v1) (V m c main_v2) (V m c main_v3) (((cfg0.win 4).blk t).view.emb y)
  have e : ((cfg0.win 4).blk t).view.emb y = ix2 (rowAt t (y 0)) (y 1) := by
    funext a
    apply Fin.ext
    match a with
    | ⟨0, _⟩ => show win0_4.index t 0 * 512 + 1 * (y 0).val = t.val * 512 + (y 0).val; rw [h.1]; omega
    | ⟨1, _⟩ => show win0_4.index t 1 * 1024 + 1 * (y 1).val = (y 1).val; rw [h.2]; omega
  rw [e]
  exact congrArg (fun z => unit z _ _ _ _) (funext fun j => blk0 m c t (y 0) j)

theorem final_eq (c : Dev nD) : (dats m 0 c).arrAt 4 cfg0.N = gluOf (V m c main_v0) (V m c main_v1) (V m c main_v2) (V m c main_v3) :=
  (dats m 0 c).arrAt_eq_of_cover 4 _ (fun t _ => flushed_eq m c t) fun i => by
    have h0 : (i 0 : Nat) < 32768 := (i 0).isLt
    have h1 : (i 1 : Nat) < 1024 := (i 1).isLt
    have hN : cfg0.N = 64 := pts
    let t : Fin cfg0.N := ⟨(i 0).val / 512, by omega⟩
    refine ⟨t, flush0_4 t, ?_⟩
    have h := at4 t
    have hx := xs4 t
    have ht : t.val = (i 0).val / 512 := rfl
    show i ∈ ((View.whole main_v4).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + win0_4.xsize (grid0.coords t) 0
                rw [h.1, hx.1]; omega
    | ⟨1, _⟩ => show win0_4.index t 1 * 1024 ≤ (i 1 : Nat) ∧ (i 1 : Nat) < win0_4.index t 1 * 1024 + win0_4.xsize (grid0.coords t) 1
                rw [h.2, hx.2]; omega

theorem host_rows (c : Dev nD) : V m c main_v0 = shapeCast S32768x1024 (m ((c : Thread nD τ).loc main_arg0)) shapeCasts_S16x2048x1024_S32768x1024 := by
  unfold V
  after_results
  rfl

theorem host_gain (c : Dev nD) : V m c main_v1 = shapeCast S1x1024 (m ((c : Thread nD τ).loc main_arg1)) shapeCasts_S1024_S1x1024 := by
  unfold V
  after_results
  rfl

theorem host_weights (c : Dev nD) :
    V m c main_v2 = truncf (F := Ideal) .bf16 (m ((c : Thread nD τ).loc main_arg2) : FVec Ideal S1024x2048 .f32) bitsLt_bf16_f32 := by
  unfold V
  after_results

theorem rows_apply (x : Vec Ideal S16x2048x1024 .f32) (r : Fin 32768) (j : Fin 1024) :
    shapeCast S32768x1024 x shapeCasts_S16x2048x1024_S32768x1024 (ix2 r j) = x (ix3 (batch r) (place r) j) := by
  refine shapeCast_apply x _ _ _ ?_
  rw [Shape.rowMajor_val_three, Shape.rowMajor_val_two]
  show (r.val / 2048 * 2048 + r.val % 2048) * 1024 + j.val = r.val * 1024 + j.val
  omega

theorem gain_apply (g : Vec Ideal S1024 .f32) (j : Fin 1024) :
    shapeCast S1x1024 g shapeCasts_S1024_S1x1024 (ix2 0 j) = g (ix1 j) := by
  refine shapeCast_apply g _ _ _ ?_
  rw [Shape.rowMajor_val_one, Shape.rowMajor_val_two]
  show j.val = 0 * 1024 + j.val
  omega

theorem host_bias (c : Dev nD) : V m c main_v3 = shapeCast S1x2048 (m ((c : Thread nD τ).loc main_arg3)) shapeCasts_S2048_S1x2048 := by
  unfold V
  after_results
  rfl

theorem bias_apply (b : Vec Ideal S2048 .f32) (n : Fin 2048) : shapeCast S1x2048 b shapeCasts_S2048_S1x2048 (ix2 0 n) = b (ix1 n) := by
  refine shapeCast_apply b _ _ _ ?_
  rw [Shape.rowMajor_val_one, Shape.rowMajor_val_two]
  show n.val = 0 * 2048 + n.val
  omega

/-- The array the kernel leaves, from its arguments. -/
theorem final_at (c : Dev nD) (r : Fin 32768) (n : Fin 1024) :
    (dats m 0 c).arrAt 4 cfg0.N (ix2 r n)
      = unit (fun j => m ((c : Thread nD τ).loc main_arg0) (ix3 (batch r) (place r) j)) (fun j => m ((c : Thread nD τ).loc main_arg1) (ix1 j))
          (fun k n => m ((c : Thread nD τ).loc main_arg2) (ix2 k n)) (fun n => m ((c : Thread nD τ).loc main_arg3) (ix1 n)) n := by
  rw [final_eq, host_rows, host_gain, host_weights, host_bias]
  unfold gluOf
  refine congrFun (congr (congr (congrArg₂ unit (funext fun j => rows_apply _ _ _) (funext fun j => gain_apply _ _)) rfl) (funext fun n => bias_apply _ _)) n

end Cert.GluIdeal.Body
-- ==== Proof.GluRefVal.lean ====
module

public import proofs.«01_k».proof.Proof.Gen.GluRefIdeal.Read
public import proofs.«01_k».proof.Proof.Norm

@[expose] public section

set_option maxRecDepth 16384

noncomputable section

namespace Cert.GluRefIdeal.Body

open Idealize.ShloMosaic Idealize.ShloMosaic.TcCoe
open Cert.GluRefIdeal Cert.GluRefIdeal.Gen Cert.GluRefIdeal.Read Cert.Norm

theorem normed_at (x : Vec Ideal S16x2048x1024 .f32) (g : Vec Ideal S1024 .f32) (b : Fin 16) (s : Fin 2048) (k : Fin 1024) :
    val_main_v12 (F := Ideal) x g (ix3 b s k) = normed (fun j => x (ix3 b s j)) (fun j => g (ix1 j)) k := by
  rw [val_main_v12_apply, val_main_v9_apply, val_main_v8_apply, val_main_v7_apply, val_main_v6_apply, val_main_v4_apply,
    val_main_v2_apply, val_main_v1_apply, val_main_cst_apply, val_main_v3_apply, val_main_cst_0_apply, val_main_v5_apply, val_main_cst_1_apply, val_main_v11_apply, val_main_v10_apply]
  simp only [val_main_v0_apply]
  show x (ix3 b s k) * Ideal.rsqrt (Ideal.div (Ideal.ofBits .f32 0#32 + ∑ j : Fin 1024, x _ * x _) _ + _) * g _ = _
  rw [bits_zero, zero_add]
  have e : ∀ j, idx_main_v1 (idx_main_v2 (idx_main_v8 (ix3 b s k))) j = ix3 b s j := fun j => by
    funext a; match a with | ⟨0, _⟩ => rfl | ⟨1, _⟩ => rfl | ⟨2, _⟩ => rfl
  have e' : idx_main_v10 (idx_main_v11 (ix3 b s k)) = ix1 k := by
    funext a; match a with | ⟨0, _⟩ => rfl
  simp only [e, e']
  rfl

/-- A product with its bias, before the split. -/
theorem hidden_at (x : Vec Ideal S16x2048x1024 .f32) (g : Vec Ideal S1024 .f32) (w : Vec Ideal S1024x2048 .f32) (b : Vec Ideal S2048 .f32)
    (a : Fin 16) (s : Fin 2048) (n : Fin 2048) :
    val_main_v16 (F := Ideal) x g w b (ix3 a s n)
      = proj (fun j => x (ix3 a s j)) (fun j => g (ix1 j)) (fun k => w (ix2 k n)) + b (ix1 n) := by
  rw [val_main_v16_apply, val_main_v13_apply, val_main_v15_apply, val_main_v14_apply]
  have e : ∀ k, lidx_main_v13 (ix3 a s n) k = ix3 a s k := fun k => by
    funext d; match d with | ⟨0, _⟩ => rfl | ⟨1, _⟩ => rfl | ⟨2, _⟩ => rfl
  have e' : ∀ k, ridx_main_v13 (ix3 a s n) k = ix2 k n := fun k => by
    funext d; match d with | ⟨0, _⟩ => rfl | ⟨1, _⟩ => rfl
  have eb : idx_main_v14 (idx_main_v15 (ix3 a s n)) = ix1 n := by
    funext d; match d with | ⟨0, _⟩ => rfl
  rw [eb]
  refine congrArg (· + b (ix1 n)) (Finset.sum_congr rfl fun k _ => ?_)
  rw [e, e', normed_at]

theorem ref_at (x : Vec Ideal S16x2048x1024 .f32) (g : Vec Ideal S1024 .f32) (w : Vec Ideal S1024x2048 .f32) (b : Vec Ideal S2048 .f32)
    (r : Fin 32768) (n : Fin 1024) :
    val_main_v26 (F := Ideal) x g w b (ix2 r n)
      = gated (proj (fun j => x (ix3 (batch r) (place r) j)) (fun j => g (ix1 j)) (fun k => w (ix2 k ⟨n.val, by omega⟩)) + b (ix1 ⟨n.val, by omega⟩))
          (proj (fun j => x (ix3 (batch r) (place r) j)) (fun j => g (ix1 j)) (fun k => w (ix2 k ⟨1024 + n.val, by omega⟩)) + b (ix1 ⟨1024 + n.val, by omega⟩)) := by
  have hn := n.isLt
  have e : idx_main_v26 (ix2 r n) = ix3 (batch r) (place r) n := by
    funext a
    apply Fin.ext
    match a with
    | ⟨0, _⟩ => show (r.val * 1024 + n.val) / 2097152 = r.val / 2048; omega
    | ⟨1, _⟩ => show (r.val * 1024 + n.val) / 1024 % 2048 = r.val % 2048; omega
    | ⟨2, _⟩ => show (r.val * 1024 + n.val) % 1024 = n.val; omega
  have e1 : idx_main_v17 (ix3 (batch r) (place r) n) = ix3 (batch r) (place r) ⟨n.val, by omega⟩ := by
    funext d; match d with | ⟨0, _⟩ => rfl | ⟨1, _⟩ => rfl | ⟨2, _⟩ => rfl
  have e2 : idx_main_v18 (ix3 (batch r) (place r) n) = ix3 (batch r) (place r) ⟨1024 + n.val, by omega⟩ := by
    funext d; match d with | ⟨0, _⟩ => rfl | ⟨1, _⟩ => rfl | ⟨2, _⟩ => rfl
  rw [gated_eq, val_main_v26_apply, e, val_main_v25_apply, val_main_v17_apply, val_main_v24_apply, val_main_v23_apply, val_main_cst_3_apply,
    val_main_v22_apply, val_main_v21_apply, val_main_cst_2_apply, val_main_v20_apply, val_main_v19_apply, val_main_v18_apply, e1, e2, hidden_at, hidden_at]
  rfl

end Cert.GluRefIdeal.Body
-- ==== Proof.ConvLoop.lean ====
module

public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp

@[expose] public section

set_option maxRecDepth 16384
set_option maxHeartbeats 4000000

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvIdeal Cert.ConvIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)
  (B : BufTy.Contents (Elt F) arg6.view.ty) (X : BufTy.Contents (Elt F) arg12.view.ty)
  (S : BufTy.Contents (Elt F) arg13.view.ty) (W : BufTy.Contents (Elt F) arg14.view.ty)

/-- What a trip of the loop over blocks of rows holds: the bias, the padded rows, their shifted copies, the spread
    taps and the convolved rows. -/
abbrev Held (f : BufTy.Contents (Elt F) arg15.view.ty) : sProp 𝕄 :=
  iprop((arg6.view.loc (c : Thread nD τ) ↦[arg6.view.set]{fullShare} B)
    ∗ (arg12.view.loc (c : Thread nD τ) ↦[arg12.view.set]{fullShare} X)
    ∗ (arg13.view.loc (c : Thread nD τ) ↦[arg13.view.set]{fullShare} S)
    ∗ (arg14.view.loc (c : Thread nD τ) ↦[arg14.view.set]{fullShare} W)
    ∗ (arg15.view.loc (c : Thread nD τ) ↦[arg15.view.set]{fullShare} f))

/-- One trip: the blocks of eight rows that it stores. -/
def trip (k : Fin k0_t1_loop.trips) :
    { L : List (View.Piece (Elt F) S512x1024 .f32) // ∀ (v199 : FVec F S8x1024 .f32) (v200 : Vec F S1x8x1024 .f32) (E : Set ℕ) (f : BufTy.Contents (Elt F) arg15.view.ty),
      Held c arg6 arg12 arg13 arg14 arg15 B X S W f
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v199 v200 k ())
          (fun _ => Held c arg6 arg12 arg13 arg14 arg15 B X S W (arg15.view.writes (Elt F) f L)) } := by
  have hk : k.val < 16 := Nat.lt_of_lt_of_le k.isLt k0_t1_abs.2.1
  refine ⟨?_, fun v199 v200 E f => ?run⟩
  case run =>
    unfold k0_t1_body
    iintro ⟨HB, HX, HS, HW, HO⟩
    sl_exec
    sl_step
    sl_close

/-- The stores of the first `n` trips, the newest in front. -/
def stores : ℕ → List (View.Piece (Elt F) S512x1024 .f32)
  | 0 => []
  | n + 1 => (if h : n < k0_t1_loop.trips then (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W ⟨n, h⟩).1 else []) ++ stores n

theorem stores_succ (k : Fin k0_t1_loop.trips) :
    stores 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W (k.val + 1)
      = (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W k).1 ++ stores 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W k.val := by
  rw [stores, dif_pos k.isLt]

set_option warn.classDefReducibility false in
/-- The loop: before trip `k` the rows of the first `k` trips are stored. -/
@[sl_loop] def loop (v199 : FVec F S8x1024 .f32) (v200 : Vec F S1x8x1024 .f32) (E : Set ℕ) (G : BufTy.Contents (Elt F) arg15.view.ty) :
    LoopInv (M := 𝕄) frame (wpE (defs₀ (F := F)) 𝒱 (c : Thread nD τ) bd) E k0_t1_loop.lb k0_t1_loop.ub k0_t1_loop.st k0_t1_ok ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v199 v200) where
  inv k _ := iprop((arg6.view.loc (c : Thread nD τ) ↦[arg6.view.set]{fullShare} B)
    ∗ (arg12.view.loc (c : Thread nD τ) ↦[arg12.view.set]{fullShare} X)
    ∗ (arg13.view.loc (c : Thread nD τ) ↦[arg13.view.set]{fullShare} S)
    ∗ (arg14.view.loc (c : Thread nD τ) ↦[arg14.view.set]{fullShare} W)
    ∗ (∃ f, (arg15.view.loc (c : Thread nD τ) ↦[arg15.view.set]{fullShare} f)
        ∗ ⌜f = arg15.view.writes (Elt F) G (stores 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W k)⌝))
  step k acc := by
    iintro ⟨HB, HX, HS, HW, ⟨%f, HO, %hf⟩⟩
    iapply (wp_wand_r frame (wpE (defs₀ (F := F)) 𝒱 (c : Thread nD τ) bd) E)
    isplitl [HB HX HS HW HO]
    · iapply ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W k).2 v199 v200 E f)
      isplitl [HB]; · iexact HB
      isplitl [HX]; · iexact HX
      isplitl [HS]; · iexact HS
      isplitl [HW]; · iexact HW
      iexact HO
    · iintro %_ ⟨HB, HX, HS, HW, HO⟩
      isplitl [HB]; · iexact HB
      isplitl [HX]; · iexact HX
      isplitl [HS]; · iexact HS
      isplitl [HW]; · iexact HW
      rw [stores_succ]
      iexists _; isplitl [HO]; · iexact HO
      ipureintro; rw [hf, ← View.writes_append]

end Cert.ConvIdeal.Body
-- ==== Proof.ConvRun.lean ====
module

public import proofs.«01_k».proof.Proof.ConvLoop
public import proofs.«01_k».proof.Proof.Gen.ConvIdeal.Frame

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen

variable {F : FTy → Type} [FloatOps F]

local notation "𝕄" => MT nD τ sig Unit (Elt F) ℕ (UR sig nD τ) ℕ

variable (c : Dev nD) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)

set_option maxHeartbeats 4000000 in
/-- One grid point: the pieces of the output block that it stores, whatever the scratch buffers start at. -/
def run (x0 : Vec F S1x512x1024 .f32) (x1 : Vec F S1x32x1024 .f32) (x2 : Vec F S1x512x1024 .f32) (x3 : Vec F S31x1024 .f32) (x4 : Vec F S1x1024 .f32) (x5 : Vec F S1x1024 .f32) (x6 : Vec F S1x1024 .f32) (x7 : Vec F S1024x1024 .bf16) (x8 : Vec F S1x1024 .f32) :
    { L : List (View.Piece (Elt F) S1x512x1024 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L)
                ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_conv_dw (F := F) i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_conv_dw_eq_skeleton]; unfold cc0_conv_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.ConvIdeal.Body
-- ==== Proof.ConvFrame.lean ====
module

public import proofs.«01_k».proof.Proof.ConvRun
public import proofs.«01_k».proof.Proof.Gen.ConvIdeal.Frame
public import Idealize.ShloMosaic.Lib.Claim

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen

variable {F : FTy → Type} [FloatOps F]

local notation "𝕄" => MT nD τ sig Unit (Elt F) ℕ (UR sig nD τ) ℕ

/-- The windows' buffers at a grid point. -/
abbrev stg0 (t : Fin cfg0.N) : Memref sig .tc .vmem S1x512x1024 .f32 := win0_0.stage (cfg0.slots t 0)
abbrev stg1 (t : Fin cfg0.N) : Memref sig .tc .vmem S1x32x1024 .f32 := win0_1.stage (cfg0.slots t 1)
abbrev stg2 (t : Fin cfg0.N) : Memref sig .tc .vmem S1x512x1024 .f32 := win0_2.stage (cfg0.slots t 2)
abbrev stg3 (t : Fin cfg0.N) : Memref sig .tc .vmem S31x1024 .f32 := win0_3.stage (cfg0.slots t 3)
abbrev stg4 (t : Fin cfg0.N) : Memref sig .tc .vmem S1x1024 .f32 := win0_4.stage (cfg0.slots t 4)
abbrev stg5 (t : Fin cfg0.N) : Memref sig .tc .vmem S1x1024 .f32 := win0_5.stage (cfg0.slots t 5)
abbrev stg6 (t : Fin cfg0.N) : Memref sig .tc .vmem S1x1024 .f32 := win0_6.stage (cfg0.slots t 6)
abbrev stg7 (t : Fin cfg0.N) : Memref sig .tc .vmem S1024x1024 .bf16 := win0_7.stage (cfg0.slots t 7)
abbrev stg8 (t : Fin cfg0.N) : Memref sig .tc .vmem S1x1024 .f32 := win0_8.stage (cfg0.slots t 8)
abbrev stg9 (t : Fin cfg0.N) : Memref sig .tc .vmem S1x512x1024 .f32 := win0_9.stage (cfg0.slots t 9)
abbrev whole0 (t : Fin cfg0.N) : (stg0 t).IsWhole := hstage0_0 ((cfg0.slots t 0).cast nbuf0_0)
abbrev whole1 (t : Fin cfg0.N) : (stg1 t).IsWhole := hstage0_1 ((cfg0.slots t 1).cast nbuf0_1)
abbrev whole2 (t : Fin cfg0.N) : (stg2 t).IsWhole := hstage0_2 ((cfg0.slots t 2).cast nbuf0_2)
abbrev whole3 (t : Fin cfg0.N) : (stg3 t).IsWhole := hstage0_3 ((cfg0.slots t 3).cast nbuf0_3)
abbrev whole4 (t : Fin cfg0.N) : (stg4 t).IsWhole := hstage0_4 ((cfg0.slots t 4).cast nbuf0_4)
abbrev whole5 (t : Fin cfg0.N) : (stg5 t).IsWhole := hstage0_5 ((cfg0.slots t 5).cast nbuf0_5)
abbrev whole6 (t : Fin cfg0.N) : (stg6 t).IsWhole := hstage0_6 ((cfg0.slots t 6).cast nbuf0_6)
abbrev whole7 (t : Fin cfg0.N) : (stg7 t).IsWhole := hstage0_7 ((cfg0.slots t 7).cast nbuf0_7)
abbrev whole8 (t : Fin cfg0.N) : (stg8 t).IsWhole := hstage0_8 ((cfg0.slots t 8).cast nbuf0_8)
abbrev whole9 (t : Fin cfg0.N) : (stg9 t).IsWhole := hstage0_9 ((cfg0.slots t 9).cast nbuf0_9)
abbrev scr0 : Memref sig .tc .vmem S544x1024 .f32 := Memref.whole cc0_scratch0
abbrev scr1 : Memref sig .tc .vmem S7x536x1024 .f32 := Memref.whole cc0_scratch1
abbrev scr2 : Memref sig .tc .vmem S31x8x1024 .f32 := Memref.whole cc0_scratch2
abbrev scr3 : Memref sig .tc .vmem S512x1024 .f32 := Memref.whole cc0_scratch3

theorem scratch_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA
  rw [scopedRest0_eq]
  simp only [owns_whole]
  rfl

abbrev outView : View sig .tc .vmem S1x512x1024 .f32 := (Memref.whole cc0_stg9_0 : Memref sig .tc .vmem S1x512x1024 .f32).view

variable (m : (ℓ : Loc nD τ sig) → Buf (Elt F) ℓ) (ρ : Dev nD → PrngReg)

/-- The stores of grid point `t`. -/
abbrev runAt (c : Dev nD) (t : Fin cfg0.N) :=
  run c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) (iblk m c 5 t) (iblk m c 6 t) (iblk m c 7 t) (iblk m c 8 t)

theorem covers (c : Dev nD) (t : Fin cfg0.N) (y : S1x512x1024.Idx) : ∃ pc ∈ (runAt m c t).1, y ∈ pc.1.set :=
  View.cover_of_tiledL (runAt m c t).1 S1x512x1024.size (by sl_kernel_rfl) y

/-- The block that grid point `t` leaves. -/
def outAt (c : Dev nD) (t : Fin cfg0.N) : Vec F S1x512x1024 .f32 :=
  outView.read (Elt F) (outView.writes (Elt F) outView.junk (runAt m c t).1)

/-- What the pipeline carries: its arrays, and what each window holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q w := Pipeline.shareOf spec0 w
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]
theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d
theorem before7 (c : Dev nD) (t : Fin cfg0.N) (d) : (dats m 0 c).before 7 t d = iblk m c 7 t :=
  before0_7_of m (dats m 0 c) (arrays m c 7) (after7 m c) t d
theorem before8 (c : Dev nD) (t : Fin cfg0.N) (d) : (dats m 0 c).before 8 t d = iblk m c 8 t :=
  before0_8_of m (dats m 0 c) (arrays m c 8) (after8 m c) t d

/-- What the body of a grid point is handed. -/
def handed (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- What the body of a grid point gives back. -/
def given (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t))

set_option maxHeartbeats 2000000 in
theorem body_sound (c : Dev nD) (t : Fin cfg0.N) :
    handed m c t ⊢ wp frame (wpE (defs₀ (F := F)) Variants.none c none) Set.univ (bodyAt0 t) (fun _ => given m c t) := by
  unfold handed given bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, scratch_eq]
  unfold outAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns
  iexists _
  isplitr
  swap; · iexact H9
  ipureintro
  exact View.read_writes_of_cover _ _ _ _ _ (covers m c t)

theorem row_eq (t : Fin cfg0.N) : defs₀ (F := F) .tc cfg0.body (cfg0.bodyArgs t (cfg0.slots t)) = bodyAt0 t := by
  unfold defs₀
  rw [Defs.onTc_tc]

theorem body_ok (c : Dev nD) : BodyObligation (dats (F := F) m 0 c) (defs₀ (F := F)) Variants.none () Set.univ := fun t => by
  rw [bigSep_W0, bigSep_W0, row_eq]
  exact triple_restated (body_sound m c t) rfl .rfl fun _ => .rfl

set_option backward.isDefEq.respectTransparency.types false in
/-- The launch: every array ends at what the pipeline computes, every counter at zero. -/
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := arrays m) (hΦ := fun _ _ => rfl)

/-- The arguments end as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (arrays m) ((θ_run defs _ _).mono (fun _ h => h.1) (launched m ρ))

/-- The arguments end as they were, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (kept m ρ) ((θ_run defs _ _).mono (fun _ h => h.2) (launched m ρ))

/-- The output array ends at what the pipeline computes, and the arguments as they were. -/
theorem finished : θ_run defs (onTc (τ := τ) (main (F := F))) ⟨m, fun _ => 0, ρ⟩ (fun r => ∀ c : Dev nD,
      r.2.mem ((c : Thread nD τ).loc main_v5) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1.1 c).1 9, h.2 c⟩) (θ_run_and (launched m ρ) (kept m ρ))

end Cert.ConvIdeal.Body
-- ==== Proof.ConvTrip.lean ====
module

public import proofs.«01_k».proof.Proof.ConvLoop
public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Ring
public import Idealize.ShloMosaic.Lib.Exec
public import Idealize.ShloMosaic.Lib.Tactic
public import Idealize.ShloMosaic.Lib.WordCmp

@[expose] public section

set_option maxRecDepth 16384
set_option maxHeartbeats 4000000

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvIdeal Cert.ConvIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)
  (B : BufTy.Contents (Elt F) arg6.view.ty) (X : BufTy.Contents (Elt F) arg12.view.ty)
  (S : BufTy.Contents (Elt F) arg13.view.ty) (W : BufTy.Contents (Elt F) arg14.view.ty)

theorem slab_inb (n : Fin 31) : ∀ a, (![(n.val + 2) % 8 - 1, 0, 0] : Fin 3 → ℕ) a + S1x536x1024.size a ≤ S7x536x1024.size a := by
  revert n
  decide

theorem tap_inb (n : Fin 31) : ∀ a, (![n.val, 0, 0] : Fin 3 → ℕ) a + S1x8x1024.size a ≤ S31x8x1024.size a := by
  revert n
  decide

/-- The eight rows that tap `n` reads for block `q` of a trip: rows of the padded block when the tap's phase is zero,
    rows of the copy shifted by the phase otherwise. -/
def taken (k : Fin k0_t1_loop.trips) (q : Fin 4) (n : Fin 31) : Vec F S8x1024 .f32 :=
  if h : (n.val + 2) % 8 = 0 then
    View.readAt (Elt F) arg12.view (Rect.unit (s := S544x1024) (k0_off2 k (BitVec.ofNat 32 (8 + 8 * ((n.val + 2) / 8 - 1))) (BitVec.ofNat 32 (8 * q.val))) S8x1024.size
      (k0_off2_inb k ⟨(n.val + 2) / 8 - 1, by omega⟩ q)).toLoadRect X
  else
    View.readAt (Elt F) ((arg13.slice (Rect.unit (s := S7x536x1024) ![(n.val + 2) % 8 - 1, 0, 0] S1x536x1024.size (slab_inb n)) (fun _ => rfl)).squeeze S536x1024 squeezes_S1x536x1024_S536x1024).view
      (Rect.unit (s := S536x1024) (k0_off1 k (BitVec.ofNat 32 (8 * ((n.val + 2) / 8))) (BitVec.ofNat 32 (8 * q.val))) S8x1024.size
        (k0_off1_inb k ⟨(n.val + 2) / 8, by omega⟩ q)).toLoadRect S

/-- The spread tap `n`. -/
def tapOf (n : Fin 31) : FVec F S8x1024 .f32 :=
  k0_pay3 (View.readAt (Elt F) arg14.view (Rect.unit (s := S31x8x1024) ![n.val, 0, 0] S1x8x1024.size (tap_inb n)).toLoadRect W)

/-- Block `q` of a trip after its first `n` taps. -/
def pile (k : Fin k0_t1_loop.trips) (q : Fin 4) : ℕ → FVec F S8x1024 .f32
  | 0 => k0_pay2 (View.readAt (Elt F) arg6.view (Rect.unit (s := S1x1024) ![0, 0] S1x1024.size inb_S1x1024_S1x1024_0_0).toLoadRect B)
  | n + 1 => if h : n < 31 then addf (pile k q n) (mulf (taken arg12 arg13 X S k q ⟨n, h⟩) (tapOf arg14 W ⟨n, h⟩)) else pile k q n

/-- The store of block `q` of a trip. -/
def block (k : Fin k0_t1_loop.trips) (q : Fin 4) : View.Piece (Elt F) S512x1024 .f32 :=
  ⟨Rect.unit (s := S512x1024) (k0_off3 k (BitVec.ofNat 32 (8 * q.val))) S8x1024.size (k0_off3_inb k q), k0_pay153 (pile arg6 arg12 arg13 arg14 B X S W k q 31)⟩

theorem trip_eq (k : Fin k0_t1_loop.trips) :
    (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 B X S W k).1
      = [block arg6 arg12 arg13 arg14 B X S W k 3, block arg6 arg12 arg13 arg14 B X S W k 2, block arg6 arg12 arg13 arg14 B X S W k 1, block arg6 arg12 arg13 arg14 B X S W k 0] := by
  unfold trip
  rfl

end Cert.ConvIdeal.Body
-- ==== Proof.ConvPieces.lean ====
module

public import proofs.«01_k».proof.Proof.ConvFrame
public import proofs.«01_k».proof.Proof.ConvTrip
public import proofs.«01_k».proof.Proof.Gen.ConvIdeal.Frame

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen

variable {F : FTy → Type} [FloatOps F]

local notation "𝕄" => MT nD τ sig Unit (Elt F) ℕ (UR sig nD τ) ℕ

variable (c : Dev nD) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)

theorem rows_inb (n : Fin 7) : ∀ a, (![n.val + 1, 0] : Fin 2 → ℕ) a + S536x1024.size a ≤ S544x1024.size a := by
  revert n
  decide

theorem copy_inb (n : Fin 7) : ∀ a, (![n.val, 0, 0] : Fin 3 → ℕ) a + S1x536x1024.size a ≤ S7x536x1024.size a := by
  revert n
  decide

theorem row_inb (n : Fin 31) : ∀ a, (![n.val, 0] : Fin 2 → ℕ) a + S1x1024.size a ≤ S31x1024.size a := by
  revert n
  decide

/-- The stores of the padded rows: the block's own rows over the rows before them. -/
def padded (x0 : Vec F S1x512x1024 .f32) (x1 : Vec F S1x32x1024 .f32) : List (View.Piece (Elt F) S544x1024 .f32) :=
  [⟨Rect.unit (s := S544x1024) ![32, 0] S512x1024.size inb_S544x1024_S512x1024_32_0,
      k0_pay158 (View.readAt (Elt F) arg2.view (Rect.unit (s := S1x512x1024) ![0, 0, 0] S1x512x1024.size inb_S1x512x1024_S1x512x1024_0_0_0).toLoadRect (harg2.unread x0))⟩,
   ⟨Rect.unit (s := S544x1024) ![0, 0] S32x1024.size inb_S544x1024_S32x1024_0_0,
      k0_pay157 i (View.readAt (Elt F) arg3.view (Rect.unit (s := S1x32x1024) ![0, 0, 0] S1x32x1024.size inb_S1x32x1024_S1x32x1024_0_0_0).toLoadRect (harg3.unread x1))⟩]

/-- What the buffer of padded rows holds. -/
abbrev paddedAt (x0 : Vec F S1x512x1024 .f32) (x1 : Vec F S1x32x1024 .f32) : BufTy.Contents (Elt F) arg12.view.ty :=
  arg12.view.writes (Elt F) arg12.view.junk (padded i arg2 harg2 arg3 harg3 x0 x1)

/-- The first `n` shifted copies of the padded rows, the newest in front. -/
def copies (X : BufTy.Contents (Elt F) arg12.view.ty) : ℕ → List (View.Piece (Elt F) S7x536x1024 .f32)
  | 0 => []
  | n + 1 => if h : n < 7 then ⟨Rect.unit (s := S7x536x1024) ![n, 0, 0] S1x536x1024.size (copy_inb ⟨n, h⟩),
      k0_pay159 (View.readAt (Elt F) arg12.view (Rect.unit (s := S544x1024) ![n + 1, 0] S536x1024.size (rows_inb ⟨n, h⟩)).toLoadRect X)⟩ :: copies X n else copies X n

/-- The first `n` spread taps, the newest in front. -/
def spread (x3 : Vec F S31x1024 .f32) : ℕ → List (View.Piece (Elt F) S31x8x1024 .f32)
  | 0 => []
  | n + 1 => if h : n < 31 then ⟨Rect.unit (s := S31x8x1024) ![n, 0, 0] S1x8x1024.size (tap_inb ⟨n, h⟩),
      k0_pay166 (View.readAt (Elt F) arg5.view (Rect.unit (s := S31x1024) ![n, 0] S1x1024.size (row_inb ⟨n, h⟩)).toLoadRect (harg5.unread x3))⟩ :: spread x3 n else spread x3 n

/-- What the convolved rows hold after the loop, as it is read. -/
abbrev convolved (x0 : Vec F S1x512x1024 .f32) (x1 : Vec F S1x32x1024 .f32) (x3 : Vec F S31x1024 .f32) (x4 : Vec F S1x1024 .f32) : Vec F S512x1024 .f32 :=
  arg15.view.readCov (stores Variants.none c none i arg2 harg2 arg3 harg3 arg4 harg4 arg5 harg5 arg6 harg6 arg7 harg7 arg8 harg8 arg9 harg9 arg10 harg10 arg11 harg11 arg12 harg12 arg13 harg13 arg14 harg14 arg15 harg15 (harg6.unread x4) (paddedAt i arg2 harg2 arg3 harg3 arg12 x0 x1)
      (arg13.view.writes (Elt F) arg13.view.junk (copies arg12 (paddedAt i arg2 harg2 arg3 harg3 arg12 x0 x1) 7))
      (arg14.view.writes (Elt F) arg14.view.junk (spread arg5 harg5 x3 31)) (Scf.trips k0_t1_loop.lb k0_t1_loop.ub k0_t1_loop.st))
    (Rect.unit (s := S512x1024) ![0, 0] S512x1024.size inb_S512x1024_S512x1024_0_0).toLoadRect

theorem run_eq (x0 : Vec F S1x512x1024 .f32) (x1 : Vec F S1x32x1024 .f32) (x2 : Vec F S1x512x1024 .f32) (x3 : Vec F S31x1024 .f32) (x4 : Vec F S1x1024 .f32) (x5 : Vec F S1x1024 .f32) (x6 : Vec F S1x1024 .f32) (x7 : Vec F S1024x1024 .bf16) (x8 : Vec F S1x1024 .f32) :
    (run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1
      = [⟨Rect.unit (s := S1x512x1024) ![0, 0, 0] S1x512x1024.size inb_S1x512x1024_S1x512x1024_0_0_0,
          k0_pay1 (k0_pay203 (convolved c i arg2 harg2 arg3 harg3 arg4 harg4 arg5 harg5 arg6 harg6 arg7 harg7 arg8 harg8 arg9 harg9 arg10 harg10 arg11 harg11 arg12 harg12 arg13 harg13 arg14 harg14 arg15 harg15 x0 x1 x3 x4)
            (View.readAt (Elt F) arg7.view (Rect.unit (s := S1x1024) ![0, 0] S1x1024.size inb_S1x1024_S1x1024_0_0).toLoadRect (harg7.unread x5))
            (View.readAt (Elt F) arg8.view (Rect.unit (s := S1x1024) ![0, 0] S1x1024.size inb_S1x1024_S1x1024_0_0).toLoadRect (harg8.unread x6))
            (View.readAt (Elt F) arg4.view (Rect.unit (s := S1x512x1024) ![0, 0, 0] S1x512x1024.size inb_S1x512x1024_S1x512x1024_0_0_0).toLoadRect (harg4.unread x2))
            (View.readAt (Elt F) arg9.view (Rect.unit (s := S1024x1024) ![0, 0] S1024x1024.size inb_S1024x1024_S1024x1024_0_0).toLoadRect (harg9.unread x7))
            (View.readAt (Elt F) arg10.view (Rect.unit (s := S1x1024) ![0, 0] S1x1024.size inb_S1x1024_S1x1024_0_0).toLoadRect (harg10.unread x8)))⟩] := by
  unfold run run.sl.r run.sl.v
  rfl

end Cert.ConvIdeal.Body
-- ==== Proof.ConvScratch.lean ====
module

public import proofs.«01_k».proof.Proof.ConvPieces
public import proofs.«01_k».proof.Proof.Norm
public import Idealize.ShloMosaic.Lib.KernelVsHost
public import Idealize.ShloMosaic.Lib.Pipeline.ValueKit.Tiles

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen Cert.Norm

variable (c : Dev nD) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)

theorem off1_eq : ∀ (k : Fin k0_t1_loop.trips) (q a : Fin 4), k0_off1 k (BitVec.ofNat 32 (8 * a.val)) (BitVec.ofNat 32 (8 * q.val)) = ![32 * k.val + 8 * a.val + 8 * q.val, 0] := by
  decide +kernel
theorem off2_eq : ∀ (k : Fin k0_t1_loop.trips) (q : Fin 4) (a : Fin 4), k0_off2 k (BitVec.ofNat 32 (8 + 8 * a.val)) (BitVec.ofNat 32 (8 * q.val)) = ![32 * k.val + 8 * (a.val + 1) + 8 * q.val, 0] := by
  decide +kernel
theorem off3_eq : ∀ (k : Fin k0_t1_loop.trips) (q : Fin 4), k0_off3 k (BitVec.ofNat 32 (8 * q.val)) = ![32 * k.val + 8 * q.val, 0] := by
  decide +kernel
theorem trips_eq : k0_t1_loop.trips = 16 := by decide +kernel

theorem cut2 {n m : ℕ} (y : Shape.Idx ⟨2, ![n, m]⟩) : ∃ (r : Fin n) (j : Fin m), y = ix2 r j :=
  ⟨y 0, y 1, funext fun a => by match a with | 0 => rfl | 1 => rfl⟩
theorem cut3 {n m l : ℕ} (y : Shape.Idx ⟨3, ![n, m, l]⟩) : ∃ (p : Fin n) (r : Fin m) (j : Fin l), y = ix3 p r j :=
  ⟨y 0, y 1, y 2, funext fun a => by match a with | 0 => rfl | 1 => rfl | 2 => rfl⟩

/-! ## The small payloads -/

theorem pay2_apply (v : Vec Ideal S1x1024 .f32) (r : Fin 8) (j : Fin 1024) : k0_pay2 (F := Ideal) v (ix2 r j) = v (ix2 0 j) := by
  pointwise [k0_pay2]
theorem pay3_apply (v : Vec Ideal S1x8x1024 .f32) (r : Fin 8) (j : Fin 1024) : k0_pay3 (F := Ideal) v (ix2 r j) = v (ix3 0 r j) := by
  pointwise [k0_pay3]
theorem pay153_apply (v : Vec Ideal S8x1024 .f32) (r : Fin 8) (j : Fin 1024) : k0_pay153 (F := Ideal) v (ix2 r j) = v (ix2 r j) := by
  pointwise [k0_pay153]
theorem pay158_apply (v : Vec Ideal S1x512x1024 .f32) (r : Fin 512) (j : Fin 1024) : k0_pay158 (F := Ideal) v (ix2 r j) = v (ix3 0 r j) := by
  pointwise [k0_pay158]
theorem pay159_apply (v : Vec Ideal S536x1024 .f32) (r : Fin 536) (j : Fin 1024) : k0_pay159 (F := Ideal) v (ix3 0 r j) = v (ix2 r j) := by
  pointwise [k0_pay159]
theorem pay166_apply (v : Vec Ideal S1x1024 .f32) (r : Fin 8) (j : Fin 1024) : k0_pay166 (F := Ideal) v (ix3 0 r j) = v (ix2 0 j) := by
  pointwise [k0_pay166]
theorem first_word : ∀ n : Fin 4, Scalar.cmpi .eq (BitVec.ofNat 32 n.val) 0#32 = if n.val = 0 then 1#1 else 0#1 := by decide +kernel
theorem pay157_apply (v : Vec Ideal S1x32x1024 .f32) (r : Fin 32) (j : Fin 1024) :
    k0_pay157 (F := Ideal) i v (ix2 r j) = if (i 1).val = 0 then 0 else v (ix3 0 r j) := by
  have h := first_word (i 1)
  unfold k0_pay157
  rw [h]
  by_cases q : (i 1).val = 0
  · rw [if_pos q, if_pos q]
    refine (shapeCast_apply _ _ (ix2 r j) (ix2 r j) rfl).trans ?_
    exact bits_zero
  · rw [if_neg q, if_neg q]
    refine (shapeCast_apply _ _ (ix2 r j) (ix2 r j) rfl).trans ?_
    refine shapeCast_apply v _ (ix2 r j) (ix3 0 r j) ?_
    rw [Shape.rowMajor_val_three, Shape.rowMajor_val_two]
    show (0 * 32 + r.val) * 1024 + j.val = r.val * 1024 + j.val
    omega

/-! ## The scratch arrays -/

/-- Row `r` of the padded rows: the 32 rows before the block, zero before the sequence, and then the block's rows. -/
def extRow (n : ℕ) (x0 : Vec Ideal S1x512x1024 .f32) (x1 : Vec Ideal S1x32x1024 .f32) (r : ℕ) (j : Fin 1024) : EReal :=
  if h : r < 32 then (if n = 0 then 0 else x1 (ix3 0 ⟨r, h⟩ j)) else if g : r < 544 then x0 (ix3 0 ⟨r - 32, by omega⟩ j) else 0

theorem ext_read (x0 : Vec Ideal S1x512x1024 .f32) (x1 : Vec Ideal S1x32x1024 .f32) :
    arg12.view.read (Elt Ideal) (paddedAt (F := Ideal) i arg2 harg2 arg3 harg3 arg12 x0 x1) = fun y => extRow (i 1).val x0 x1 (y 0).val (y 1) := by
  funext y
  refine View.read_writes_apply_of_pieces (Val := Elt Ideal) arg12.view _ (fun y => extRow (i 1).val x0 x1 (y 0).val (y 1) : Vec Ideal S544x1024 .f32) _ ?_ y ?_
  · intro p hp t
    rcases List.mem_cons.1 hp with rfl | hp
    · obtain ⟨r, j, rfl⟩ := cut2 t
      refine (pay158_apply (View.readAt (Elt Ideal) arg2.view (Rect.unit (s := S1x512x1024) ![0, 0, 0] S1x512x1024.size inb_S1x512x1024_S1x512x1024_0_0_0).toLoadRect (harg2.unread x0)) r j).trans ?_
      rw [View.readAt_eq_ld, Memref.IsWhole.read_unread, View.ld_unit_zero (by decide)]
      have h0 : (((Rect.unit (s := S544x1024) ![32, 0] S512x1024.size inb_S544x1024_S512x1024_32_0).emb (ix2 r j)) 0).val = 32 + r.val :=
        Rect.idx_unit_val _ _ _ _ 0
      have h1 : (((Rect.unit (s := S544x1024) ![32, 0] S512x1024.size inb_S544x1024_S512x1024_32_0).emb (ix2 r j)) 1) = j :=
        Fin.ext ((Rect.idx_unit_val _ _ _ _ 1).trans (Nat.zero_add _))
      show _ = extRow _ _ _ _ _
      rw [h1, h0]
      unfold extRow
      rw [dif_neg (by omega), dif_pos (by omega)]
      congr 2
      exact Fin.ext (by show r.val = 32 + r.val - 32; omega)
    · obtain rfl := List.mem_singleton.1 hp
      obtain ⟨r, j, rfl⟩ := cut2 t
      refine (pay157_apply i _ r j).trans ?_
      rw [View.readAt_eq_ld, Memref.IsWhole.read_unread, View.ld_unit_zero (by decide)]
      have h0 : (((Rect.unit (s := S544x1024) ![0, 0] S32x1024.size inb_S544x1024_S32x1024_0_0).emb (ix2 r j)) 0).val = r.val :=
        (Rect.idx_unit_val _ _ _ _ 0).trans (Nat.zero_add _)
      have h1 : (((Rect.unit (s := S544x1024) ![0, 0] S32x1024.size inb_S544x1024_S32x1024_0_0).emb (ix2 r j)) 1) = j :=
        Fin.ext ((Rect.idx_unit_val _ _ _ _ 1).trans (Nat.zero_add _))
      show _ = extRow _ _ _ _ _
      rw [h1, h0]
      unfold extRow
      rw [dif_pos r.isLt]
  · have hy : (y 0).val < 544 := (y 0).isLt
    have hj : (y 1).val < 1024 := (y 1).isLt
    by_cases q : (y 0).val < 32
    · refine ⟨_, List.mem_cons_of_mem _ (List.mem_cons_self ..), (Rect.mem_set_unit (inb := inb_S544x1024_S32x1024_0_0)).2 fun a => ?_⟩
      match a with
      | 0 => exact ⟨Nat.zero_le _, by show (y 0).val < 0 + 32; omega⟩
      | 1 => exact ⟨Nat.zero_le _, by show (y 1).val < 0 + 1024; omega⟩
    · refine ⟨_, List.mem_cons_self .., (Rect.mem_set_unit (inb := inb_S544x1024_S512x1024_32_0)).2 fun a => ?_⟩
      match a with
      | 0 => exact ⟨by show 32 ≤ (y 0).val; omega, by show (y 0).val < 32 + 512; omega⟩
      | 1 => exact ⟨Nat.zero_le _, by show (y 1).val < 0 + 1024; omega⟩

theorem mem_copies (X : BufTy.Contents (Elt Ideal) arg12.view.ty) : ∀ (n : ℕ) (p : View.Piece (Elt Ideal) S7x536x1024 .f32),
    p ∈ copies arg12 X n ↔ ∃ k : Fin 7, k.val < n ∧ p = ⟨Rect.unit (s := S7x536x1024) ![k.val, 0, 0] S1x536x1024.size (copy_inb k),
      k0_pay159 (View.readAt (Elt Ideal) arg12.view (Rect.unit (s := S544x1024) ![k.val + 1, 0] S536x1024.size (rows_inb k)).toLoadRect X)⟩ := by
  intro n p
  induction n with
  | zero => exact ⟨fun h => absurd h List.not_mem_nil, fun ⟨k, h, _⟩ => absurd h (Nat.not_lt_zero _)⟩
  | succ n ih =>
    by_cases q : n < 7
    · rw [copies, dif_pos q, List.mem_cons, ih]
      constructor
      · rintro (h | ⟨k, h, e⟩)
        · exact ⟨⟨n, q⟩, Nat.lt_succ_self n, h⟩
        · exact ⟨k, by omega, e⟩
      · rintro ⟨k, h, e⟩
        by_cases g : k.val = n
        · obtain rfl : k = ⟨n, q⟩ := Fin.ext g
          exact Or.inl e
        · exact Or.inr ⟨k, by omega, e⟩
    · rw [copies, dif_neg q, ih]
      exact exists_congr fun k => and_congr_left fun _ => by have := k.isLt; omega

theorem mem_spread (x3 : Vec Ideal S31x1024 .f32) : ∀ (n : ℕ) (p : View.Piece (Elt Ideal) S31x8x1024 .f32),
    p ∈ spread arg5 harg5 x3 n ↔ ∃ k : Fin 31, k.val < n ∧ p = ⟨Rect.unit (s := S31x8x1024) ![k.val, 0, 0] S1x8x1024.size (tap_inb k),
      k0_pay166 (View.readAt (Elt Ideal) arg5.view (Rect.unit (s := S31x1024) ![k.val, 0] S1x1024.size (row_inb k)).toLoadRect (harg5.unread x3))⟩ := by
  intro n p
  induction n with
  | zero => exact ⟨fun h => absurd h List.not_mem_nil, fun ⟨k, h, _⟩ => absurd h (Nat.not_lt_zero _)⟩
  | succ n ih =>
    by_cases q : n < 31
    · rw [spread, dif_pos q, List.mem_cons, ih]
      constructor
      · rintro (h | ⟨k, h, e⟩)
        · exact ⟨⟨n, q⟩, Nat.lt_succ_self n, h⟩
        · exact ⟨k, by omega, e⟩
      · rintro ⟨k, h, e⟩
        by_cases g : k.val = n
        · obtain rfl : k = ⟨n, q⟩ := Fin.ext g
          exact Or.inl e
        · exact Or.inr ⟨k, by omega, e⟩
    · rw [spread, dif_neg q, ih]
      exact exists_congr fun k => and_congr_left fun _ => by have := k.isLt; omega

theorem copies_read (X : BufTy.Contents (Elt Ideal) arg12.view.ty) (e : ℕ → Fin 1024 → EReal)
    (hX : arg12.view.read (Elt Ideal) X = fun y => e (y 0).val (y 1)) :
    arg13.view.read (Elt Ideal) (arg13.view.writes (Elt Ideal) arg13.view.junk (copies arg12 X 7)) = fun y => e ((y 0).val + 1 + (y 1).val) (y 2) := by
  funext y
  refine View.read_writes_apply_of_pieces (Val := Elt Ideal) arg13.view _ (fun y => e ((y 0).val + 1 + (y 1).val) (y 2) : Vec Ideal S7x536x1024 .f32) _ ?_ y ?_
  · intro p hp t
    obtain ⟨k, _, rfl⟩ := (mem_copies arg12 X 7 p).1 hp
    obtain ⟨z, r, j, rfl⟩ := cut3 t
    obtain rfl : z = 0 := Fin.ext (by have := z.isLt; omega)
    refine (pay159_apply (View.readAt (Elt Ideal) arg12.view (Rect.unit (s := S544x1024) ![k.val + 1, 0] S536x1024.size (rows_inb k)).toLoadRect X) r j).trans ?_
    have h0 : (((Rect.unit (s := S7x536x1024) ![k.val, 0, 0] S1x536x1024.size (copy_inb k)).emb (ix3 0 r j)) 0).val = k.val :=
      Rect.idx_unit_val _ _ _ _ 0
    have h1 : (((Rect.unit (s := S7x536x1024) ![k.val, 0, 0] S1x536x1024.size (copy_inb k)).emb (ix3 0 r j)) 1).val = r.val :=
      (Rect.idx_unit_val _ _ _ _ 1).trans (Nat.zero_add _)
    have h2 : (((Rect.unit (s := S7x536x1024) ![k.val, 0, 0] S1x536x1024.size (copy_inb k)).emb (ix3 0 r j)) 2) = j :=
      Fin.ext ((Rect.idx_unit_val _ _ _ _ 2).trans (Nat.zero_add _))
    rw [View.readAt_eq_ld, hX]
    show _ = e (_ + 1 + _) _
    rw [h0, h1, h2]
    exact View.ld_unit_apply_of _ _ _ _ (ix2 r j) (ix2 ⟨k.val + 1 + r.val, by omega⟩ j) fun a => by
      match a with
      | 0 => rfl
      | 1 => exact (Nat.zero_add _).symm
  · have h0 : (y 0).val < 7 := (y 0).isLt
    have h1 : (y 1).val < 536 := (y 1).isLt
    have h2 : (y 2).val < 1024 := (y 2).isLt
    refine ⟨_, (mem_copies arg12 X 7 _).2 ⟨y 0, h0, rfl⟩, (Rect.mem_set_unit (inb := copy_inb (y 0))).2 fun a => ?_⟩
    match a with
    | 0 => exact ⟨Nat.le_refl _, by show (y 0).val < (y 0).val + 1; omega⟩
    | 1 => exact ⟨Nat.zero_le _, by show (y 1).val < 0 + 536; omega⟩
    | 2 => exact ⟨Nat.zero_le _, by show (y 2).val < 0 + 1024; omega⟩

theorem spread_read (x3 : Vec Ideal S31x1024 .f32) :
    arg14.view.read (Elt Ideal) (arg14.view.writes (Elt Ideal) arg14.view.junk (spread arg5 harg5 x3 31)) = fun y => x3 (ix2 (y 0) (y 2)) := by
  funext y
  refine View.read_writes_apply_of_pieces (Val := Elt Ideal) arg14.view _ (fun y => x3 (ix2 (y 0) (y 2)) : Vec Ideal S31x8x1024 .f32) _ ?_ y ?_
  · intro p hp t
    obtain ⟨k, _, rfl⟩ := (mem_spread arg5 harg5 x3 31 p).1 hp
    obtain ⟨z, r, j, rfl⟩ := cut3 t
    obtain rfl : z = 0 := Fin.ext (by have := z.isLt; omega)
    refine (pay166_apply (View.readAt (Elt Ideal) arg5.view (Rect.unit (s := S31x1024) ![k.val, 0] S1x1024.size (row_inb k)).toLoadRect (harg5.unread x3)) r j).trans ?_
    have h0 : (((Rect.unit (s := S31x8x1024) ![k.val, 0, 0] S1x8x1024.size (tap_inb k)).emb (ix3 0 r j)) 0) = k :=
      Fin.ext (Rect.idx_unit_val _ _ _ _ 0)
    have h2 : (((Rect.unit (s := S31x8x1024) ![k.val, 0, 0] S1x8x1024.size (tap_inb k)).emb (ix3 0 r j)) 2) = j :=
      Fin.ext ((Rect.idx_unit_val _ _ _ _ 2).trans (Nat.zero_add _))
    rw [View.readAt_eq_ld, Memref.IsWhole.read_unread]
    show _ = x3 (ix2 _ _)
    rw [h0, h2]
    exact View.ld_unit_apply_of x3 ![k.val, 0] S1x1024.size (row_inb k) (ix2 0 j) (ix2 k j) fun a => by
      match a with
      | 0 => rfl
      | 1 => exact (Nat.zero_add _).symm
  · have h0 : (y 0).val < 31 := (y 0).isLt
    have h1 : (y 1).val < 8 := (y 1).isLt
    have h2 : (y 2).val < 1024 := (y 2).isLt
    refine ⟨_, (mem_spread arg5 harg5 x3 31 _).2 ⟨y 0, h0, rfl⟩, (Rect.mem_set_unit (inb := tap_inb (y 0))).2 fun a => ?_⟩
    match a with
    | 0 => exact ⟨Nat.le_refl _, by show (y 0).val < (y 0).val + 1; omega⟩
    | 1 => exact ⟨Nat.zero_le _, by show (y 1).val < 0 + 8; omega⟩
    | 2 => exact ⟨Nat.zero_le _, by show (y 2).val < 0 + 1024; omega⟩

end Cert.ConvIdeal.Body
-- ==== Proof.ConvSum.lean ====
module

public import proofs.«01_k».proof.Proof.ConvScratch
public import proofs.«01_k».proof.Proof.Norm
public import Idealize.ShloMosaic.Lib.KernelVsHost
public import Idealize.ShloMosaic.Lib.Pipeline.ValueKit.Tiles

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen Cert.Norm

variable (c : Dev nD) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)

section Taps

variable (B : BufTy.Contents (Elt Ideal) arg6.view.ty) (X : BufTy.Contents (Elt Ideal) arg12.view.ty)
  (S : BufTy.Contents (Elt Ideal) arg13.view.ty) (W : BufTy.Contents (Elt Ideal) arg14.view.ty)
  (e : ℕ → Fin 1024 → EReal)

/-- Whatever its phase, tap `n` reads the padded rows that lie `n + 2` below the block's. -/
theorem taken_at (hX : arg12.view.read (Elt Ideal) X = fun y => e (y 0).val (y 1))
    (hS : arg13.view.read (Elt Ideal) S = fun y => e ((y 0).val + 1 + (y 1).val) (y 2))
    (k : Fin k0_t1_loop.trips) (q : Fin 4) (n : Fin 31) (r : Fin 8) (j : Fin 1024) :
    taken (F := Ideal) arg12 arg13 X S k q n (ix2 r j) = e (32 * k.val + 8 * q.val + r.val + n.val + 2) j := by
  have hk : k.val < 16 := trips_eq ▸ k.isLt
  have hq := q.isLt
  have hn := n.isLt
  have hr := r.isLt
  unfold taken
  by_cases h : (n.val + 2) % 8 = 0
  · rw [dif_pos h, View.readAt_eq_ld, hX]
    have ho := off2_eq k q ⟨(n.val + 2) / 8 - 1, by omega⟩
    refine (View.ld_unit_apply_of (Val := Elt Ideal) (e := .f32) (fun y => e (y 0).val (y 1) : Vec Ideal S544x1024 .f32) _ _ _ (ix2 r j)
      (ix2 ⟨32 * k.val + 8 * q.val + r.val + n.val + 2, by omega⟩ j) fun a => ?_).trans rfl
    rw [congrFun ho a]
    match a with
    | 0 => show 32 * k.val + 8 * q.val + r.val + n.val + 2 = 32 * k.val + 8 * ((n.val + 2) / 8 - 1 + 1) + 8 * q.val + r.val; omega
    | 1 => exact (Nat.zero_add _).symm
  · rw [dif_neg h]
    have ho := off1_eq k q ⟨(n.val + 2) / 8, by omega⟩
    have hb : 32 * k.val + 8 * ((n.val + 2) / 8) + 8 * q.val + r.val < 536 := by omega
    have e1 : (Rect.unit (s := S536x1024) (k0_off1 k (BitVec.ofNat 32 (8 * ((n.val + 2) / 8))) (BitVec.ofNat 32 (8 * q.val))) S8x1024.size
        (k0_off1_inb k ⟨(n.val + 2) / 8, by omega⟩ q)).toLoadRect.idx (ix2 r j)
        = ix2 ⟨32 * k.val + 8 * ((n.val + 2) / 8) + 8 * q.val + r.val, hb⟩ j := by
      funext a
      refine Fin.ext ((Rect.idx_unit_val _ _ _ _ a).trans ?_)
      rw [congrFun ho a]
      match a with
      | 0 => rfl
      | 1 => exact Nat.zero_add _
    have e2 : Shape.reshapeEquiv (squeezes_S1x536x1024_S536x1024).numel_eq (ix2 ⟨32 * k.val + 8 * ((n.val + 2) / 8) + 8 * q.val + r.val, hb⟩ j)
        = ix3 (0 : Fin 1) ⟨32 * k.val + 8 * ((n.val + 2) / 8) + 8 * q.val + r.val, hb⟩ j :=
      Shape.reshapeEquiv_eq_of_rowMajor _ (by
        rw [Shape.rowMajor_val_three, Shape.rowMajor_val_two]
        show ((0 : ℕ) * 536 + (32 * k.val + 8 * ((n.val + 2) / 8) + 8 * q.val + r.val)) * 1024 + j.val
          = (32 * k.val + 8 * ((n.val + 2) / 8) + 8 * q.val + r.val) * 1024 + j.val
        omega)
    show arg13.view.read (Elt Ideal) S ((Rect.unit (s := S7x536x1024) ![(n.val + 2) % 8 - 1, 0, 0] S1x536x1024.size (slab_inb n)).emb
      (Shape.reshapeEquiv (squeezes_S1x536x1024_S536x1024).numel_eq ((Rect.unit (s := S536x1024) (k0_off1 k (BitVec.ofNat 32 (8 * ((n.val + 2) / 8))) (BitVec.ofNat 32 (8 * q.val))) S8x1024.size
        (k0_off1_inb k ⟨(n.val + 2) / 8, by omega⟩ q)).toLoadRect.idx (ix2 r j)))) = _
    rw [e1, e2, hS]
    have h0 : (((Rect.unit (s := S7x536x1024) ![(n.val + 2) % 8 - 1, 0, 0] S1x536x1024.size (slab_inb n)).emb
        (ix3 (0 : Fin 1) ⟨32 * k.val + 8 * ((n.val + 2) / 8) + 8 * q.val + r.val, hb⟩ j)) 0).val = (n.val + 2) % 8 - 1 :=
      Rect.idx_unit_val _ _ _ _ 0
    have h1 : (((Rect.unit (s := S7x536x1024) ![(n.val + 2) % 8 - 1, 0, 0] S1x536x1024.size (slab_inb n)).emb
        (ix3 (0 : Fin 1) ⟨32 * k.val + 8 * ((n.val + 2) / 8) + 8 * q.val + r.val, hb⟩ j)) 1).val = 32 * k.val + 8 * ((n.val + 2) / 8) + 8 * q.val + r.val :=
      (Rect.idx_unit_val _ _ _ _ 1).trans (Nat.zero_add _)
    have h2 : (((Rect.unit (s := S7x536x1024) ![(n.val + 2) % 8 - 1, 0, 0] S1x536x1024.size (slab_inb n)).emb
        (ix3 (0 : Fin 1) ⟨32 * k.val + 8 * ((n.val + 2) / 8) + 8 * q.val + r.val, hb⟩ j)) 2) = j :=
      Fin.ext ((Rect.idx_unit_val _ _ _ _ 2).trans (Nat.zero_add _))
    show e (_ + 1 + _) _ = _
    rw [h0, h1, h2]
    congr 1
    omega

theorem tap_at (w : Vec Ideal S31x1024 .f32) (hW : arg14.view.read (Elt Ideal) W = fun y => w (ix2 (y 0) (y 2)))
    (n : Fin 31) (r : Fin 8) (j : Fin 1024) : tapOf (F := Ideal) arg14 W n (ix2 r j) = w (ix2 n j) := by
  unfold tapOf
  rw [pay3_apply, View.readAt_eq_ld, hW]
  exact View.ld_unit_apply_of (Val := Elt Ideal) (e := .f32) (fun y => w (ix2 (y 0) (y 2)) : Vec Ideal S31x8x1024 .f32) _ _ _ (ix3 0 r j) (ix3 n r j) fun a => by
    match a with
    | 0 => rfl
    | 1 => exact (Nat.zero_add _).symm
    | 2 => exact (Nat.zero_add _).symm

/-- The contribution of tap `t` to row `r`, zero past the last tap. -/
def tapTerm (w : Vec Ideal S31x1024 .f32) (r : ℕ) (j : Fin 1024) (t : ℕ) : EReal :=
  if h : t < 31 then e (r + t + 2) j * w (ix2 ⟨t, h⟩ j) else 0

theorem pile_at (hX : arg12.view.read (Elt Ideal) X = fun y => e (y 0).val (y 1))
    (hS : arg13.view.read (Elt Ideal) S = fun y => e ((y 0).val + 1 + (y 1).val) (y 2))
    (w : Vec Ideal S31x1024 .f32) (hW : arg14.view.read (Elt Ideal) W = fun y => w (ix2 (y 0) (y 2)))
    (b : Vec Ideal S1x1024 .f32) (hB : arg6.view.read (Elt Ideal) B = b)
    (k : Fin k0_t1_loop.trips) (q : Fin 4) (r : Fin 8) (j : Fin 1024) (n : ℕ) :
    pile (F := Ideal) arg6 arg12 arg13 arg14 B X S W k q n (ix2 r j)
      = b (ix2 0 j) + ∑ t ∈ Finset.range n, tapTerm e w (32 * k.val + 8 * q.val + r.val) j t := by
  induction n with
  | zero =>
    rw [Finset.range_zero, Finset.sum_empty, add_zero, pile, pay2_apply, View.readAt_eq_ld, hB, View.ld_unit_zero (by decide)]
  | succ n ih =>
    rw [Finset.sum_range_succ, ← add_assoc, ← ih, pile]
    unfold tapTerm
    by_cases h : n < 31
    · rw [dif_pos h, dif_pos h]
      show pile (F := Ideal) arg6 arg12 arg13 arg14 B X S W k q n (ix2 r j) + taken (F := Ideal) arg12 arg13 X S k q ⟨n, h⟩ (ix2 r j) * tapOf (F := Ideal) arg14 W ⟨n, h⟩ (ix2 r j) = _
      rw [taken_at arg12 arg13 X S e hX hS, tap_at arg14 W w hW]
    · rw [dif_neg h, dif_neg h, add_zero]

theorem mem_stores (n : ℕ) (p : View.Piece (Elt Ideal) S512x1024 .f32) :
    p ∈ stores (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 B X S W n
      ↔ ∃ (k : Fin k0_t1_loop.trips) (q : Fin 4), k.val < n ∧ p = block arg6 arg12 arg13 arg14 B X S W k q := by
  induction n with
  | zero => exact ⟨fun h => absurd h List.not_mem_nil, fun ⟨k, _, h, _⟩ => absurd h (Nat.not_lt_zero _)⟩
  | succ n ih =>
    by_cases g : n < k0_t1_loop.trips
    · rw [stores_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 B X S W ⟨n, g⟩, trip_eq, List.mem_append, ih]
      constructor
      · rintro (h | ⟨k, q, h, e⟩)
        · rcases List.mem_cons.1 h with h | h
          · exact ⟨⟨n, g⟩, 3, Nat.lt_succ_self n, h⟩
          rcases List.mem_cons.1 h with h | h
          · exact ⟨⟨n, g⟩, 2, Nat.lt_succ_self n, h⟩
          rcases List.mem_cons.1 h with h | h
          · exact ⟨⟨n, g⟩, 1, Nat.lt_succ_self n, h⟩
          · exact ⟨⟨n, g⟩, 0, Nat.lt_succ_self n, List.mem_singleton.1 h⟩
        · exact ⟨k, q, by omega, e⟩
      · rintro ⟨k, q, h, rfl⟩
        by_cases f : k.val = n
        · obtain rfl : k = ⟨n, g⟩ := Fin.ext f
          refine Or.inl ?_
          match q with
          | 0 => exact List.mem_cons_of_mem _ (List.mem_cons_of_mem _ (List.mem_cons_of_mem _ (List.mem_cons_self ..)))
          | 1 => exact List.mem_cons_of_mem _ (List.mem_cons_of_mem _ (List.mem_cons_self ..))
          | 2 => exact List.mem_cons_of_mem _ (List.mem_cons_self ..)
          | 3 => exact List.mem_cons_self ..
        · exact Or.inr ⟨k, q, by omega, rfl⟩
    · rw [stores, dif_neg g, List.nil_append, ih]
      exact exists_congr fun k => exists_congr fun q => and_congr_left fun _ => by have := k.isLt; omega

end Taps

/-- Row `r` of the block after the convolution: the bias and the 31 products. -/
def convRow (n : ℕ) (x0 : Vec Ideal S1x512x1024 .f32) (x1 : Vec Ideal S1x32x1024 .f32) (w : Vec Ideal S31x1024 .f32)
    (b : Vec Ideal S1x1024 .f32) (r : ℕ) (j : Fin 1024) : EReal :=
  b (ix2 0 j) + ∑ t : Fin 31, extRow n x0 x1 (r + t.val + 2) j * w (ix2 t j)

theorem convolved_at (x0 : Vec Ideal S1x512x1024 .f32) (x1 : Vec Ideal S1x32x1024 .f32) (x3 : Vec Ideal S31x1024 .f32) (x4 : Vec Ideal S1x1024 .f32)
    (r : Fin 512) (j : Fin 1024) :
    convolved (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x3 x4 (ix2 r j) = convRow (i 1).val x0 x1 x3 x4 r.val j := by
  have hX := ext_read i arg2 harg2 arg3 harg3 arg12 x0 x1
  have hS := copies_read arg12 arg13 (paddedAt (F := Ideal) i arg2 harg2 arg3 harg3 arg12 x0 x1) (extRow (i 1).val x0 x1) hX
  have hW := spread_read arg5 harg5 arg14 x3
  have hB : arg6.view.read (Elt Ideal) (harg6.unread x4) = x4 := Memref.IsWhole.read_unread harg6 x4
  have hmem := mem_stores c i arg2 harg2 arg3 harg3 arg4 harg4 arg5 harg5 arg6 harg6 arg7 harg7 arg8 harg8 arg9 harg9 arg10 harg10 arg11 harg11 arg12 harg12 arg13 harg13 arg14 harg14 arg15 harg15 (harg6.unread x4) (paddedAt (F := Ideal) i arg2 harg2 arg3 harg3 arg12 x0 x1)
    (arg13.view.writes (Elt Ideal) arg13.view.junk (copies arg12 (paddedAt (F := Ideal) i arg2 harg2 arg3 harg3 arg12 x0 x1) 7))
    (arg14.view.writes (Elt Ideal) arg14.view.junk (spread arg5 harg5 x3 31)) (Scf.trips k0_t1_loop.lb k0_t1_loop.ub k0_t1_loop.st)
  have hcov : ∀ y : S512x1024.Idx, ∃ p ∈ stores (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg6.unread x4) (paddedAt (F := Ideal) i arg2 harg2 arg3 harg3 arg12 x0 x1)
      (arg13.view.writes (Elt Ideal) arg13.view.junk (copies arg12 (paddedAt (F := Ideal) i arg2 harg2 arg3 harg3 arg12 x0 x1) 7))
      (arg14.view.writes (Elt Ideal) arg14.view.junk (spread arg5 harg5 x3 31)) (Scf.trips k0_t1_loop.lb k0_t1_loop.ub k0_t1_loop.st), y ∈ p.1.set := by
    intro y
    have h0 : (y 0).val < 512 := (y 0).isLt
    have h1 : (y 1).val < 1024 := (y 1).isLt
    have hk : (y 0).val / 32 < k0_t1_loop.trips := by rw [trips_eq]; omega
    refine ⟨_, (hmem _).2 ⟨⟨(y 0).val / 32, hk⟩, ⟨(y 0).val % 32 / 8, by omega⟩, hk, rfl⟩, ?_⟩
    refine (Rect.mem_set_unit (inb := k0_off3_inb ⟨(y 0).val / 32, hk⟩ ⟨(y 0).val % 32 / 8, by omega⟩)).2 fun a => ?_
    have ho := off3_eq ⟨(y 0).val / 32, hk⟩ ⟨(y 0).val % 32 / 8, by omega⟩
    rw [congrFun ho a]
    match a with
    | 0 => exact ⟨by show 32 * ((y 0).val / 32) + 8 * ((y 0).val % 32 / 8) ≤ (y 0).val; omega,
        by show (y 0).val < 32 * ((y 0).val / 32) + 8 * ((y 0).val % 32 / 8) + 8; omega⟩
    | 1 => exact ⟨Nat.zero_le _, by show (y 1).val < 0 + 1024; omega⟩
  unfold convolved
  rw [View.readCov_eq_canon_ld _ _ _ (fun _ => hcov _), View.ld_unit_zero (by decide)]
  refine View.canon_apply_of_pieces (Val := Elt Ideal) (fun y => convRow (i 1).val x0 x1 x3 x4 (y 0).val (y 1) : Vec Ideal S512x1024 .f32) _ ?_ (ix2 r j) (hcov _)
  intro p hp t
  obtain ⟨k, q, _, rfl⟩ := (hmem p).1 hp
  obtain ⟨u, l, rfl⟩ := cut2 t
  have ho := off3_eq k q
  have h0 : (((Rect.unit (s := S512x1024) (k0_off3 k (BitVec.ofNat 32 (8 * q.val))) S8x1024.size (k0_off3_inb k q)).emb (ix2 u l)) 0).val = 32 * k.val + 8 * q.val + u.val := by
    refine (Rect.idx_unit_val (s := S512x1024) _ S8x1024.size (k0_off3_inb k q) (ix2 u l) 0).trans ?_
    rw [congrFun ho 0]; rfl
  have h1 : (((Rect.unit (s := S512x1024) (k0_off3 k (BitVec.ofNat 32 (8 * q.val))) S8x1024.size (k0_off3_inb k q)).emb (ix2 u l)) 1) = l := by
    refine Fin.ext ((Rect.idx_unit_val (s := S512x1024) _ S8x1024.size (k0_off3_inb k q) (ix2 u l) 1).trans ?_)
    rw [congrFun ho 1]; exact Nat.zero_add _
  refine (pay153_apply (pile (F := Ideal) arg6 arg12 arg13 arg14 (harg6.unread x4) (paddedAt (F := Ideal) i arg2 harg2 arg3 harg3 arg12 x0 x1)
    (arg13.view.writes (Elt Ideal) arg13.view.junk (copies arg12 (paddedAt (F := Ideal) i arg2 harg2 arg3 harg3 arg12 x0 x1) 7))
    (arg14.view.writes (Elt Ideal) arg14.view.junk (spread arg5 harg5 x3 31)) k q 31) u l).trans ?_
  rw [pile_at arg6 arg12 arg13 arg14 _ _ _ _ (extRow (i 1).val x0 x1) hX hS x3 hW x4 hB]
  show _ = convRow (i 1).val x0 x1 x3 x4 (((Rect.unit (s := S512x1024) (k0_off3 k (BitVec.ofNat 32 (8 * q.val))) S8x1024.size (k0_off3_inb k q)).emb (ix2 u l)) 0).val
    (((Rect.unit (s := S512x1024) (k0_off3 k (BitVec.ofNat 32 (8 * q.val))) S8x1024.size (k0_off3_inb k q)).emb (ix2 u l)) 1)
  rw [h0, h1]
  unfold convRow
  rw [Finset.sum_range]
  refine congrArg (_ + ·) (Finset.sum_congr rfl fun t _ => ?_)
  unfold tapTerm
  rw [dif_pos t.isLt]

end Cert.ConvIdeal.Body
-- ==== Proof.ConvRow.lean ====
module

public import proofs.«01_k».proof.Proof.Norm

/-! A row of the depthwise convolution's block: the layer norm, the logistic unit and the projection that follow it. -/

@[expose] public section

noncomputable section

namespace Cert.Norm

open Idealize.ShloMosaic

/-- Row `r` of a padded sequence: 30 rows of zeros, then the rows of the sequence. -/
def padRow (x : Fin 2048 → Fin 1024 → EReal) (r : ℕ) (j : Fin 1024) : EReal :=
  if q : 30 ≤ r ∧ r < 2078 then x ⟨r - 30, by omega⟩ j else 0

/-- Row `s` of a sequence after the causal convolution with 31 taps, and its bias. -/
def convOf (x : Fin 2048 → Fin 1024 → EReal) (w : Fin 31 → Fin 1024 → EReal) (b : Fin 1024 → EReal) (s : ℕ) (j : Fin 1024) : EReal :=
  (∑ k : Fin 31, padRow x (s + k.val) j * w k j) + b j

/-- The mean of a row of 1024 numbers. -/
def mean (v : Fin 1024 → EReal) : EReal := Ideal.div (∑ k, v k) (Ideal.ofBits .f32 1149239296#32)

/-- An entry of a row less the row's mean. -/
def centred (v : Fin 1024 → EReal) (k : Fin 1024) : EReal := v k - mean v

/-- Entry `k` of a row after the layer norm. -/
def layered (v g b : Fin 1024 → EReal) (k : Fin 1024) : EReal :=
  centred v k * Ideal.rsqrt (mean (fun j => centred v j * centred v j) + Ideal.ofBits .f32 897988541#32) * g k + b k

/-- The logistic unit of a number. -/
def swish (y : EReal) : EReal := gated y y

/-- An entry of the row that leaves the block. -/
def outRow (v g b w : Fin 1024 → EReal) (h o : EReal) : EReal := h + ((∑ k, swish (layered v g b k) * w k) + o)

end Cert.Norm
-- ==== Proof.ConvVal.lean ====
module

public import proofs.«01_k».proof.Proof.ConvSum
public import proofs.«01_k».proof.Proof.ConvRow
public import Idealize.ShloMosaic.Lib.KernelVsHost
public import Idealize.ShloMosaic.Lib.Pipeline.ValueKit.Tiles

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ConvIdeal Cert.ConvIdeal.Gen Cert.Norm

variable (c : Dev nD) (i : grid0.Coords)
  (arg2 : Memref sig .tc .vmem S1x512x1024 .f32) (harg2 : arg2.IsWhole)
  (arg3 : Memref sig .tc .vmem S1x32x1024 .f32) (harg3 : arg3.IsWhole)
  (arg4 : Memref sig .tc .vmem S1x512x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S544x1024 .f32) (harg12 : arg12.IsWhole)
  (arg13 : Memref sig .tc .vmem S7x536x1024 .f32) (harg13 : arg13.IsWhole)
  (arg14 : Memref sig .tc .vmem S31x8x1024 .f32) (harg14 : arg14.IsWhole)
  (arg15 : Memref sig .tc .vmem S512x1024 .f32) (harg15 : arg15.IsWhole)

theorem pay_apply (v : Vec Ideal S512x1024 .f32) (g b : Vec Ideal S1x1024 .f32) (h : Vec Ideal S1x512x1024 .f32) (w : Vec Ideal S1024x1024 .bf16)
    (o : Vec Ideal S1x1024 .f32) (r : Fin 512) (n : Fin 1024) :
    k0_pay1 (F := Ideal) (k0_pay203 (F := Ideal) v g b h w o) (ix3 0 r n)
      = outRow (fun k => v (ix2 r k)) (fun k => g (ix2 0 k)) (fun k => b (ix2 0 k)) (fun k => w (ix2 k n)) (h (ix3 0 r n)) (o (ix2 0 n)) := by
  pointwise [k0_pay1, k0_pay203]
  unfold outRow
  rw [← add_assoc]
  unfold swish gated
  rw [bits_one, bits_zero]
  rfl

/-- What one run of the body stores, at a row and a lane. -/
theorem stored_at (x0 : Vec Ideal S1x512x1024 .f32) (x1 : Vec Ideal S1x32x1024 .f32) (x2 : Vec Ideal S1x512x1024 .f32) (x3 : Vec Ideal S31x1024 .f32)
    (x4 x5 x6 : Vec Ideal S1x1024 .f32) (x7 : Vec Ideal S1024x1024 .bf16) (x8 : Vec Ideal S1x1024 .f32) (r : Fin 512) (n : Fin 1024) :
    View.canon (run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1 (ix3 0 r n)
      = outRow (convRow (i 1).val x0 x1 x3 x4 r.val) (fun k => x5 (ix2 0 k)) (fun k => x6 (ix2 0 k)) (fun k => x7 (ix2 k n)) (x2 (ix3 0 r n)) (x8 (ix2 0 n)) := by
  rw [run_eq, View.canon_unit_zero (by decide), pay_apply]
  simp only [View.readAt_eq_ld, Memref.IsWhole.read_unread]
  rw [View.ld_unit_zero (by decide), View.ld_unit_zero (by decide), View.ld_unit_zero (by decide), View.ld_unit_zero (by decide), View.ld_unit_zero (by decide)]
  exact congrArg (fun z => outRow z _ _ _ _ _) (funext fun k => convolved_at c i arg2 harg2 arg3 harg3 arg4 harg4 arg5 harg5 arg6 harg6 arg7 harg7 arg8 harg8 arg9 harg9 arg10 harg10 arg11 harg11 arg12 harg12 arg13 harg13 arg14 harg14 arg15 harg15 x0 x1 x3 x4 r k)

variable (m : (ℓ : Loc nD τ sig) → Buf (Elt Ideal) ℓ)

theorem out_at (c : Dev nD) (t : Fin cfg0.N) (r : Fin 512) (n : Fin 1024) :
    outAt (F := Ideal) m c t (ix3 0 r n)
      = outRow (convRow (grid0.coords t 1).val (iblk m c 0 t) (iblk m c 1 t) (iblk m c 3 t) (iblk m c 4 t) r.val) (fun k => iblk m c 5 t (ix2 0 k))
          (fun k => iblk m c 6 t (ix2 0 k)) (fun k => iblk m c 7 t (ix2 k n)) (iblk m c 2 t (ix3 0 r n)) (iblk m c 8 t (ix2 0 n)) := by
  unfold outAt
  rw [View.read_writes_eq_canon _ _ _ (covers m c t)]
  exact stored_at c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) scr0 (Memref.isWhole_whole _) scr1 (Memref.isWhole_whole _) scr2 (Memref.isWhole_whole _) scr3 (Memref.isWhole_whole _) _ _ _ _ _ _ _ _ _ r n

/-! ## The blocks of a grid point -/

theorem pts : grid0.N = 64 := by decide +kernel
theorem place_eq : ∀ t : Fin grid0.N, (grid0.coords t 1).val = t.val % 4 := by decide +kernel
theorem at0 : ∀ t : Fin grid0.N, win0_0.index t 0 = t.val / 4 ∧ win0_0.index t 1 = t.val % 4 ∧ win0_0.index t 2 = 0 := by decide +kernel
theorem at1 : ∀ t : Fin grid0.N, win0_1.index t 0 = t.val / 4 ∧ win0_1.index t 1 = 16 * (t.val % 4) - 1 ∧ win0_1.index t 2 = 0 := by decide +kernel
theorem at2 : ∀ t : Fin grid0.N, win0_2.index t 0 = t.val / 4 ∧ win0_2.index t 1 = t.val % 4 ∧ win0_2.index t 2 = 0 := by decide +kernel
theorem at9 : ∀ t : Fin grid0.N, win0_9.index t 0 = t.val / 4 ∧ win0_9.index t 1 = t.val % 4 ∧ win0_9.index t 2 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem xs9 : ∀ t : Fin grid0.N, win0_9.xsize (grid0.coords t) 0 = 1 ∧ win0_9.xsize (grid0.coords t) 1 = 512 ∧ win0_9.xsize (grid0.coords t) 2 = 1024 := by decide +kernel

/-- The batch of a grid point. -/
def batchOf (t : Fin cfg0.N) : Fin 16 := ⟨t.val / 4, by have := t.isLt; have : cfg0.N = 64 := pts; omega⟩

/-- The place in the sequence of row `r` of a grid point's block. -/
def placeOf (t : Fin cfg0.N) (r : Fin 512) : Fin 2048 := ⟨t.val % 4 * 512 + r.val, by omega⟩

theorem blk0 (c : Dev nD) (t : Fin cfg0.N) (r : Fin 512) (j : Fin 1024) (s : Fin 2048) (hs : s.val = t.val % 4 * 512 + r.val) :
    iblk m c 0 t (ix3 0 r j) = V m c main_arg0 (ix3 (batchOf t) s j) := by
  have h := at0 t
  unfold iblk
  rw [View.read_apply]
  show V m c main_arg0 _ = V m c main_arg0 _
  congr 1
  funext a
  apply Fin.ext
  match a with
  | ⟨0, _⟩ => show win0_0.index t 0 * 1 + 1 * 0 = t.val / 4; rw [h.1]; omega
  | ⟨1, _⟩ => show win0_0.index t 1 * 512 + 1 * r.val = s.val; rw [h.2.1, hs]; omega
  | ⟨2, _⟩ => show win0_0.index t 2 * 1024 + 1 * j.val = j.val; rw [h.2.2]; omega

theorem blk1 (c : Dev nD) (t : Fin cfg0.N) (r : Fin 32) (j : Fin 1024) (s : Fin 2048) (hs : s.val = (16 * (t.val % 4) - 1) * 32 + r.val) :
    iblk m c 1 t (ix3 0 r j) = V m c main_arg0 (ix3 (batchOf t) s j) := by
  have h := at1 t
  unfold iblk
  rw [View.read_apply]
  show V m c main_arg0 _ = V m c main_arg0 _
  congr 1
  funext a
  apply Fin.ext
  match a with
  | ⟨0, _⟩ => show win0_1.index t 0 * 1 + 1 * 0 = t.val / 4; rw [h.1]; omega
  | ⟨1, _⟩ => show win0_1.index t 1 * 32 + 1 * r.val = s.val; rw [h.2.1, hs]; omega
  | ⟨2, _⟩ => show win0_1.index t 2 * 1024 + 1 * j.val = j.val; rw [h.2.2]; omega

theorem blk2 (c : Dev nD) (t : Fin cfg0.N) (r : Fin 512) (j : Fin 1024) (s : Fin 2048) (hs : s.val = t.val % 4 * 512 + r.val) :
    iblk m c 2 t (ix3 0 r j) = V m c main_arg1 (ix3 (batchOf t) s j) := by
  have h := at2 t
  unfold iblk
  rw [View.read_apply]
  show V m c main_arg1 _ = V m c main_arg1 _
  congr 1
  funext a
  apply Fin.ext
  match a with
  | ⟨0, _⟩ => show win0_2.index t 0 * 1 + 1 * 0 = t.val / 4; rw [h.1]; omega
  | ⟨1, _⟩ => show win0_2.index t 1 * 512 + 1 * r.val = s.val; rw [h.2.1, hs]; omega
  | ⟨2, _⟩ => show win0_2.index t 2 * 1024 + 1 * j.val = j.val; rw [h.2.2]; omega

theorem blk3 (c : Dev nD) (t : Fin cfg0.N) : iblk m c 3 t = V m c main_arg2 := by
  have h := at3 t
  funext y
  unfold iblk
  rw [View.read_apply]
  show V m c main_arg2 _ = V m c main_arg2 _
  congr 1
  funext a
  apply Fin.ext
  match a with
  | ⟨0, _⟩ => show win0_3.index t 0 * 31 + 1 * (y 0).val = (y 0).val; rw [h.1]; omega
  | ⟨1, _⟩ => show win0_3.index t 1 * 1024 + 1 * (y 1).val = (y 1).val; rw [h.2]; omega

theorem blk4 (c : Dev nD) (t : Fin cfg0.N) : iblk m c 4 t = V m c main_v0 := by
  have h := at4 t
  funext y
  unfold iblk
  rw [View.read_apply]
  show V m c main_v0 _ = V m c main_v0 _
  congr 1
  funext a
  apply Fin.ext
  match a with
  | ⟨0, _⟩ => show win0_4.index t 0 * 1 + 1 * (y 0).val = (y 0).val; rw [h.1]; omega
  | ⟨1, _⟩ => show win0_4.index t 1 * 1024 + 1 * (y 1).val = (y 1).val; rw [h.2]; omega

theorem blk5 (c : Dev nD) (t : Fin cfg0.N) : iblk m c 5 t = V m c main_v1 := by
  have h := at5 t
  funext y
  unfold iblk
  rw [View.read_apply]
  show V m c main_v1 _ = V m c main_v1 _
  congr 1
  funext a
  apply Fin.ext
  match a with
  | ⟨0, _⟩ => show win0_5.index t 0 * 1 + 1 * (y 0).val = (y 0).val; rw [h.1]; omega
  | ⟨1, _⟩ => show win0_5.index t 1 * 1024 + 1 * (y 1).val = (y 1).val; rw [h.2]; omega

theorem blk6 (c : Dev nD) (t : Fin cfg0.N) : iblk m c 6 t = V m c main_v2 := by
  have h := at6 t
  funext y
  unfold iblk
  rw [View.read_apply]
  show V m c main_v2 _ = V m c main_v2 _
  congr 1
  funext a
  apply Fin.ext
  match a with
  | ⟨0, _⟩ => show win0_6.index t 0 * 1 + 1 * (y 0).val = (y 0).val; rw [h.1]; omega
  | ⟨1, _⟩ => show win0_6.index t 1 * 1024 + 1 * (y 1).val = (y 1).val; rw [h.2]; omega

theorem blk7 (c : Dev nD) (t : Fin cfg0.N) : iblk m c 7 t = V m c main_v3 := by
  have h := at7 t
  funext y
  unfold iblk
  rw [View.read_apply]
  show V m c main_v3 _ = V m c main_v3 _
  congr 1
  funext a
  apply Fin.ext
  match a with
  | ⟨0, _⟩ => show win0_7.index t 0 * 1024 + 1 * (y 0).val = (y 0).val; rw [h.1]; omega
  | ⟨1, _⟩ => show win0_7.index t 1 * 1024 + 1 * (y 1).val = (y 1).val; rw [h.2]; omega

theorem blk8 (c : Dev nD) (t : Fin cfg0.N) : iblk m c 8 t = V m c main_v4 := by
  have h := at8 t
  funext y
  unfold iblk
  rw [View.read_apply]
  show V m c main_v4 _ = V m c main_v4 _
  congr 1
  funext a
  apply Fin.ext
  match a with
  | ⟨0, _⟩ => show win0_8.index t 0 * 1 + 1 * (y 0).val = (y 0).val; rw [h.1]; omega
  | ⟨1, _⟩ => show win0_8.index t 1 * 1024 + 1 * (y 1).val = (y 1).val; rw [h.2]; omega

/-- The padded rows of a grid point's block are rows of the padded sequence. -/
theorem ext_at (c : Dev nD) (t : Fin cfg0.N) (r : Fin 512) (k : Fin 31) (j : Fin 1024) :
    extRow (grid0.coords t 1).val (iblk m c 0 t) (iblk m c 1 t) (r.val + k.val + 2) j
      = padRow (fun s l => V m c main_arg0 (ix3 (batchOf t) s l)) ((placeOf t r).val + k.val) j := by
  have hp : (placeOf t r).val = t.val % 4 * 512 + r.val := rfl
  have hr := r.isLt
  have hk := k.isLt
  rw [place_eq, hp]
  unfold extRow padRow
  by_cases h : r.val + k.val + 2 < 32
  · rw [dif_pos h]
    by_cases q : t.val % 4 = 0
    · rw [if_pos q, dif_neg (by omega)]
    · rw [if_neg q, dif_pos (by omega)]
      exact blk1 m c t _ j _ (by show t.val % 4 * 512 + r.val + k.val - 30 = (16 * (t.val % 4) - 1) * 32 + (r.val + k.val + 2); omega)
  · rw [dif_neg h, dif_pos (by omega), dif_pos (by omega)]
    exact blk0 m c t _ j _ (by show t.val % 4 * 512 + r.val + k.val - 30 = t.val % 4 * 512 + (r.val + k.val + 2 - 32); omega)

theorem conv_at (c : Dev nD) (t : Fin cfg0.N) (r : Fin 512) :
    convRow (grid0.coords t 1).val (iblk m c 0 t) (iblk m c 1 t) (iblk m c 3 t) (iblk m c 4 t) r.val
      = convOf (fun s l => V m c main_arg0 (ix3 (batchOf t) s l)) (fun k j => V m c main_arg2 (ix2 k j)) (fun j => V m c main_v0 (ix2 0 j)) (placeOf t r).val := by
  funext j
  unfold convRow convOf
  rw [blk3, blk4, add_comm]
  refine congrArg (· + _) (Finset.sum_congr rfl fun k _ => ?_)
  rw [ext_at]

/-- The array the kernel leaves, entry by entry. -/
def convOut (c : Dev nD) : Vec Ideal S16x2048x1024 .f32 := fun y =>
  outRow (convOf (fun s l => V m c main_arg0 (ix3 (y 0) s l)) (fun k j => V m c main_arg2 (ix2 k j)) (fun j => V m c main_v0 (ix2 0 j)) (y 1).val)
    (fun k => V m c main_v1 (ix2 0 k)) (fun k => V m c main_v2 (ix2 0 k)) (fun k => V m c main_v3 (ix2 k (y 2))) (V m c main_arg1 (ix3 (y 0) (y 1) (y 2))) (V m c main_v4 (ix2 0 (y 2)))

theorem block_at (c : Dev nD) (t : Fin cfg0.N) (r : Fin 512) (n : Fin 1024) :
    outAt (F := Ideal) m c t (ix3 0 r n) = convOut m c (ix3 (batchOf t) (placeOf t r) n) := by
  rw [out_at, conv_at, blk5, blk6, blk7, blk8, blk2 m c t r n (placeOf t r) rfl]
  rfl

theorem flushed_eq (c : Dev nD) (t : Fin cfg0.N) :
    (dats (F := Ideal) m 0 c).flushed 9 t = ((cfg0.win 9).blk t).view.read (Elt Ideal) (convOut m c) := by
  show (cfg0.win 9).cut (grid0.coords t) ((dats (F := Ideal) m 0 c).after 9 t) = _
  rw [after9]
  have h := at9 t
  funext y
  rw [View.read_apply]
  have h0 : (y 0).val < 1 := (y 0).isLt
  have h1 : (y 1).val < 512 := (y 1).isLt
  have h2 : (y 2).val < 1024 := (y 2).isLt
  show outAt (F := Ideal) m c t y = convOut m c (((cfg0.win 9).blk t).view.emb y)
  have e : ((cfg0.win 9).blk t).view.emb y = ix3 (batchOf t) (placeOf t (y 1)) (y 2) := by
    funext a
    apply Fin.ext
    match a with
    | ⟨0, _⟩ => show win0_9.index t 0 * 1 + 1 * (y 0).val = t.val / 4; rw [h.1]; omega
    | ⟨1, _⟩ => show win0_9.index t 1 * 512 + 1 * (y 1).val = t.val % 4 * 512 + (y 1).val; rw [h.2.1]; omega
    | ⟨2, _⟩ => show win0_9.index t 2 * 1024 + 1 * (y 2).val = (y 2).val; rw [h.2.2]; omega
  rw [e]
  refine Eq.trans (congrArg (outAt (F := Ideal) m c t) ?_) (block_at m c t (y 1) (y 2))
  funext a
  match a with
  | ⟨0, _⟩ => exact Fin.ext (by show (y 0).val = 0; omega)
  | ⟨1, _⟩ => rfl
  | ⟨2, _⟩ => rfl

theorem final_eq (c : Dev nD) : (dats (F := Ideal) m 0 c).arrAt 9 cfg0.N = convOut m c :=
  (dats m 0 c).arrAt_eq_of_cover 9 _ (fun t _ => flushed_eq m c t) fun i => by
    have h0 : (i 0 : Nat) < 16 := (i 0).isLt
    have h1 : (i 1 : Nat) < 2048 := (i 1).isLt
    have h2 : (i 2 : Nat) < 1024 := (i 2).isLt
    have hN : cfg0.N = 64 := pts
    let t : Fin cfg0.N := ⟨(i 0).val * 4 + (i 1).val / 512, by omega⟩
    refine ⟨t, flush0_9 t, ?_⟩
    have h := at9 t
    have hx := xs9 t
    have ht : t.val = (i 0).val * 4 + (i 1).val / 512 := rfl
    show i ∈ ((View.whole main_v5).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + win0_9.xsize (grid0.coords t) 0
                rw [h.1, hx.1]; omega
    | ⟨1, _⟩ => show win0_9.index t 1 * 512 ≤ (i 1 : Nat) ∧ (i 1 : Nat) < win0_9.index t 1 * 512 + win0_9.xsize (grid0.coords t) 1
                rw [h.2.1, hx.2.1]; omega
    | ⟨2, _⟩ => show win0_9.index t 2 * 1024 ≤ (i 2 : Nat) ∧ (i 2 : Nat) < win0_9.index t 2 * 1024 + win0_9.xsize (grid0.coords t) 2
                rw [h.2.2, hx.2.2]; omega

/-! ## The host's preparation of the arguments -/

theorem host_bias (c : Dev nD) : V m c main_v0 = shapeCast S1x1024 (m ((c : Thread nD τ).loc main_arg3)) shapeCasts_S1024_S1x1024 := by
  unfold V
  after_results
  rfl
theorem host_gain (c : Dev nD) : V m c main_v1 = shapeCast S1x1024 (m ((c : Thread nD τ).loc main_arg4)) shapeCasts_S1024_S1x1024 := by
  unfold V
  after_results
  rfl
theorem host_shift (c : Dev nD) : V m c main_v2 = shapeCast S1x1024 (m ((c : Thread nD τ).loc main_arg5)) shapeCasts_S1024_S1x1024 := by
  unfold V
  after_results
  rfl
theorem host_last (c : Dev nD) : V m c main_v4 = shapeCast S1x1024 (m ((c : Thread nD τ).loc main_arg7)) shapeCasts_S1024_S1x1024 := by
  unfold V
  after_results
  rfl
theorem host_weights (c : Dev nD) :
    V m c main_v3 = truncf (F := Ideal) .bf16 (m ((c : Thread nD τ).loc main_arg6) : FVec Ideal S1024x1024 .f32) bitsLt_bf16_f32 := by
  unfold V
  after_results

theorem row_apply (g : Vec Ideal S1024 .f32) (j : Fin 1024) :
    shapeCast S1x1024 g shapeCasts_S1024_S1x1024 (ix2 0 j) = g (ix1 j) := by
  refine shapeCast_apply g _ _ _ ?_
  rw [Shape.rowMajor_val_one, Shape.rowMajor_val_two]
  show j.val = 0 * 1024 + j.val
  omega

/-- The array the kernel leaves, from its arguments. -/
theorem final_at (c : Dev nD) (b : Fin 16) (s : Fin 2048) (n : Fin 1024) :
    (dats (F := Ideal) m 0 c).arrAt 9 cfg0.N (ix3 b s n)
      = outRow (convOf (fun s l => m ((c : Thread nD τ).loc main_arg0) (ix3 b s l)) (fun k j => m ((c : Thread nD τ).loc main_arg2) (ix2 k j))
            (fun j => m ((c : Thread nD τ).loc main_arg3) (ix1 j)) s.val)
          (fun k => m ((c : Thread nD τ).loc main_arg4) (ix1 k)) (fun k => m ((c : Thread nD τ).loc main_arg5) (ix1 k))
          (fun k => m ((c : Thread nD τ).loc main_arg6) (ix2 k n)) (m ((c : Thread nD τ).loc main_arg1) (ix3 b s n)) (m ((c : Thread nD τ).loc main_arg7) (ix1 n)) := by
  rw [final_eq]
  unfold convOut
  rw [V_main_arg0, V_main_arg1, V_main_arg2, host_bias, host_gain, host_shift, host_weights, host_last]
  exact congr (congr (congr (congr (congr (congrArg outRow (congrArg (fun z => convOf _ _ z _) (funext fun j => row_apply _ j)))
    (funext fun k => row_apply _ k)) (funext fun k => row_apply _ k)) rfl) rfl) (row_apply _ n)

end Cert.ConvIdeal.Body
-- ==== Proof.ConvRefVal.lean ====
module

public import proofs.«01_k».proof.Proof.Gen.ConvRefIdeal.Read
public import proofs.«01_k».proof.Proof.ConvRow
public import Idealize.ShloMosaic.Lib.KernelVsHost

@[expose] public section

set_option maxRecDepth 16384

noncomputable section

namespace Cert.ConvRefIdeal.Body

open Idealize.ShloMosaic Idealize.ShloMosaic.TcCoe
open Cert.ConvRefIdeal Cert.ConvRefIdeal.Gen Cert.ConvRefIdeal.Read Cert.Norm

variable (x0 x1 : Vec Ideal S16x2048x1024 .f32) (x2 : Vec Ideal S31x1024 .f32) (x3 x4 x5 : Vec Ideal S1024 .f32)
  (x6 : Vec Ideal S1024x1024 .f32) (x7 : Vec Ideal S1024 .f32) (b : Fin 16) (s : Fin 2048)

theorem pad_value : val_main_call0_v0 (F := Ideal) (Shape.Idx.first h_S_) = 0 := by
  rw [val_main_call0_v0_apply, val_main_c_apply]
  show ((((0#32 : BitVec 32).toInt : ℤ) : ℝ) : EReal) = 0
  norm_num

theorem v0_at (r : Fin 2078) (j : Fin 1024) : val_main_v0 (F := Ideal) x0 (ix3 b r j) = padRow (fun r j => x0 (ix3 b r j)) r.val j := by
  pointwise [val_main_v0]
  unfold padRow
  by_cases q : r.val < 30
  · rw [dif_neg (by omega), dif_neg (by omega)]
    exact pad_value
  · rw [dif_pos ⟨by omega, by omega⟩, dif_pos ⟨by omega, by omega⟩]

theorem row_at (k : Fin 31) : val_main_call1_v0 (F := Ideal) (ix3 s k 0) = BitVec.ofNat 32 (s.val + k.val) := by
  rw [val_main_call1_v0_apply, val_main_v7_apply, val_main_v5_apply, val_main_v6_apply, val_main_v2_apply, val_main_v4_apply, val_main_v1_apply, val_main_v3_apply]
  exact (BitVec.ofNat_add _ _).symm

theorem take_at (k : Fin 31) (j : Fin 1024) : val_main_v8 (F := Ideal) x0 (ix4 b s k j) = padRow (fun r j => x0 (ix3 b r j)) (s.val + k.val) j := by
  have hi := row_at s k
  rw [← v0_at x0 b ⟨s.val + k.val, by omega⟩ j]
  unfold val_main_v8
  generalize val_main_v0 (F := Ideal) x0 = y
  generalize val_main_call1_v0 (F := Ideal) = idx at hi
  unfold Host.gather
  congr 1
  funext a
  refine Fin.ext ?_
  show gather_S16x2078x1024_S2048x31x1_S16x2048x31x1024_03_1_n_n_1_2_1611024.start (ix4 b s k j) idx a + gather_S16x2078x1024_S2048x31x1_S16x2048x31x1024_03_1_n_n_1_2_1611024.batchCoord (ix4 b s k j) a + gather_S16x2078x1024_S2048x31x1_S16x2048x31x1024_03_1_n_n_1_2_1611024.offCoord (ix4 b s k j) a = _
  rw [GatherDims.batchCoord_eq_zero _ _ _ List.not_mem_nil]
  fin_cases a
  · exact Nat.zero_add _
  · rw [GatherDims.offCoord_eq_zero _ _ _ (fun h => ((GatherDims.mem_sKept _ _).mp h).1 (List.mem_singleton.mpr rfl))]
    unfold GatherDims.start
    rw [dif_pos (by exact List.mem_singleton.mpr rfl)]
    have hs : ∀ q, gather_S16x2078x1024_S2048x31x1_S16x2048x31x1024_03_1_n_n_1_2_1611024.siIdx (ix4 b s k j) q = ix3 s k 0 := fun q => by
      funext e; refine Fin.ext ?_
      fin_cases e
      · rfl
      · rfl
      · exact Nat.lt_one_iff.mp q.isLt
    rw [hs, hi]
    show min (BitVec.ofNat 32 (s.val + k.val)).toInt.toNat 2077 = s.val + k.val
    rw [BitVec.toInt_ofNat', Int.bmod_eq_of_le (by omega) (by omega)]
    omega
  · exact Nat.zero_add _

/-- A row of the argument after the convolution and its bias. -/
abbrev convAt (x0 : Vec Ideal S16x2048x1024 .f32) (x2 : Vec Ideal S31x1024 .f32) (x3 : Vec Ideal S1024 .f32) (b : Fin 16) (s : ℕ) : Fin 1024 → EReal :=
  convOf (fun r j => x0 (ix3 b r j)) (fun k j => x2 (ix2 k j)) (fun j => x3 (ix1 j)) s

theorem conv_at (j : Fin 1024) : val_main_v15 (F := Ideal) x0 x2 x3 (ix3 b s j) = convAt x0 x2 x3 b s.val j := by
  rw [val_main_v15_apply, val_main_v12_apply, val_main_v14_apply, val_main_v13_apply, val_main_cst_apply]
  have e : ∀ k, idx_main_v12 (ix3 b s j) k = ix4 b s k j := fun k => by
    funext a; match a with | ⟨0, _⟩ => rfl | ⟨1, _⟩ => rfl | ⟨2, _⟩ => rfl | ⟨3, _⟩ => rfl
  have e' : ∀ k, idx_main_v9 (idx_main_v10 (ix4 b s k j)) = ix2 k j := fun k => by
    funext a; match a with | ⟨0, _⟩ => rfl | ⟨1, _⟩ => rfl
  have eb : idx_main_v13 (idx_main_v14 (ix3 b s j)) = ix1 j := by
    funext a; match a with | ⟨0, _⟩ => rfl
  rw [eb]
  show (Ideal.ofBits .f32 0#32 + _) + _ = _
  rw [bits_zero, zero_add]
  unfold convAt convOf
  refine congrArg (· + x3 (ix1 j)) (Finset.sum_congr rfl fun k _ => ?_)
  rw [e, val_main_v11_apply, val_main_v10_apply, val_main_v9_apply, e', take_at]
  rfl

theorem mean_at : val_main_v19 (F := Ideal) x0 x2 x3 (ix3 b s 0) = mean (convAt x0 x2 x3 b s.val) := by
  rw [val_main_v19_apply, val_main_v17_apply, val_main_v16_apply, val_main_v18_apply, val_main_cst_1_apply, val_main_cst_0_apply]
  have e : ∀ k, idx_main_v16 (idx_main_v17 (ix3 b s 0)) k = ix3 b s k := fun k => by
    funext a; match a with | ⟨0, _⟩ => rfl | ⟨1, _⟩ => rfl | ⟨2, _⟩ => rfl
  simp only [e, conv_at]
  show Ideal.div (Ideal.ofBits .f32 0#32 + _) _ = _
  rw [bits_zero, zero_add]
  rfl

theorem centred_at (j : Fin 1024) : val_main_v28 (F := Ideal) x0 x2 x3 (ix3 b s j) = centred (convAt x0 x2 x3 b s.val) j := by
  have e : idx_main_v27 (ix3 b s j) = ix3 b s 0 := by
    funext a; match a with | ⟨0, _⟩ => rfl | ⟨1, _⟩ => rfl | ⟨2, _⟩ => rfl
  rw [val_main_v28_apply, val_main_v27_apply, e, mean_at, conv_at]
  rfl

theorem square_at (j : Fin 1024) : val_main_v22 (F := Ideal) x0 x2 x3 (ix3 b s j)
    = centred (convAt x0 x2 x3 b s.val) j * centred (convAt x0 x2 x3 b s.val) j := by
  have e : idx_main_v20 (ix3 b s j) = ix3 b s 0 := by
    funext a; match a with | ⟨0, _⟩ => rfl | ⟨1, _⟩ => rfl | ⟨2, _⟩ => rfl
  rw [val_main_v22_apply, val_main_v21_apply, val_main_v20_apply, e, mean_at, conv_at]
  rfl

theorem spread_at : val_main_v26 (F := Ideal) x0 x2 x3 (ix3 b s 0)
    = mean (fun j => centred (convAt x0 x2 x3 b s.val) j * centred (convAt x0 x2 x3 b s.val) j) := by
  rw [val_main_v26_apply, val_main_v24_apply, val_main_v23_apply, val_main_v25_apply, val_main_cst_3_apply, val_main_cst_2_apply]
  have e : ∀ k, idx_main_v23 (idx_main_v24 (ix3 b s 0)) k = ix3 b s k := fun k => by
    funext a; match a with | ⟨0, _⟩ => rfl | ⟨1, _⟩ => rfl | ⟨2, _⟩ => rfl
  simp only [e, square_at]
  show Ideal.div (Ideal.ofBits .f32 0#32 + _) _ = _
  rw [bits_zero, zero_add]
  rfl

theorem layered_at (j : Fin 1024) : val_main_v39 (F := Ideal) x0 x2 x3 x4 x5 (ix3 b s j)
    = layered (convAt x0 x2 x3 b s.val) (fun k => x4 (ix1 k)) (fun k => x5 (ix1 k)) j := by
  have e : idx_main_v32 (ix3 b s j) = ix3 b s 0 := by
    funext a; match a with | ⟨0, _⟩ => rfl | ⟨1, _⟩ => rfl | ⟨2, _⟩ => rfl
  have e4 : idx_main_v34 (idx_main_v35 (ix3 b s j)) = ix1 j := by
    funext a; match a with | ⟨0, _⟩ => rfl
  have e5 : idx_main_v37 (idx_main_v38 (ix3 b s j)) = ix1 j := by
    funext a; match a with | ⟨0, _⟩ => rfl
  rw [val_main_v39_apply, val_main_v38_apply, val_main_v37_apply, e5, val_main_v36_apply, val_main_v35_apply, val_main_v34_apply, e4,
    val_main_v33_apply, centred_at, val_main_v32_apply, e, val_main_v31_apply, val_main_v30_apply, spread_at, val_main_v29_apply, val_main_cst_4_apply]
  rfl

theorem swish_at (j : Fin 1024) : val_main_v40 (F := Ideal) x0 x2 x3 x4 x5 (ix3 b s j)
    = swish (layered (convAt x0 x2 x3 b s.val) (fun k => x4 (ix1 k)) (fun k => x5 (ix1 k)) j) := by
  unfold swish
  rw [gated_eq, val_main_v40_apply, val_main_call2_v5_apply, val_main_call2_v4_apply, val_main_call2_cst_0_apply, val_main_call2_v3_apply,
    val_main_call2_v2_apply, val_main_call2_cst_apply, val_main_call2_v1_apply, val_main_call2_v0_apply, layered_at]
  rfl

theorem ref_at (n : Fin 1024) : val_main_v45 (F := Ideal) x0 x1 x2 x3 x4 x5 x6 x7 (ix3 b s n)
    = outRow (convAt x0 x2 x3 b s.val) (fun k => x4 (ix1 k)) (fun k => x5 (ix1 k)) (fun k => x6 (ix2 k n)) (x1 (ix3 b s n)) (x7 (ix1 n)) := by
  have e : ∀ k, lidx_main_v41 (ix3 b s n) k = ix3 b s k := fun k => by
    funext d; match d with | ⟨0, _⟩ => rfl | ⟨1, _⟩ => rfl | ⟨2, _⟩ => rfl
  have e' : ∀ k, ridx_main_v41 (ix3 b s n) k = ix2 k n := fun k => by
    funext d; match d with | ⟨0, _⟩ => rfl | ⟨1, _⟩ => rfl
  have eb : idx_main_v42 (idx_main_v43 (ix3 b s n)) = ix1 n := by
    funext d; match d with | ⟨0, _⟩ => rfl
  rw [val_main_v45_apply, val_main_v44_apply, val_main_v43_apply, val_main_v42_apply, eb, val_main_v41_apply]
  simp only [e, e', swish_at]
  rfl

end Cert.ConvRefIdeal.Body
-- ==== Proof.OutpRow.lean ====
module

public import proofs.«01_k».proof.Proof.Norm

@[expose] public section

noncomputable section

namespace Cert.Norm

/-- The rows of the output projection's weights that meet the attention's channels, and those that meet the retention's. -/
def upper (k : Fin 512) : Fin 1024 := ⟨k.val, by omega⟩
def lower (k : Fin 512) : Fin 1024 := ⟨512 + k.val, by omega⟩

/-- A residual entry plus the product of the two halves of a mixed row with a column of the weights. -/
def mixed (x : EReal) (a b : Fin 512 → EReal) (w : Fin 1024 → EReal) : EReal :=
  x + (∑ k, a k * w (upper k) + ∑ k, b k * w (lower k))

/-- A sum over 1024 places is the sum over the first 512 plus the sum over the others. -/
theorem sum_halves (f : Fin 1024 → EReal) : ∑ k, f k = ∑ k, f (upper k) + ∑ k, f (lower k) :=
  Fin.sum_univ_add (a := 512) (b := 512) f

end Cert.Norm
-- ==== Proof.OutpVal.lean ====
module

public import proofs.«01_k».proof.Proof.Gen.OutpIdeal.Value
public import proofs.«01_k».proof.Proof.OutpRow

@[expose] public section

set_option maxRecDepth 16384

noncomputable section

namespace Cert.OutpIdeal.Body

open Idealize.ShloMosaic Idealize.ShloMosaic.TcCoe Idealize.ShloMosaic.Tactic
open Idealize.SL Idealize.SL.Sem
open Cert.OutpIdeal Cert.OutpIdeal.Gen Cert.Norm
open Idealize.ShloMosaic.Pipeline (Dat)

theorem pay1_apply (a : Vec Ideal S512x512 .bf16) (u : Vec Ideal S512x1024 .bf16) (b : Vec Ideal S512x512 .bf16) (v : Vec Ideal S512x1024 .bf16)
    (x : Vec Ideal S512x1024 .f32) (i : Fin 512) (n : Fin 1024) :
    k0_pay1 (F := Ideal) a u b v x (ix2 i n)
      = x (ix2 i n) + (∑ k, a (ix2 i k) * u (ix2 k n) + ∑ k, b (ix2 i k) * v (ix2 k n)) := by
  pointwise [k0_pay1]

/-- The residual rows plus the mixed rows times the weights, for any number of rows. -/
def mixedOf {R : ℕ} (x : Shape.Idx ⟨2, ![R, 1024]⟩ → EReal) (a b : Shape.Idx ⟨2, ![R, 512]⟩ → EReal) (w : S1024x1024.Idx → EReal)
    (i : Fin R) (n : Fin 1024) : EReal :=
  mixed (x (ix2 i n)) (fun k => a (ix2 i k)) (fun k => b (ix2 i k)) (fun k => w (ix2 k n))

/-- A block of 512 such rows. -/
def mixedBlock (x : Vec Ideal S512x1024 .f32) (a b : Vec Ideal S512x512 .bf16) (w : Vec Ideal S1024x1024 .bf16) : Vec Ideal S512x1024 .f32 :=
  fun y => mixedOf x a b w (y 0) (y 1)

theorem out_eq (x : Vec Ideal S512x1024 .f32) (a b : Vec Ideal S512x512 .bf16) (w : Vec Ideal S1024x1024 .bf16) :
    out0_4 (F := Ideal) x a b w = mixedBlock x a b w := by
  unfold out0_4
  rw [View.canon_unit_zero (by decide), View.ld_unit_zero (by decide), View.ld_unit_zero (by decide), View.ld_unit_zero (by decide)]
  funext y
  obtain ⟨i, n, rfl⟩ : ∃ i n, y = ix2 i n := ⟨y 0, y 1, by funext a; match a with | ⟨0, _⟩ => rfl | ⟨1, _⟩ => rfl⟩
  rw [pay1_apply]
  show _ = mixedOf x a b w i n
  unfold mixedOf mixed
  refine congrArg (x (ix2 i n) + ·) (congrArg₂ (· + ·) (Finset.sum_congr rfl fun k _ => congrArg (a (ix2 i k) * ·) (congrArg w ?_))
    (Finset.sum_congr rfl fun k _ => congrArg (b (ix2 i k) * ·) (congrArg w ?_)))
  · funext d
    apply Fin.ext
    match d with
    | ⟨0, _⟩ => show 0 + 1 * k.val = k.val; omega
    | ⟨1, _⟩ => show 0 + 1 * n.val = n.val; omega
  · funext d
    apply Fin.ext
    match d with
    | ⟨0, _⟩ => show 512 + 1 * k.val = 512 + k.val; omega
    | ⟨1, _⟩ => show 0 + 1 * n.val = n.val; omega

variable (m : (ℓ : Loc nD τ sig) → Buf (Elt Ideal) ℓ)

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem pts : grid0.N = 64 := by decide +kernel
theorem xs4 : ∀ t : Fin grid0.N, win0_4.xsize (grid0.coords t) 0 = 512 ∧ win0_4.xsize (grid0.coords t) 1 = 1024 := by decide +kernel

/-- Row `i` of grid point `t`'s block. -/
def rowAt (t : Fin cfg0.N) (i : Fin 512) : Fin 32768 := ⟨t.val * 512 + i.val, by have := t.isLt; have : cfg0.N = 64 := pts; omega⟩

theorem blk0 (c : Dev nD) (t : Fin cfg0.N) (i : Fin 512) (j : Fin 1024) :
    iblk m c 0 t (ix2 i j) = V m c main_v0 (ix2 (rowAt t i) j) := by
  have h := at0 t
  unfold iblk
  rw [View.read_apply]
  refine congrArg (V m c main_v0) ?_
  funext a
  apply Fin.ext
  match a with
  | ⟨0, _⟩ => show win0_0.index t 0 * 512 + 1 * i.val = t.val * 512 + i.val; rw [h.1]; omega
  | ⟨1, _⟩ => show win0_0.index t 1 * 1024 + 1 * j.val = j.val; rw [h.2]; omega

theorem blk1 (c : Dev nD) (t : Fin cfg0.N) (i j : Fin 512) :
    iblk m c 1 t (ix2 i j) = V m c main_v1 (ix2 (rowAt t i) j) := by
  have h := at1 t
  unfold iblk
  rw [View.read_apply]
  refine congrArg (V m c main_v1) ?_
  funext a
  apply Fin.ext
  match a with
  | ⟨0, _⟩ => show win0_1.index t 0 * 512 + 1 * i.val = t.val * 512 + i.val; rw [h.1]; omega
  | ⟨1, _⟩ => show win0_1.index t 1 * 512 + 1 * j.val = j.val; rw [h.2]; omega

theorem blk2 (c : Dev nD) (t : Fin cfg0.N) (i j : Fin 512) :
    iblk m c 2 t (ix2 i j) = V m c main_v2 (ix2 (rowAt t i) j) := by
  have h := at2 t
  unfold iblk
  rw [View.read_apply]
  refine congrArg (V m c main_v2) ?_
  funext a
  apply Fin.ext
  match a with
  | ⟨0, _⟩ => show win0_2.index t 0 * 512 + 1 * i.val = t.val * 512 + i.val; rw [h.1]; omega
  | ⟨1, _⟩ => show win0_2.index t 1 * 512 + 1 * j.val = j.val; rw [h.2]; omega

theorem blk3 (c : Dev nD) (t : Fin cfg0.N) : iblk m c 3 t = V m c main_v3 := by
  have h := at3 t
  funext y
  unfold iblk
  rw [View.read_apply]
  refine congrArg (V m c main_v3) ?_
  funext a
  apply Fin.ext
  match a with
  | ⟨0, _⟩ => show win0_3.index t 0 * 1024 + 1 * (y 0).val = (y 0).val; rw [h.1]; omega
  | ⟨1, _⟩ => show win0_3.index t 1 * 1024 + 1 * (y 1).val = (y 1).val; rw [h.2]; omega

/-- The array that the kernel leaves, from the arrays that it is called with. -/
def left (c : Dev nD) : Vec Ideal S32768x1024 .f32 :=
  fun y => mixedOf (V m c main_v0) (V m c main_v1) (V m c main_v2) (V m c main_v3) (y 0) (y 1)

/-- A block made from a grid point's blocks is that array's rows. -/
theorem block_at (c : Dev nD) (t : Fin cfg0.N) (i : Fin 512) (n : Fin 1024) :
    mixedOf (R := 512) (iblk m c 0 t) (iblk m c 1 t) (iblk m c 2 t) (V m c main_v3) i n
      = mixedOf (R := 32768) (V m c main_v0) (V m c main_v1) (V m c main_v2) (V m c main_v3) (rowAt t i) n := by
  unfold mixedOf
  have ha : (fun k => iblk m c 1 t (ix2 i k)) = fun k => V m c main_v1 (ix2 (rowAt t i) k) := funext fun k => blk1 m c t i k
  have hb : (fun k => iblk m c 2 t (ix2 i k)) = fun k => V m c main_v2 (ix2 (rowAt t i) k) := funext fun k => blk2 m c t i k
  rw [blk0 m c t i n, ha, hb]

/-- What a grid point writes back is its rows of that array. -/
theorem flushed_eq (c : Dev nD) (t : Fin cfg0.N) :
    (dats m 0 c).flushed 4 t = ((cfg0.win 4).blk t).view.read (Elt Ideal) (left m c) := by
  rw [Cert.OutpIdeal.Value.flushed4, out_eq, blk3]
  have h := at4 t
  funext y
  rw [View.read_apply]
  have h0 : (y 0).val < 512 := (y 0).isLt
  have h1 : (y 1).val < 1024 := (y 1).isLt
  show mixedBlock (iblk m c 0 t) (iblk m c 1 t) (iblk m c 2 t) (V m c main_v3) y = left m c (((cfg0.win 4).blk t).view.emb y)
  have e : ((cfg0.win 4).blk t).view.emb y = ix2 (rowAt t (y 0)) (y 1) := by
    funext a
    apply Fin.ext
    match a with
    | ⟨0, _⟩ => show win0_4.index t 0 * 512 + 1 * (y 0).val = t.val * 512 + (y 0).val; rw [h.1]; omega
    | ⟨1, _⟩ => show win0_4.index t 1 * 1024 + 1 * (y 1).val = (y 1).val; rw [h.2]; omega
  rw [e]
  exact block_at m c t (y 0) (y 1)

theorem final_eq (c : Dev nD) : (dats m 0 c).arrAt 4 cfg0.N = left m c :=
  (dats m 0 c).arrAt_eq_of_cover 4 _ (fun t _ => flushed_eq m c t) fun i => by
    have h0 : (i 0 : Nat) < 32768 := (i 0).isLt
    have h1 : (i 1 : Nat) < 1024 := (i 1).isLt
    have hN : cfg0.N = 64 := pts
    let t : Fin cfg0.N := ⟨(i 0).val / 512, by omega⟩
    refine ⟨t, flush0_4 t, ?_⟩
    have h := at4 t
    have hx := xs4 t
    have ht : t.val = (i 0).val / 512 := rfl
    show i ∈ ((View.whole main_v4).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + win0_4.xsize (grid0.coords t) 0
                rw [h.1, hx.1]; omega
    | ⟨1, _⟩ => show win0_4.index t 1 * 1024 ≤ (i 1 : Nat) ∧ (i 1 : Nat) < win0_4.index t 1 * 1024 + win0_4.xsize (grid0.coords t) 1
                rw [h.2, hx.2]; omega

theorem host_residual (c : Dev nD) : V m c main_v0 = shapeCast S32768x1024 (m ((c : Thread nD τ).loc main_arg0)) shapeCasts_S16x2048x1024_S32768x1024 := by
  unfold V
  after_results
  rfl

theorem host_attn (c : Dev nD) : V m c main_v1 = shapeCast S32768x512 (m ((c : Thread nD τ).loc main_arg1)) shapeCasts_S16x2048x512_S32768x512 := by
  unfold V
  after_results
  rfl

theorem host_ret (c : Dev nD) : V m c main_v2 = shapeCast S32768x512 (m ((c : Thread nD τ).loc main_arg2)) shapeCasts_S16x2048x512_S32768x512 := by
  unfold V
  after_results
  rfl

theorem host_weights (c : Dev nD) :
    V m c main_v3 = truncf (F := Ideal) .bf16 (m ((c : Thread nD τ).loc main_arg3) : FVec Ideal S1024x1024 .f32) bitsLt_bf16_f32 := by
  unfold V
  after_results

theorem residual_apply (x : Vec Ideal S16x2048x1024 .f32) (r : Fin 32768) (j : Fin 1024) :
    shapeCast S32768x1024 x shapeCasts_S16x2048x1024_S32768x1024 (ix2 r j) = x (ix3 (batch r) (place r) j) := by
  refine shapeCast_apply x _ _ _ ?_
  rw [Shape.rowMajor_val_three, Shape.rowMajor_val_two]
  show (r.val / 2048 * 2048 + r.val % 2048) * 1024 + j.val = r.val * 1024 + j.val
  omega

theorem half_apply (x : Vec Ideal S16x2048x512 .bf16) (r : Fin 32768) (j : Fin 512) :
    shapeCast S32768x512 x shapeCasts_S16x2048x512_S32768x512 (ix2 r j) = x (ix3 (batch r) (place r) j) := by
  refine shapeCast_apply x _ _ _ ?_
  rw [Shape.rowMajor_val_three, Shape.rowMajor_val_two]
  show (r.val / 2048 * 2048 + r.val % 2048) * 512 + j.val = r.val * 512 + j.val
  omega

/-- The array the kernel leaves, from its arguments. -/
theorem final_at (c : Dev nD) (r : Fin 32768) (n : Fin 1024) :
    (dats m 0 c).arrAt 4 cfg0.N (ix2 r n)
      = mixed (m ((c : Thread nD τ).loc main_arg0) (ix3 (batch r) (place r) n)) (fun k => m ((c : Thread nD τ).loc main_arg1) (ix3 (batch r) (place r) k))
          (fun k => m ((c : Thread nD τ).loc main_arg2) (ix3 (batch r) (place r) k)) (fun k => m ((c : Thread nD τ).loc main_arg3) (ix2 k n)) := by
  rw [final_eq]
  unfold left
  rw [host_residual, host_attn, host_ret, host_weights]
  show mixed _ _ _ _ = _
  refine congr (congr (congrArg₂ mixed (residual_apply _ _ _) (funext fun k => half_apply _ _ _)) (funext fun k => half_apply _ _ _)) rfl

end Cert.OutpIdeal.Body
-- ==== Proof.OutpRefVal.lean ====
module

public import proofs.«01_k».proof.Proof.Gen.OutpRefIdeal.Read
public import proofs.«01_k».proof.Proof.OutpRow

@[expose] public section

set_option maxRecDepth 16384

noncomputable section

namespace Cert.OutpRefIdeal.Body

open Idealize.ShloMosaic Idealize.ShloMosaic.TcCoe
open Cert.OutpRefIdeal Cert.OutpRefIdeal.Gen Cert.OutpRefIdeal.Read Cert.Norm

/-- The first 512 channels of a joined row are the attention's. -/
theorem joined_upper (a b : Vec Ideal S16x2048x512 .bf16) (i : Fin 16) (s : Fin 2048) (k : Fin 512) :
    val_main_v2 (F := Ideal) a b (ix3 i s (upper k)) = a (ix3 i s k) := by
  unfold val_main_v2
  refine (concatenate_pair_apply_left (t := S16x2048x1024) (s₁ := S16x2048x512) (s₂ := S16x2048x512) 2
    (val_main_v0 (F := Ideal) a) (val_main_v1 (F := Ideal) b) _ (ix3 i s (upper k)) rfl (ix3 i s k) ?_).trans rfl
  intro d
  match d with
  | ⟨0, _⟩ => rfl
  | ⟨1, _⟩ => rfl
  | ⟨2, _⟩ => rfl

/-- The others are the retention's. -/
theorem joined_lower (a b : Vec Ideal S16x2048x512 .bf16) (i : Fin 16) (s : Fin 2048) (k : Fin 512) :
    val_main_v2 (F := Ideal) a b (ix3 i s (lower k)) = b (ix3 i s k) := by
  unfold val_main_v2
  refine (concatenate_pair_apply_right (t := S16x2048x1024) (s₁ := S16x2048x512) (s₂ := S16x2048x512) 2
    (val_main_v0 (F := Ideal) a) (val_main_v1 (F := Ideal) b) _ (ix3 i s (lower k)) rfl rfl (ix3 i s k) ?_ (Nat.add_comm k.val 512)).trans rfl
  intro d hd
  match d with
  | ⟨0, _⟩ => rfl
  | ⟨1, _⟩ => rfl
  | ⟨2, _⟩ => exact absurd rfl hd

theorem ref_at (x : Vec Ideal S16x2048x1024 .f32) (a b : Vec Ideal S16x2048x512 .bf16) (w : Vec Ideal S1024x1024 .f32) (r : Fin 32768) (n : Fin 1024) :
    val_main_v5 (F := Ideal) x a b w (ix2 r n)
      = mixed (x (ix3 (batch r) (place r) n)) (fun k => a (ix3 (batch r) (place r) k)) (fun k => b (ix3 (batch r) (place r) k))
          (fun k => w (ix2 k n)) := by
  have hn := n.isLt
  have e : idx_main_v5 (ix2 r n) = ix3 (batch r) (place r) n := by
    funext d
    apply Fin.ext
    match d with
    | ⟨0, _⟩ => show (r.val * 1024 + n.val) / 2097152 = r.val / 2048; omega
    | ⟨1, _⟩ => show (r.val * 1024 + n.val) / 1024 % 2048 = r.val % 2048; omega
    | ⟨2, _⟩ => show (r.val * 1024 + n.val) % 1024 = n.val; omega
  rw [val_main_v5_apply, e, val_main_v4_apply, val_main_v3_apply]
  have el : ∀ k, lidx_main_v3 (ix3 (batch r) (place r) n) k = ix3 (batch r) (place r) k := fun k => by
    funext d; match d with | ⟨0, _⟩ => rfl | ⟨1, _⟩ => rfl | ⟨2, _⟩ => rfl
  have er : ∀ k, ridx_main_v3 (ix3 (batch r) (place r) n) k = ix2 k n := fun k => by
    funext d; match d with | ⟨0, _⟩ => rfl | ⟨1, _⟩ => rfl
  simp only [el, er]
  show x _ + _ = _
  rw [sum_halves]
  simp only [joined_upper, joined_lower]
  rfl

end Cert.OutpRefIdeal.Body
-- ==== Proof.RetReal.lean ====
module

public import Idealize.ShloMosaic.Lib.Pointwise

@[expose] public section

noncomputable section

namespace Cert.Retention

open Finset

/-- How much position `i` keeps of position `j`: nothing of a later chunk of 64, else a decay per step between them. -/
def kept (L : ℝ) (i j : ℕ) : ℝ := if j / 64 ≤ i / 64 then Real.exp (L * |(i : ℝ) - j|) else 0

/-- Retention at one position and one value lane, over the whole sequence. -/
def closed {ι : Type} [Fintype ι] (L : ℝ) (q k : ℕ → ι → ℝ) (v : ℕ → ℝ) (i : ℕ) : ℝ :=
  ∑ j ∈ range 2048, (∑ d, q i d * k j d) * kept L i j * v j

/-- The decayed sum of keys times values over the first `N` positions. -/
def state {ι : Type} (L : ℝ) (k : ℕ → ι → ℝ) (v : ℕ → ℝ) (N : ℕ) (d : ι) : ℝ :=
  ∑ j ∈ range N, k j d * Real.exp (L * ((N : ℝ) - 1 - j)) * v j

theorem split {ι : Type} [Fintype ι] (L : ℝ) (q k : ℕ → ι → ℝ) (v : ℕ → ℝ) (i N a : ℕ) (h1 : N ≤ i) (h2 : i < N + a)
    (h3 : 64 ∣ N + a) (h4 : N + a ≤ 2048) :
    closed L q k v i = (∑ u ∈ range a, (∑ d, q i d * k (N + u) d) * kept L i (N + u) * v (N + u))
      + (∑ d, q i d * state L k v N d) * Real.exp (L * ((i : ℝ) - N + 1)) := by
  have h0 : (2048 : ℕ) = N + (a + (2048 - (N + a))) := by omega
  unfold closed
  rw [h0, sum_range_add, sum_range_add]
  have hz : ∑ x ∈ range (2048 - (N + a)), (∑ d, q i d * k (N + (a + x)) d) * kept L i (N + (a + x)) * v (N + (a + x)) = 0 := by
    refine sum_eq_zero fun x _ => ?_
    have : kept L i (N + (a + x)) = 0 := if_neg (by omega)
    rw [this]; ring
  have hp : ∑ j ∈ range N, (∑ d, q i d * k j d) * kept L i j * v j
      = (∑ d, q i d * state L k v N d) * Real.exp (L * ((i : ℝ) - N + 1)) := by
    unfold state
    simp only [mul_sum, sum_mul]
    rw [sum_comm]
    refine sum_congr rfl fun d _ => sum_congr rfl fun j hj => ?_
    have hj' := mem_range.1 hj
    have hk : kept L i j = Real.exp (L * ((N : ℝ) - 1 - j)) * Real.exp (L * ((i : ℝ) - N + 1)) := by
      unfold kept
      rw [if_pos (by omega), ← Real.exp_add, abs_of_nonneg (by
        have : (j : ℝ) ≤ i := by exact_mod_cast (by omega : j ≤ i)
        linarith)]
      congr 1; ring
    rw [hk]; ring
  rw [hz, hp, add_zero, add_comm]

theorem sum_blocks (f : ℕ → ℝ) (a n : ℕ) : ∑ j ∈ range (a * n), f j = ∑ m ∈ range n, ∑ s ∈ range a, f (a * m + s) := by
  induction n with
  | zero => simp
  | succ n ih => rw [Nat.mul_succ, sum_range_add, sum_range_succ, ih]

/-- One more group of `a` positions: the old state decays by `a` steps. -/
theorem state_add {ι : Type} (L : ℝ) (k : ℕ → ι → ℝ) (v : ℕ → ℝ) (N a : ℕ) (d : ι) :
    state L k v (N + a) d = Real.exp (L * a) * state L k v N d
      + ∑ u ∈ range a, (k (N + u) d * Real.exp (L * ((a : ℝ) - 1 - u))) * v (N + u) := by
  unfold state
  rw [sum_range_add, mul_sum]
  congr 1
  · refine sum_congr rfl fun j _ => ?_
    have : Real.exp (L * (((N + a : ℕ) : ℝ) - 1 - j)) = Real.exp (L * a) * Real.exp (L * ((N : ℝ) - 1 - j)) := by
      rw [← Real.exp_add]; push_cast; congr 1; ring
    rw [this]; ring
  · refine sum_congr rfl fun u _ => ?_
    have : ((N + a : ℕ) : ℝ) - 1 - ((N + u : ℕ) : ℝ) = (a : ℝ) - 1 - u := by push_cast; ring
    rw [this]

/-- The state before chunk `c` from the chunks' own sums. -/
theorem state_chunks {ι : Type} (L : ℝ) (k : ℕ → ι → ℝ) (v : ℕ → ℝ) (c : ℕ) (hc : c ≤ 32) (d : ι) :
    state L k v (64 * c) d = ∑ m ∈ range 32, (∑ s ∈ range 64, (k (64 * m + s) d * Real.exp (L * (63 - (s : ℝ)))) * v (64 * m + s))
      * (if m < c then Real.exp (L * 64 * ((c : ℝ) - 1 - m)) else 0) := by
  have h0 : (32 : ℕ) = c + (32 - c) := by omega
  rw [h0, sum_range_add]
  have hz : ∑ x ∈ range (32 - c), (∑ s ∈ range 64, (k (64 * (c + x) + s) d * Real.exp (L * (63 - (s : ℝ)))) * v (64 * (c + x) + s))
      * (if c + x < c then Real.exp (L * 64 * ((c : ℝ) - 1 - ((c + x : ℕ) : ℝ))) else 0) = 0 := by
    refine sum_eq_zero fun x _ => ?_
    rw [if_neg (by omega), mul_zero]
  rw [hz, add_zero]
  unfold state
  rw [sum_blocks]
  refine sum_congr rfl fun m hm => ?_
  rw [if_pos (mem_range.1 hm), sum_mul]
  refine sum_congr rfl fun s _ => ?_
  have : Real.exp (L * (((64 * c : ℕ) : ℝ) - 1 - ((64 * m + s : ℕ) : ℝ))) = Real.exp (L * (63 - (s : ℝ))) * Real.exp (L * 64 * ((c : ℝ) - 1 - m)) := by
    rw [← Real.exp_add]; push_cast; congr 1; ring
  rw [this]; ring

/-- The lanes of the first head of a pair. -/
theorem lanes_first {M : Type} [AddCommMonoid M] (f : Fin 128 → M) :
    (∑ l, if l.val < 64 then f l else 0) = ∑ d : Fin 64, f ⟨d.val, by omega⟩ := by
  rw [show (∑ l, if l.val < 64 then f l else 0) = ∑ l : Fin (64 + 64), if l.val < 64 then f l else 0 from rfl, Fin.sum_univ_add]
  rw [show (∑ d : Fin 64, if (Fin.natAdd 64 d).val < 64 then f (Fin.natAdd 64 d) else 0) = 0 from
    sum_eq_zero fun d _ => if_neg (by simp), add_zero]
  exact sum_congr rfl fun d _ => if_pos d.isLt

/-- The lanes of the second head of a pair. -/
theorem lanes_second {M : Type} [AddCommMonoid M] (f : Fin 128 → M) :
    (∑ l, if l.val < 64 then 0 else f l) = ∑ d : Fin 64, f ⟨64 + d.val, by omega⟩ := by
  rw [show (∑ l, if l.val < 64 then 0 else f l) = ∑ l : Fin (64 + 64), if l.val < 64 then 0 else f l from rfl, Fin.sum_univ_add]
  rw [show (∑ d : Fin 64, if (Fin.castAdd 64 d).val < 64 then 0 else f (Fin.castAdd 64 d)) = 0 from
    sum_eq_zero fun d _ => if_pos (by simp), zero_add]
  exact sum_congr rfl fun d _ => if_neg (by simp)

end Cert.Retention
-- ==== Proof.RetTrip.lean ====
module

public import proofs.«01_k».proof.Proof.Gen.RetIdeal.Value
public import Idealize.ShloMosaic.Lib.Pipeline.Value

@[expose] public section

set_option maxRecDepth 16384

noncomputable section

namespace Cert.RetIdeal.Body

open Idealize.ShloMosaic Idealize.ShloMosaic.TcCoe Idealize.ShloMosaic.Tactic
open Idealize.SL Idealize.SL.Sem
open Cert.RetIdeal Cert.RetIdeal.Gen

variable {F : FTy → Type} [FloatOps F]

/-- The outputs of a group before they are normed: its own part and what the carry adds. -/
def groupSum (q k v : Vec F S1x256x128 .bf16) (co si : Vec F S256x128 .f32) (d0 d1 : Vec F S1x256x256 .f32)
    (qd : Vec F S1x256x128 .f32) (acc : FVec F S128x128 .f32) : FVec F S256x128 .f32 :=
  k0_pay14 k0_pay1 k0_pay2 acc (k0_pay9 v) (k0_pay11 k0_pay3 co si q) (k0_pay12 k0_pay3 co si k) (k0_pay13 k0_pay1 k0_pay3 co si q)
    (constant S256x256 .f32 0x00000000#32) d0 d1 qd

/-- What a trip stores. -/
def groupOut (q k v g : Vec F S1x256x128 .bf16) (co si : Vec F S256x128 .f32) (d0 d1 : Vec F S1x256x256 .f32)
    (qd : Vec F S1x256x128 .f32) (acc : FVec F S128x128 .f32) : FVec F S1x256x128 .bf16 :=
  k0_pay18 k0_pay1 k0_pay2 (k0_pay10 g) (groupSum q k v co si d0 d1 qd acc)
    (k0_pay16 k0_pay1 k0_pay2 acc (k0_pay9 v) (k0_pay11 k0_pay3 co si q) (k0_pay12 k0_pay3 co si k) (k0_pay13 k0_pay1 k0_pay3 co si q)
      (constant S256x256 .f32 0x00000000#32) d0 d1 qd)
    (k0_pay17 k0_pay1 k0_pay2 acc (k0_pay9 v) (k0_pay11 k0_pay3 co si q) (k0_pay12 k0_pay3 co si k) (k0_pay13 k0_pay1 k0_pay3 co si q)
      (constant S256x256 .f32 0x00000000#32) d0 d1 qd)

/-- What a trip hands to the next one. -/
def groupNext (k v : Vec F S1x256x128 .bf16) (co si : Vec F S256x128 .f32) (kd : Vec F S1x256x128 .f32) (cd : Vec F S1x1x128 .f32)
    (acc : FVec F S128x128 .f32) : FVec F S128x128 .f32 :=
  k0_pay19 k0_pay4 acc (k0_pay15 (k0_pay8 k0_pay3 co si k) (k0_pay9 v) kd) cd

/-- Group `n`'s rows of an operand. -/
abbrev rows (Q : Vec F S1x2048x128 .bf16) (n : Fin k0_t1_loop.trips) : Vec F S1x256x128 .bf16 :=
  View.ld Q (Rect.unit (k0_off2 n) S1x256x128.size (k0_off2_inb n))

/-- Group `n`'s rows of a table. -/
abbrev trows (C : Vec F S2048x128 .f32) (n : Fin k0_t1_loop.trips) : Vec F S256x128 .f32 :=
  View.ld C (Rect.unit (k0_off1 n) S256x128.size (k0_off1_inb n))

/-- The one store of trip `n`. -/
def piece (Q K W G : Vec F S1x2048x128 .bf16) (C S : Vec F S2048x128 .f32) (D : Vec F S2x256x256 .f32) (qd : Vec F S1x256x128 .f32)
    (n : Fin k0_t1_loop.trips) (acc : FVec F S128x128 .f32) : View.Piece (Elt F) S1x2048x128 .bf16 :=
  ⟨Rect.unit (k0_off2 n) S1x256x128.size (k0_off2_inb n),
    groupOut (rows Q n) (rows K n) (rows W n) (rows G n) (trows C n) (trows S n)
      (View.ld D (Rect.unit ![0, 0, 0] S1x256x256.size inb_S2x256x256_S1x256x256_0_0_0))
      (View.ld D (Rect.unit ![1, 0, 0] S1x256x256.size inb_S2x256x256_S1x256x256_1_0_0))
      (View.ld qd (Rect.unit ![0, 0, 0] S1x256x128.size inb_S1x256x128_S1x256x128_0_0_0)) acc⟩

/-- The carry before trip `n`. -/
def carryAt (K W : Vec F S1x2048x128 .bf16) (C S : Vec F S2048x128 .f32) (kd : Vec F S1x256x128 .f32) (cd : Vec F S1x1x128 .f32) :
    ℕ → FVec F S128x128 .f32
  | 0 => k0_pay5
  | n + 1 => if h : n < k0_t1_loop.trips then
      groupNext (rows K ⟨n, h⟩) (rows W ⟨n, h⟩) (trows C ⟨n, h⟩) (trows S ⟨n, h⟩)
        (View.ld kd (Rect.unit ![0, 0, 0] S1x256x128.size inb_S1x256x128_S1x256x128_0_0_0))
        (View.ld cd (Rect.unit ![0, 0, 0] S1x1x128.size inb_S1x1x128_S1x1x128_0_0_0)) (carryAt K W C S kd cd n)
    else carryAt K W C S kd cd n

variable (𝒱 : Variants) (c : Dev nD) (bd : Option 𝒱.V) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S2x256x256 .f32) (harg8 : arg8.IsWhole)
  (arg9 : Memref sig .tc .vmem S1x256x128 .f32) (harg9 : arg9.IsWhole)
  (arg10 : Memref sig .tc .vmem S1x256x128 .f32) (harg10 : arg10.IsWhole)
  (arg11 : Memref sig .tc .vmem S1x1x128 .f32) (harg11 : arg11.IsWhole)
  (arg12 : Memref sig .tc .vmem S1x2048x128 .bf16) (harg12 : arg12.IsWhole)

theorem tripL_eq (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (n : Fin k0_t1_loop.trips) (acc : FVec F S128x128 .f32) :
    tripL_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 n acc
      = [piece (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) n acc] := by
  unfold tripL_k0_t1 trip_k0_t1
  rfl

theorem tripR_eq (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (n : Fin k0_t1_loop.trips) (acc : FVec F S128x128 .f32) :
    tripR_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 n acc
      = groupNext (rows (arg3.view.read (Elt F) X3) n) (rows (arg4.view.read (Elt F) X4) n) (trows (arg6.view.read (Elt F) X6) n) (trows (arg7.view.read (Elt F) X7) n)
        (View.ld (arg10.view.read (Elt F) X10) (Rect.unit ![0, 0, 0] S1x256x128.size inb_S1x256x128_S1x256x128_0_0_0))
        (View.ld (arg11.view.read (Elt F) X11) (Rect.unit ![0, 0, 0] S1x1x128.size inb_S1x1x128_S1x1x128_0_0_0)) acc := by
  unfold tripR_k0_t1 trip_k0_t1
  rfl

theorem st_eq (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (n : ℕ) (hn : n ≤ k0_t1_loop.trips) :
    (st_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 n).1
        = carryAt (arg3.view.read (Elt F) X3) (arg4.view.read (Elt F) X4) (arg6.view.read (Elt F) X6) (arg7.view.read (Elt F) X7) (arg10.view.read (Elt F) X10) (arg11.view.read (Elt F) X11) n
      ∧ ∀ p : View.Piece (Elt F) S1x2048x128 .bf16, p ∈ (st_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 n).2 ↔ ∃ k : Fin k0_t1_loop.trips, k.val < n ∧
          p = piece (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) k
            (carryAt (arg3.view.read (Elt F) X3) (arg4.view.read (Elt F) X4) (arg6.view.read (Elt F) X6) (arg7.view.read (Elt F) X7) (arg10.view.read (Elt F) X10) (arg11.view.read (Elt F) X11) k.val) := by
  induction n with
  | zero => exact ⟨rfl, fun p => ⟨fun h => absurd h List.not_mem_nil, fun ⟨k, h, _⟩ => absurd h (Nat.not_lt_zero _)⟩⟩
  | succ n ih =>
    obtain ⟨ih1, ih2⟩ := ih (Nat.le_of_succ_le hn)
    have h := st_k0_t1_succ (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 ⟨n, hn⟩
    rw [tripL_eq, tripR_eq] at h
    rw [show st_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 (n + 1) = _ from h]
    refine ⟨?_, fun p => ?_⟩
    · refine Eq.trans ?_ (dif_pos (show n < k0_t1_loop.trips from hn)).symm
      show groupNext _ _ _ _ _ _ (st_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 n).1 = _
      rw [ih1]
    · rw [List.singleton_append, List.mem_cons, ih2]
      show p = piece _ _ _ _ _ _ _ _ ⟨n, hn⟩ (st_k0_t1 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 X9 X10 X11 k0_pay5 n).1 ∨ _ ↔ _
      rw [ih1]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.1 hk with hk | hk
        · exact Or.inr ⟨k, hk, h⟩
        · obtain rfl : k = ⟨n, hn⟩ := Fin.ext hk
          exact Or.inl h

end Cert.RetIdeal.Body
-- ==== Proof.RetPay.lean ====
module

public import proofs.«01_k».proof.Proof.Gen.RetIdeal.Skeleton
public import Idealize.ShloMosaic.Lib.Pointwise

@[expose] public section

set_option maxRecDepth 16384

noncomputable section

namespace Cert.RetIdeal.Body

open Idealize.ShloMosaic Idealize.ShloMosaic.TcCoe
open Cert.RetIdeal Cert.RetIdeal.Gen

/-- Lanes of the first head. -/
theorem sel1 {α : Type} (r : Fin 256) (l : Fin 128) (a b : α) : Scalar.select (k0_pay1 (ix2 r l)) a b = if l.val < 64 then a else b := by
  have h : k0_pay1 (ix2 r l) = IntOp.cmpi .slt (BitVec.ofNat 32 l.val) 64#32 := by pointwise [k0_pay1]
  have hb : ∀ l : Fin 128, IntOp.cmpi .slt (BitVec.ofNat 32 l.val) 64#32 = if l.val < 64 then 1#1 else 0#1 := by decide +kernel
  rw [h, hb]; split_ifs <;> rfl

/-- Lanes of the second head. -/
theorem sel2 {α : Type} (r : Fin 256) (l : Fin 128) (a b : α) : Scalar.select (k0_pay2 (ix2 r l)) a b = if l.val < 64 then b else a := by
  have h : k0_pay2 (ix2 r l) = IntOp.cmpi .sge (BitVec.ofNat 32 l.val) 64#32 := by pointwise [k0_pay2]
  have hb : ∀ l : Fin 128, IntOp.cmpi .sge (BitVec.ofNat 32 l.val) 64#32 = if l.val < 64 then 0#1 else 1#1 := by decide +kernel
  rw [h, hb]; split_ifs <;> rfl

/-- Lanes of the first half of a head. -/
theorem sel3 {α : Type} (r : Fin 256) (l : Fin 128) (a b : α) : Scalar.select (k0_pay3 (ix2 r l)) a b = if l.val % 64 < 32 then a else b := by
  have h : ∀ l : Fin 128, k0_pay3 (ix2 0 l) = if l.val % 64 < 32 then 1#1 else 0#1 := by decide +kernel
  have h0 : k0_pay3 (ix2 r l) = k0_pay3 (ix2 0 l) := by pointwise [k0_pay3]
  rw [h0, h]; split_ifs <;> rfl

/-- Lanes of one and the same head. -/
theorem sel4 {α : Type} (x l : Fin 128) (a b : α) : Scalar.select (k0_pay4 (ix2 x l)) a b = if (x.val < 64 ↔ l.val < 64) then a else b := by
  have h : k0_pay4 (ix2 x l) = IntOp.xori (IntOp.xori (IntOp.cmpi .slt (BitVec.ofNat 32 x.val) 64#32) (IntOp.cmpi .slt (BitVec.ofNat 32 l.val) 64#32)) 1#1 := by
    pointwise [k0_pay4]
  have hb : ∀ l : Fin 128, IntOp.cmpi .slt (BitVec.ofNat 32 l.val) 64#32 = if l.val < 64 then 1#1 else 0#1 := by decide +kernel
  rw [h, hb, hb]
  by_cases h1 : x.val < 64 <;> by_cases h2 : l.val < 64 <;> simp only [h1, h2, if_true, if_false] <;> rfl

/-- A row turned by its angles: a lane times the cosine, and the lane half a head away times the signed sine. -/
def turned (x : Fin 128 → EReal) (co si : EReal) (l : Fin 128) : EReal :=
  x l * co + (if l.val % 64 < 32 then x ⟨(l.val + 128 - 96) % 128, by omega⟩ else x ⟨(l.val + 128 - 32) % 128, by omega⟩) * si

theorem pay8_apply (co si : Vec Ideal S256x128 .f32) (x : Vec Ideal S1x256x128 .bf16) (r : Fin 256) (l : Fin 128) :
    k0_pay8 (F := Ideal) k0_pay3 co si x (ix2 r l)
      = turned (fun l => x (ix3 0 r l)) (co (ix2 r l)) (si (ix2 r l)) l * Ideal.ofBits .f32 0x3E000000#32 := by
  have hsel := @sel3 EReal r l
  pointwise [k0_pay8, k0_pay6, k0_pay7]
  rw [hsel]
  rfl

theorem pay12_apply (co si : Vec Ideal S256x128 .f32) (x : Vec Ideal S1x256x128 .bf16) (r : Fin 256) (l : Fin 128) :
    k0_pay12 (F := Ideal) k0_pay3 co si x (ix2 r l)
      = turned (fun l => x (ix3 0 r l)) (co (ix2 r l)) (si (ix2 r l)) l * Ideal.ofBits .f32 0x3E000000#32 :=
  pay8_apply co si x r l

theorem pay11_apply (co si : Vec Ideal S256x128 .f32) (x : Vec Ideal S1x256x128 .bf16) (r : Fin 256) (l : Fin 128) :
    k0_pay11 (F := Ideal) k0_pay3 co si x (ix2 r l)
      = turned (fun l => x (ix3 0 r l)) (co (ix2 r l)) (si (ix2 r l)) l := by
  have hsel := @sel3 EReal r l
  pointwise [k0_pay11, k0_pay6, k0_pay7]
  rw [hsel]
  rfl

theorem pay13_apply (co si : Vec Ideal S256x128 .f32) (x : Vec Ideal S1x256x128 .bf16) (r : Fin 256) (l : Fin 128) :
    k0_pay13 (F := Ideal) k0_pay1 k0_pay3 co si x (ix2 r l)
      = if l.val < 64 then turned (fun l => x (ix3 0 r l)) (co (ix2 r l)) (si (ix2 r l)) l else 0 := by
  rw [← pay11_apply, ← sel1 r l]
  unfold k0_pay13
  generalize k0_pay11 (F := Ideal) k0_pay3 co si x = w
  pointwise

theorem pay9_apply (x : Vec Ideal S1x256x128 .bf16) (r : Fin 256) (l : Fin 128) : k0_pay9 (F := Ideal) x (ix2 r l) = x (ix3 0 r l) := by
  pointwise [k0_pay9]

theorem pay10_apply (x : Vec Ideal S1x256x128 .bf16) (r : Fin 256) (l : Fin 128) : k0_pay10 (F := Ideal) x (ix2 r l) = x (ix3 0 r l) := by
  pointwise [k0_pay10]

theorem pay14_apply (acc : FVec Ideal S128x128 .f32) (v : FVec Ideal S256x128 .bf16) (q k q0 : FVec Ideal S256x128 .bf16)
    (d0 d1 : Vec Ideal S1x256x256 .f32) (qd : Vec Ideal S1x256x128 .f32) (r : Fin 256) (l : Fin 128) :
    k0_pay14 (F := Ideal) k0_pay1 k0_pay2 acc v q k q0 (constant S256x256 .f32 0x00000000#32) d0 d1 qd (ix2 r l)
      = (if l.val < 64 then ∑ u : Fin 256, (∑ x : Fin 128, q0 (ix2 r x) * k (ix2 u x)) * d0 (ix3 0 r u) * v (ix2 u l)
          else ∑ u : Fin 256, (∑ x : Fin 128, (if x.val < 64 then 0 else q (ix2 r x)) * k (ix2 u x)) * d1 (ix3 0 r u) * v (ix2 u l))
        + (∑ x : Fin 128, q (ix2 r x) * acc (ix2 x l)) * qd (ix3 0 r l) := by
  rw [← sel1 r l]
  simp only [← sel2 r]
  pointwise [k0_pay14]

theorem pay15_apply (k : FVec Ideal S256x128 .f32) (v : FVec Ideal S256x128 .bf16) (kd : Vec Ideal S1x256x128 .f32) (x l : Fin 128) :
    k0_pay15 (F := Ideal) k v kd (ix2 x l) = ∑ u : Fin 256, k (ix2 u x) * kd (ix3 0 u x) * v (ix2 u l) := by
  pointwise [k0_pay15]

theorem pay19_apply (acc w : FVec Ideal S128x128 .f32) (cd : Vec Ideal S1x1x128 .f32) (x l : Fin 128) :
    k0_pay19 (F := Ideal) k0_pay4 acc w cd (ix2 x l)
      = cd (ix3 0 0 l) * acc (ix2 x l) + if (x.val < 64 ↔ l.val < 64) then w (ix2 x l) else 0 := by
  rw [← sel4 x l]
  pointwise [k0_pay19]

/-- The sum over the lanes of the head of lane `l`. -/
def headSum (f : Fin 128 → EReal) (l : Fin 128) : EReal :=
  if l.val < 64 then ∑ x : Fin 128, (if x.val < 64 then f x else 0) else ∑ x : Fin 128, (if x.val < 64 then 0 else f x)

/-- A value less the mean over its head. -/
def centred (o : Fin 128 → EReal) (l : Fin 128) : EReal := o l - headSum o l * Ideal.ofBits .f32 0x3C800000#32

/-- A head's values normed and gated. -/
def normed (o : Fin 128 → EReal) (g : EReal) (l : Fin 128) : EReal :=
  centred o l * Ideal.rsqrt (headSum (fun x => centred o x * centred o x) l * Ideal.ofBits .f32 0x3C800000#32 + Ideal.ofBits .f32 0x358637BD#32)
    * Ideal.div g (1 + Ideal.exp (0 - g))

theorem pay16_apply (acc : FVec Ideal S128x128 .f32) (v q k q0 : FVec Ideal S256x128 .bf16) (z : FVec Ideal S256x256 .f32)
    (d0 d1 : Vec Ideal S1x256x256 .f32) (qd : Vec Ideal S1x256x128 .f32) (r : Fin 256) (l : Fin 128) :
    k0_pay16 (F := Ideal) k0_pay1 k0_pay2 acc v q k q0 z d0 d1 qd (ix2 r l)
      = ∑ x : Fin 128, if x.val < 64 then k0_pay14 (F := Ideal) k0_pay1 k0_pay2 acc v q k q0 z d0 d1 qd (ix2 r x) else 0 := by
  simp only [← sel1 r]
  unfold k0_pay16
  generalize k0_pay14 (F := Ideal) k0_pay1 k0_pay2 acc v q k q0 z d0 d1 qd = w
  pointwise

theorem pay17_apply (acc : FVec Ideal S128x128 .f32) (v q k q0 : FVec Ideal S256x128 .bf16) (z : FVec Ideal S256x256 .f32)
    (d0 d1 : Vec Ideal S1x256x256 .f32) (qd : Vec Ideal S1x256x128 .f32) (r : Fin 256) :
    k0_pay17 (F := Ideal) k0_pay1 k0_pay2 acc v q k q0 z d0 d1 qd (ix2 r 0)
      = ∑ x : Fin 128, if x.val < 64 then 0 else k0_pay14 (F := Ideal) k0_pay1 k0_pay2 acc v q k q0 z d0 d1 qd (ix2 r x) := by
  simp only [← sel2 r]
  unfold k0_pay17
  generalize k0_pay14 (F := Ideal) k0_pay1 k0_pay2 acc v q k q0 z d0 d1 qd = w
  pointwise

theorem pay18_apply (g o a : FVec Ideal S256x128 .f32) (b : FVec Ideal S256x1 .f32) (r : Fin 256) (l : Fin 128)
    (ha : ∀ l, a (ix2 r l) = ∑ x : Fin 128, if x.val < 64 then o (ix2 r x) else 0)
    (hb : b (ix2 r 0) = ∑ x : Fin 128, if x.val < 64 then 0 else o (ix2 r x)) :
    k0_pay18 (F := Ideal) k0_pay1 k0_pay2 g o a b (ix3 0 r l) = normed (fun x => o (ix2 r x)) (g (ix2 r l)) l := by
  have hs : ∀ x, Scalar.select (k0_pay1 (ix2 r x)) (a (ix2 r x)) (b (ix2 r 0)) = headSum (fun x => o (ix2 r x)) x := by
    intro x; rw [sel1, ha, hb]; rfl
  have s1 := @sel1 EReal r
  have s2 := @sel2 EReal r
  pointwise [k0_pay18]
  simp only [hs]
  rw [s1]
  simp only [s1, s2]
  unfold normed headSum centred
  rfl

end Cert.RetIdeal.Body
-- ==== Proof.RetTab.lean ====
module

public import proofs.«01_k».proof.Proof.Gen.RetIdeal.Value
public import Idealize.ShloMosaic.Lib.Pointwise

@[expose] public section

set_option maxRecDepth 16384

noncomputable section

namespace Cert.RetIdeal.Body

open Idealize.ShloMosaic Idealize.ShloMosaic.TcCoe Idealize.ShloMosaic.Tactic
open Idealize.SL Idealize.SL.Sem
open Cert.RetIdeal Cert.RetIdeal.Gen

/-- The angle of each position and frequency. -/
def angles : FVec Ideal S2048x32 .f32 :=
  mulf (broadcastInDim S2048x32 ![0, 1] bcast_S2048x1_S2048x32_0_1 (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))

/-- A table over frequencies repeated over the lanes. -/
def lanes (x : FVec Ideal S2048x32 .f32) : FVec Ideal S2048x128 .f32 :=
  shapeCast S2048x128 (broadcastInDim S1x2048x4x32 ![0, 1, 2, 3] bcast_S1x2048x1x32_S1x2048x4x32_0_1_2_3 (shapeCast S1x2048x1x32 x shapeCasts_S2048x32_S1x2048x1x32))
    shapeCasts_S1x2048x4x32_S2048x128

/-- The sign of each lane's sine. -/
def signs : FVec Ideal S128 .f32 :=
  shapeCast S128 (broadcastInDim S2x64 ![0, 1] bcast_S1x64_S2x64_0_1 (shapeCast S1x64
    (concatenate S64 0 [⟨S32, Host.negf (broadcastInDim S32 ![] bcast_S_S32 (constant (F := Ideal) S_ .f32 0x3F800000#32))⟩,
      ⟨S32, broadcastInDim S32 ![] bcast_S_S32 (constant (F := Ideal) S_ .f32 0x3F800000#32)⟩] concatenates_S32_S32_S64_d0) shapeCasts_S64_S1x64)) shapeCasts_S2x64_S128

/-- The signed sines. -/
def sines (x : FVec Ideal S2048x128 .f32) (s : FVec Ideal S128 .f32) : FVec Ideal S2048x128 .f32 :=
  mulf x (broadcastInDim S2048x128 ![0, 1] bcast_S1x128_S2048x128_0_1 (broadcastInDim S1x128 ![1] bcast_S128_S1x128_1 s))

/-- The logarithm of each head's decay. -/
def logs : FVec Ideal S8 .f32 :=
  Host.log (subf (broadcastInDim S8 ![] bcast_S_S8 (constant (F := Ideal) S_ .f32 0x3F800000#32))
    (Host.powf (broadcastInDim S8 ![] bcast_S_S8 (constant (F := Ideal) S_ .f32 0x40000000#32))
      (subf (broadcastInDim S8 ![] bcast_S_S8 (constant (F := Ideal) S_ .f32 0xC0A00000#32)) (sitofp (F := Ideal) .f32 (iotaInDim S8 32 0)))))

/-- The places within a group. -/
def places : FVec Ideal S256 .f32 := sitofp (F := Ideal) .f32 (iotaInDim S256 32 0)

/-- Division of places by a word, rounding down. -/
def fdiv (x : Vec Ideal S256 .i32) (k : Vec Ideal S_ .i32) : Vec Ideal S256 .i32 :=
  select (andi (cmpi .ne (signi x) (broadcastInDim S256 ![] bcast_S_S256 (signi k)))
      (cmpi .ne (Host.remsi x (broadcastInDim S256 ![] bcast_S_S256 k)) (broadcastInDim S256 ![] bcast_S_S256 (constantI S_ 32 0#32))))
    (subi (Host.divsi x (broadcastInDim S256 ![] bcast_S_S256 k)) (broadcastInDim S256 ![] bcast_S_S256 (constantI S_ 32 1#32)))
    (Host.divsi x (broadcastInDim S256 ![] bcast_S_S256 k))

/-- Which places of a group may be looked at, by their chunks. -/
def early (ch : Vec Ideal S256 .i32) : Vec Ideal S1x256x256 .i1 :=
  broadcastInDim S1x256x256 ![1, 2] bcast_S256x256_S1x256x256_1_2
    (cmpi .sle (broadcastInDim S256x256 ![0, 1] bcast_S1x256_S256x256_0_1 (broadcastInDim S1x256 ![1] bcast_S256_S1x256_1 ch))
      (broadcastInDim S256x256 ![0, 1] bcast_S256x1_S256x256_0_1 (broadcastInDim S256x1 ![0] bcast_S256_S256x1_0 ch)))

/-- The decay between two places of a group. -/
def near (L : FVec Ideal S8 .f32) (p : FVec Ideal S256 .f32) : FVec Ideal S8x256x256 .f32 :=
  Host.exp (mulf (broadcastInDim S8x256x256 ![0, 1, 2] bcast_S8x1x1_S8x256x256_0_1_2 (broadcastInDim S8x1x1 ![0] bcast_S8_S8x1x1_0 L))
    (broadcastInDim S8x256x256 ![0, 1, 2] bcast_S1x256x256_S8x256x256_0_1_2 (broadcastInDim S1x256x256 ![1, 2] bcast_S256x256_S1x256x256_1_2
      (Host.absf (subf (broadcastInDim S256x256 ![0, 1] bcast_S256x1_S256x256_0_1 (broadcastInDim S256x1 ![0] bcast_S256_S256x1_0 p))
        (broadcastInDim S256x256 ![0, 1] bcast_S1x256_S256x256_0_1 (broadcastInDim S1x256 ![1] bcast_S256_S1x256_1 p)))))))

/-- That decay where the chunks allow, zero elsewhere. -/
def nearKept (b : Vec Ideal S1x256x256 .i1) (x : FVec Ideal S8x256x256 .f32) (z : FVec Ideal S_ .f32) : FVec Ideal S8x256x256 .f32 :=
  select (broadcastInDim S8x256x256 ![0, 1, 2] bcast_S1x256x256_S8x256x256_0_1_2 b) x (broadcastInDim S8x256x256 ![] bcast_S_S8x256x256 z)

/-- A decay per place and head, repeated over the lanes of a pair of heads. -/
def pairs (L : FVec Ideal S8 .f32) (p : FVec Ideal S256 .f32) : FVec Ideal S4x256x128 .f32 :=
  transpose S4x256x128 [1, 0, 2] (shapeCast S256x4x128 (shapeCast S256x512 (broadcastInDim S256x8x64 ![0, 1] bcast_S256x8_S256x8x64_0_1
    (Host.exp (mulf (broadcastInDim S256x8 ![0, 1] bcast_S1x8_S256x8_0_1 (broadcastInDim S1x8 ![1] bcast_S8_S1x8_1 L))
      (broadcastInDim S256x8 ![0, 1] bcast_S256x1_S256x8_0_1 (broadcastInDim S256x1 ![0] bcast_S256_S256x1_0 p)))))
    shapeCasts_S256x8x64_S256x512) shapeCasts_S256x512_S256x4x128) transposes_S256x4x128_S4x256x128_1_0_2

/-- The decay of a whole group, repeated over the lanes of a pair of heads. -/
def across (L : FVec Ideal S8 .f32) : FVec Ideal S4x1x128 .f32 :=
  transpose S4x1x128 [1, 0, 2] (shapeCast S1x4x128 (shapeCast S1x512 (broadcastInDim S1x8x64 ![0, 1] bcast_S1x8_S1x8x64_0_1
    (broadcastInDim S1x8 ![1] bcast_S8_S1x8_1 (Host.exp (mulf L (broadcastInDim S8 ![] bcast_S_S8 (constant (F := Ideal) S_ .f32 0x43800000#32))))))
    shapeCasts_S1x8x64_S1x512) shapeCasts_S1x512_S1x4x128) transposes_S1x4x128_S4x1x128_1_0_2

section Reads
variable (W : Valuation τ sig (Elt Ideal))

theorem ops4_q : StableHlo.after (hostOps0_4 (F := Ideal)) W main_v83
    = pairs (W main_v37) (addf (W main_v38 : FVec Ideal S256 .f32) (broadcastInDim S256 ![] bcast_S_S256 (constant (F := Ideal) S_ .f32 0x3F800000#32))) := by
  after_results
  rfl
theorem ops4_k : StableHlo.after (hostOps0_4 (F := Ideal)) W main_v71
    = pairs (W main_v37) (subf (broadcastInDim S256 ![] bcast_S_S256 (constant (F := Ideal) S_ .f32 0x437F0000#32)) (W main_v38 : FVec Ideal S256 .f32)) := by
  after_results
  rfl
theorem ops4_c : StableHlo.after (hostOps0_4 (F := Ideal)) W main_v91 = across (W main_v37) := by
  after_results
  rfl
theorem ops4_d : StableHlo.after (hostOps0_4 (F := Ideal)) W main_v59 = W main_v59 := by after_results
theorem ops4_co : StableHlo.after (hostOps0_4 (F := Ideal)) W main_v15 = W main_v15 := by after_results
theorem ops4_si : StableHlo.after (hostOps0_4 (F := Ideal)) W main_v29 = W main_v29 := by after_results
theorem ops4_x : StableHlo.after (hostOps0_4 (F := Ideal)) W main_arg0 = W main_arg0 := by after_results
theorem ops3_d : StableHlo.after (hostOps0_3 (F := Ideal)) W main_v59 = nearKept (W main_v46) (W main_v58) (W main_cst_6) := by
  after_results
  rfl
theorem ops3_L : StableHlo.after (hostOps0_3 (F := Ideal)) W main_v37 = W main_v37 := by after_results
theorem ops3_p : StableHlo.after (hostOps0_3 (F := Ideal)) W main_v38 = W main_v38 := by after_results
theorem ops3_co : StableHlo.after (hostOps0_3 (F := Ideal)) W main_v15 = W main_v15 := by after_results
theorem ops3_si : StableHlo.after (hostOps0_3 (F := Ideal)) W main_v29 = W main_v29 := by after_results
theorem ops3_x : StableHlo.after (hostOps0_3 (F := Ideal)) W main_arg0 = W main_arg0 := by after_results
theorem ops2_b : StableHlo.after (hostOps0_2 (F := Ideal)) W main_v46 = early (W main_v40) := by
  after_results
  rfl
theorem ops2_n : StableHlo.after (hostOps0_2 (F := Ideal)) W main_v58 = near (W main_v37) (W main_v38) := by
  after_results
  rfl
theorem ops2_z : StableHlo.after (hostOps0_2 (F := Ideal)) W main_cst_6 = constant (F := Ideal) S_ .f32 0x00000000#32 := by
  after_results
theorem ops2_L : StableHlo.after (hostOps0_2 (F := Ideal)) W main_v37 = W main_v37 := by after_results
theorem ops2_p : StableHlo.after (hostOps0_2 (F := Ideal)) W main_v38 = W main_v38 := by after_results
theorem ops2_co : StableHlo.after (hostOps0_2 (F := Ideal)) W main_v15 = W main_v15 := by after_results
theorem ops2_si : StableHlo.after (hostOps0_2 (F := Ideal)) W main_v29 = W main_v29 := by after_results
theorem ops2_x : StableHlo.after (hostOps0_2 (F := Ideal)) W main_arg0 = W main_arg0 := by after_results
theorem ops1_f : StableHlo.after (hostOps0_1 (F := Ideal)) W main_v40 = fdiv (W main_v39) (W main_c) := by
  after_results
  rfl
theorem ops1_L : StableHlo.after (hostOps0_1 (F := Ideal)) W main_v37 = W main_v37 := by after_results
theorem ops1_p : StableHlo.after (hostOps0_1 (F := Ideal)) W main_v38 = W main_v38 := by after_results
theorem ops1_co : StableHlo.after (hostOps0_1 (F := Ideal)) W main_v15 = W main_v15 := by after_results
theorem ops1_si : StableHlo.after (hostOps0_1 (F := Ideal)) W main_v29 = W main_v29 := by after_results
theorem ops1_x : StableHlo.after (hostOps0_1 (F := Ideal)) W main_arg0 = W main_arg0 := by after_results
theorem ops0_co : StableHlo.after (hostOps0 (F := Ideal)) W main_v15 = lanes (Host.cos angles) := by
  after_results
  rfl
theorem ops0_si : StableHlo.after (hostOps0 (F := Ideal)) W main_v29 = sines (lanes (Host.sin angles)) signs := by
  after_results
  rfl
theorem ops0_L : StableHlo.after (hostOps0 (F := Ideal)) W main_v37 = logs := by
  after_results
  rfl
theorem ops0_p : StableHlo.after (hostOps0 (F := Ideal)) W main_v38 = places := by
  after_results
  rfl
theorem ops0_i : StableHlo.after (hostOps0 (F := Ideal)) W main_v39 = iotaInDim S256 32 0 := by after_results
theorem ops0_c : StableHlo.after (hostOps0 (F := Ideal)) W main_c = constantI S_ 32 64#32 := by after_results
theorem ops0_x : StableHlo.after (hostOps0 (F := Ideal)) W main_arg0 = W main_arg0 := by after_results

end Reads

variable (m : (ℓ : Loc nD τ sig) → Buf (Elt Ideal) ℓ) (c : Dev nD)

theorem V_x : V m c main_arg0 = m ((c : Thread nD τ).loc main_arg0) := by
  unfold V
  simp only [List.flatten_cons, List.flatten_nil, List.append_nil, StableHlo.after_append]
  rw [ops4_x, ops3_x, ops2_x, ops1_x, ops0_x]
theorem V_cos : V m c main_v15 = lanes (Host.cos angles) := by
  unfold V
  simp only [List.flatten_cons, List.flatten_nil, List.append_nil, StableHlo.after_append]
  rw [ops4_co, ops3_co, ops2_co, ops1_co, ops0_co]
theorem V_sin : V m c main_v29 = sines (lanes (Host.sin angles)) signs := by
  unfold V
  simp only [List.flatten_cons, List.flatten_nil, List.append_nil, StableHlo.after_append]
  rw [ops4_si, ops3_si, ops2_si, ops1_si, ops0_si]
theorem V_near : V m c main_v59 = nearKept (early (fdiv (iotaInDim S256 32 0) (constantI S_ 32 64#32))) (near logs places) (constant (F := Ideal) S_ .f32 0x00000000#32) := by
  unfold V
  simp only [List.flatten_cons, List.flatten_nil, List.append_nil, StableHlo.after_append]
  rw [ops4_d, ops3_d, ops2_b, ops2_n, ops2_z, ops1_f, ops1_L, ops1_p, ops0_i, ops0_c, ops0_L, ops0_p]
theorem V_q : V m c main_v83 = pairs logs (addf places (broadcastInDim S256 ![] bcast_S_S256 (constant (F := Ideal) S_ .f32 0x3F800000#32))) := by
  unfold V
  simp only [List.flatten_cons, List.flatten_nil, List.append_nil, StableHlo.after_append]
  rw [ops4_q, ops3_L, ops3_p, ops2_L, ops2_p, ops1_L, ops1_p, ops0_L, ops0_p]
theorem V_k : V m c main_v71 = pairs logs (subf (broadcastInDim S256 ![] bcast_S_S256 (constant (F := Ideal) S_ .f32 0x437F0000#32)) places) := by
  unfold V
  simp only [List.flatten_cons, List.flatten_nil, List.append_nil, StableHlo.after_append]
  rw [ops4_k, ops3_L, ops3_p, ops2_L, ops2_p, ops1_L, ops1_p, ops0_L, ops0_p]
theorem V_c : V m c main_v91 = across logs := by
  unfold V
  simp only [List.flatten_cons, List.flatten_nil, List.append_nil, StableHlo.after_append]
  rw [ops4_c, ops3_L, ops2_L, ops1_L, ops0_L]

/-! ## The tables entry by entry -/

theorem bits_base : Ideal.ofBits .f32 0x461C4000#32 = ((10000 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_five : Ideal.ofBits .f32 0xC0A00000#32 = ((-5 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_255 : Ideal.ofBits .f32 0x437F0000#32 = ((255 : ℝ) : EReal) := by
  simp [Ideal.ofBits, Ideal.ieee, -EReal.coe_mul]; norm_num

/-- A small word read as a real. -/
theorem word_real (n : ℕ) (h : n < 2048) : (FloatOps.sitofp FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_of_lt (by simp [BitVec.toNat_ofNat]; omega), BitVec.toNat_ofNat, Nat.mod_eq_of_lt (by omega)]
  rw [e, Int.cast_natCast]

/-- The angle of a position and a frequency. -/
def angle (t d : ℕ) : ℝ := (t : ℝ) * Real.rpow 10000 (-(d : ℝ) * (1 / 32))

/-- The logarithm of a head's decay. -/
def logOf (h : ℕ) : ℝ := Real.log (1 - Real.rpow 2 (-5 - (h : ℝ)))

theorem angles_apply (t : Fin 2048) (d : Fin 32) : angles (ix2 t d) = ((angle t.val d.val : ℝ) : EReal) := by
  pointwise [angles]
  rw [word_real _ (by omega), word_real _ (by omega), bits_base, bits_32, Ideal.div_coe (by norm_num), ← EReal.coe_neg, ← EReal.coe_mul, Ideal.pow_coe_coe, ← EReal.coe_mul]
  rfl

theorem lanes_apply (x : FVec Ideal S2048x32 .f32) (t : Fin 2048) (l : Fin 128) : lanes x (ix2 t l) = x (ix2 t ⟨l.val % 32, by omega⟩) := by
  pointwise [lanes]

theorem signs_apply (l : Fin 128) : signs (ix1 l) = if l.val % 64 < 32 then -1 else 1 := by
  pointwise [signs]
  rfl

theorem cos_apply (t : Fin 2048) (l : Fin 128) : lanes (Host.cos angles) (ix2 t l) = ((Real.cos (angle t.val (l.val % 32)) : ℝ) : EReal) := by
  rw [lanes_apply]
  show Ideal.cos (angles (ix2 t ⟨l.val % 32, by omega⟩)) = _
  rw [angles_apply, Ideal.cos_coe]

theorem sin_apply (t : Fin 2048) (l : Fin 128) : sines (lanes (Host.sin angles)) signs (ix2 t l)
    = ((Real.sin (angle t.val (l.val % 32)) * (if l.val % 64 < 32 then -1 else 1) : ℝ) : EReal) := by
  have e : sines (lanes (Host.sin angles)) signs (ix2 t l) = lanes (Host.sin angles) (ix2 t l) * signs (ix1 l) := by
    generalize lanes (Host.sin angles) = A
    generalize signs = B
    pointwise [sines]
  rw [e, lanes_apply, signs_apply]
  show Ideal.sin (angles (ix2 t ⟨l.val % 32, by omega⟩)) * _ = _
  rw [angles_apply, Ideal.sin_coe]
  split <;> simp

theorem decay_pos (h : ℕ) : 0 < 1 - Real.rpow 2 (-5 - (h : ℝ)) := by
  have : Real.rpow 2 (-5 - (h : ℝ)) < 1 := Real.rpow_lt_one_of_one_lt_of_neg (by norm_num) (by have := Nat.cast_nonneg (α := ℝ) h; linarith)
  linarith

/-- The logarithm of a head's decay, from its words. -/
theorem log_real (h : ℕ) (hh : h < 2048) : Ideal.log (1 - Ideal.pow (Ideal.ofBits FTy.f32 0x40000000#32) (Ideal.ofBits FTy.f32 0xC0A00000#32 - (FloatOps.sitofp FTy.f32 (BitVec.ofNat 32 h) : Ideal .f32)))
    = ((logOf h : ℝ) : EReal) := by
  rw [word_real _ hh, bits_two, bits_five, ← EReal.coe_sub, Ideal.pow_coe_coe, ← EReal.coe_one, ← EReal.coe_sub, Ideal.log_coe, if_neg (not_le.2 (decay_pos h))]
  rfl

theorem logs_apply (h : Fin 8) : logs (ix1 h) = ((logOf h.val : ℝ) : EReal) := by
  pointwise [logs]
  exact log_real _ (by omega)

theorem places_apply (t : Fin 256) : places (ix1 t) = ((t.val : ℝ) : EReal) := by
  pointwise [places]
  exact word_real _ (by omega)

theorem fdiv_apply (t : Fin 256) : fdiv (iotaInDim S256 32 0) (constantI S_ 32 64#32) (ix1 t) = BitVec.ofNat 32 (t.val / 64) := by
  pointwise [fdiv]
  revert t
  decide +kernel

theorem early_apply (t u : Fin 256) : early (fdiv (iotaInDim S256 32 0) (constantI S_ 32 64#32)) (ix3 0 t u) = if u.val / 64 ≤ t.val / 64 then 1#1 else 0#1 := by
  have e (ch : Vec Ideal S256 .i32) : early ch (ix3 0 t u) = IntOp.cmpi CmpIPredicate.sle (ch (ix1 u)) (ch (ix1 t)) := by pointwise [early]
  rw [e, fdiv_apply, fdiv_apply]
  have : ∀ a b : Fin 4, IntOp.cmpi CmpIPredicate.sle (BitVec.ofNat 32 a.val) (BitVec.ofNat 32 b.val) = if a.val ≤ b.val then 1#1 else 0#1 := by decide +kernel
  exact this ⟨u.val / 64, by omega⟩ ⟨t.val / 64, by omega⟩

/-- The absolute value of a real. -/
theorem abs_real (r : ℝ) : (FloatOps.absf (F := Ideal) (φ := .f32) ((r : ℝ) : EReal) : EReal) = ((|r| : ℝ) : EReal) := by
  show max (r : EReal) (-(r : EReal)) = _
  rw [← EReal.coe_neg]
  exact (EReal.coe_strictMono.monotone.map_max).symm

theorem near_apply (h : Fin 8) (t u : Fin 256) : near logs places (ix3 h t u) = ((Real.exp (logOf h.val * |(t.val : ℝ) - u.val|) : ℝ) : EReal) := by
  have e (L : FVec Ideal S8 .f32) (p : FVec Ideal S256 .f32) : near L p (ix3 h t u) = Ideal.exp (L (ix1 h) * FloatOps.absf (F := Ideal) (φ := .f32) (p (ix1 t) - p (ix1 u))) := by pointwise [near]
  rw [e, logs_apply, places_apply, places_apply, ← EReal.coe_sub]
  rw [abs_real]
  rw [← EReal.coe_mul, Ideal.exp_coe]

/-- The decay between two places of a group of positions. -/
theorem idec_apply (h : Fin 8) (t u : Fin 256) : nearKept (early (fdiv (iotaInDim S256 32 0) (constantI S_ 32 64#32))) (near logs places) (constant (F := Ideal) S_ .f32 0x00000000#32) (ix3 h t u)
    = (((if u.val / 64 ≤ t.val / 64 then Real.exp (logOf h.val * |(t.val : ℝ) - u.val|) else 0) : ℝ) : EReal) := by
  have e (b : Vec Ideal S1x256x256 .i1) (x : FVec Ideal S8x256x256 .f32) (z : FVec Ideal S_ .f32) : nearKept b x z (ix3 h t u) = Scalar.select (b (ix3 0 t u)) (x (ix3 h t u)) (z ix0) := by
    pointwise [nearKept]
  rw [e, early_apply, near_apply]
  show Scalar.select _ _ (Ideal.ofBits .f32 0x00000000#32) = _
  rw [Ideal.ofBits_zero_f32]
  by_cases h' : u.val / 64 ≤ t.val / 64
  · simp [h', Scalar.select]
  · simp [h', Scalar.select]

theorem pairs_apply (L : FVec Ideal S8 .f32) (p : FVec Ideal S256 .f32) (h : Fin 4) (t : Fin 256) (l : Fin 128) :
    pairs L p (ix3 h t l) = Ideal.exp (L (ix1 ⟨h.val * 2 + l.val / 64, by omega⟩) * p (ix1 t)) := by
  pointwise [pairs]

/-- The decay from the start of a group to each place of it. -/
theorem qdec_apply (h : Fin 4) (t : Fin 256) (l : Fin 128) :
    pairs logs (addf places (broadcastInDim S256 ![] bcast_S_S256 (constant (F := Ideal) S_ .f32 0x3F800000#32))) (ix3 h t l)
      = ((Real.exp (logOf (h.val * 2 + l.val / 64) * ((t.val : ℝ) + 1)) : ℝ) : EReal) := by
  rw [pairs_apply, logs_apply]
  have e (p : FVec Ideal S256 .f32) : addf p (broadcastInDim S256 ![] bcast_S_S256 (constant (F := Ideal) S_ .f32 0x3F800000#32)) (ix1 t) = p (ix1 t) + 1 := by pointwise
  rw [e, places_apply, ← EReal.coe_one, ← EReal.coe_add, ← EReal.coe_mul, Ideal.exp_coe]

/-- The decay from each place of a group to its end. -/
theorem kdec_apply (h : Fin 4) (t : Fin 256) (l : Fin 128) :
    pairs logs (subf (broadcastInDim S256 ![] bcast_S_S256 (constant (F := Ideal) S_ .f32 0x437F0000#32)) places) (ix3 h t l)
      = ((Real.exp (logOf (h.val * 2 + l.val / 64) * (255 - (t.val : ℝ))) : ℝ) : EReal) := by
  rw [pairs_apply, logs_apply]
  have e (p : FVec Ideal S256 .f32) : subf (broadcastInDim S256 ![] bcast_S_S256 (constant (F := Ideal) S_ .f32 0x437F0000#32)) p (ix1 t) = Ideal.ofBits .f32 0x437F0000#32 - p (ix1 t) := by pointwise
  rw [e, places_apply, bits_255, ← EReal.coe_sub, ← EReal.coe_mul, Ideal.exp_coe]

/-- The decay over a whole group. -/
theorem cdec_apply (h : Fin 4) (l : Fin 128) : across logs (ix3 h 0 l) = ((Real.exp (logOf (h.val * 2 + l.val / 64) * 256) : ℝ) : EReal) := by
  have e (L : FVec Ideal S8 .f32) : across L (ix3 h 0 l) = Ideal.exp (L (ix1 ⟨h.val * 2 + l.val / 64, by omega⟩) * Ideal.ofBits FTy.f32 1132462080#32) := by pointwise [across]
  rw [e, logs_apply, bits_256, ← EReal.coe_mul, Ideal.exp_coe]

end Cert.RetIdeal.Body
-- ==== Proof.RetGroup.lean ====
module

public import proofs.«01_k».proof.Proof.RetReal
public import proofs.«01_k».proof.Proof.RetTrip
public import proofs.«01_k».proof.Proof.RetPay
public import proofs.«01_k».proof.Proof.RetTab

@[expose] public section

set_option maxRecDepth 16384

noncomputable section

namespace Cert.RetIdeal.Body

open Idealize.ShloMosaic Idealize.ShloMosaic.TcCoe Idealize.ShloMosaic.Tactic
open Cert.RetIdeal Cert.RetIdeal.Gen
open Cert.Retention

/-- Lane `d` of the head that lane `l` belongs to. -/
def head (l : Fin 128) (d : Fin 64) : Fin 128 := ⟨64 * (l.val / 64) + d.val, by omega⟩

/-- A sum over the lanes of lane `l`'s head. -/
theorem lanes_head {M : Type} [AddCommMonoid M] (f : Fin 128 → M) (l : Fin 128) :
    (∑ x, if (x.val < 64 ↔ l.val < 64) then f x else 0) = ∑ d, f (head l d) := by
  by_cases hl : l.val < 64
  · simp only [hl, iff_true]
    rw [lanes_first]
    refine Finset.sum_congr rfl fun d _ => congrArg f (Fin.ext ?_)
    show d.val = 64 * (l.val / 64) + d.val
    omega
  · have e : (∑ x : Fin 128, if (x.val < 64 ↔ l.val < 64) then f x else 0) = ∑ x : Fin 128, if x.val < 64 then 0 else f x :=
      Finset.sum_congr rfl fun x _ => by by_cases hx : x.val < 64 <;> simp [hl, hx]
    rw [e, lanes_second]
    refine Finset.sum_congr rfl fun d _ => congrArg f (Fin.ext ?_)
    show 64 + d.val = 64 * (l.val / 64) + d.val
    omega

/-- A choice between a real and zero. -/
theorem coe_choice (p : Prop) [Decidable p] (a : ℝ) : (if p then (a : EReal) else 0) = ((if p then a else 0 : ℝ) : EReal) := by
  split <;> simp

theorem coe_choice' (p : Prop) [Decidable p] (a : ℝ) : (if p then 0 else (a : EReal)) = ((if p then 0 else a : ℝ) : EReal) := by
  split <;> simp

theorem coe_total {ι : Type} (s : Finset ι) (f : ι → ℝ) : (∑ x ∈ s, (f x : EReal)) = ((∑ x ∈ s, f x : ℝ) : EReal) := by
  induction s using Finset.cons_induction with
  | empty => simp
  | cons a s ha ih => rw [Finset.sum_cons, Finset.sum_cons, ih, EReal.coe_add]

section Group
variable (q k v : Vec Ideal S1x256x128 .bf16) (co si : Vec Ideal S256x128 .f32) (d0 d1 : Vec Ideal S1x256x256 .f32)
  (qd kd : Vec Ideal S1x256x128 .f32) (cd : Vec Ideal S1x1x128 .f32) (acc : FVec Ideal S128x128 .f32)
  (L : ℕ → ℝ) (Q K V : ℕ → Fin 128 → ℝ) (N : ℕ)

/-- The carry before position `N`: the state of the lane's head, zero across heads. -/
def Carries : Prop := ∀ x l : Fin 128, acc (ix2 x l) = (((if (x.val < 64 ↔ l.val < 64) then state (L (l.val / 64)) K (fun t => V t l) N x else 0) : ℝ) : EReal)

theorem groupSum_real (hN : 64 ∣ N + 256) (hN' : N + 256 ≤ 2048)
    (hq : ∀ (r : Fin 256) (x : Fin 128), turned (fun l => q (ix3 0 r l)) (co (ix2 r x)) (si (ix2 r x)) x = ((Q (N + r.val) x : ℝ) : EReal))
    (hk : ∀ (r : Fin 256) (x : Fin 128), turned (fun l => k (ix3 0 r l)) (co (ix2 r x)) (si (ix2 r x)) x * Ideal.ofBits .f32 0x3E000000#32 = ((K (N + r.val) x : ℝ) : EReal))
    (hv : ∀ (r : Fin 256) (l : Fin 128), v (ix3 0 r l) = ((V (N + r.val) l : ℝ) : EReal))
    (h0 : ∀ r u : Fin 256, d0 (ix3 0 r u) = ((kept (L 0) (N + r.val) (N + u.val) : ℝ) : EReal))
    (h1 : ∀ r u : Fin 256, d1 (ix3 0 r u) = ((kept (L 1) (N + r.val) (N + u.val) : ℝ) : EReal))
    (hqd : ∀ (r : Fin 256) (l : Fin 128), qd (ix3 0 r l) = ((Real.exp (L (l.val / 64) * ((r.val : ℝ) + 1)) : ℝ) : EReal))
    (hacc : Carries acc L K V N) (r : Fin 256) (l : Fin 128) :
    groupSum q k v co si d0 d1 qd acc (ix2 r l)
      = ((closed (L (l.val / 64)) (fun t d => Q t (head l d)) (fun t d => K t (head l d)) (fun t => V t l) (N + r.val) : ℝ) : EReal) := by
  have hacc' := fun x => hacc x l
  unfold groupSum
  rw [pay14_apply]
  simp only [pay13_apply, pay11_apply, pay12_apply, pay9_apply, hq, hk, hv, h0, h1, hqd, hacc', coe_choice, coe_choice', ← EReal.coe_mul, coe_total]
  have e : ∀ a b : ℝ, (if l.val < 64 then (a : EReal) else (b : EReal)) = ((if l.val < 64 then a else b : ℝ) : EReal) := fun a b => by split <;> rfl
  rw [e, ← EReal.coe_add]
  congr 1
  rw [split _ _ _ _ _ N 256 (by omega) (by omega) hN hN', Finset.sum_range]
  congr 1
  · by_cases hl : l.val < 64
    · rw [if_pos hl]
      refine Finset.sum_congr rfl fun u _ => ?_
      rw [← lanes_head (fun x => Q (N + r.val) x * K (N + u.val) x) l, show l.val / 64 = 0 by omega]
      simp only [hl, iff_true, ite_mul, zero_mul]
    · rw [if_neg hl]
      refine Finset.sum_congr rfl fun u _ => ?_
      rw [← lanes_head (fun x => Q (N + r.val) x * K (N + u.val) x) l, show l.val / 64 = 1 by omega]
      congr 2
      refine Finset.sum_congr rfl fun x _ => ?_
      by_cases hx : x.val < 64 <;> simp [hl, hx]
  · rw [show (((N + r.val : ℕ) : ℝ) - N + 1) = (r.val : ℝ) + 1 by push_cast; ring]
    congr 1
    simp only [mul_ite, mul_zero]
    rw [lanes_head (fun x => Q (N + r.val) x * state (L (l.val / 64)) K (fun t => V t l) N x) l]
    rfl

theorem groupNext_real
    (hk : ∀ (r : Fin 256) (x : Fin 128), turned (fun l => k (ix3 0 r l)) (co (ix2 r x)) (si (ix2 r x)) x * Ideal.ofBits .f32 0x3E000000#32 = ((K (N + r.val) x : ℝ) : EReal))
    (hv : ∀ (r : Fin 256) (l : Fin 128), v (ix3 0 r l) = ((V (N + r.val) l : ℝ) : EReal))
    (hkd : ∀ (r : Fin 256) (l : Fin 128), kd (ix3 0 r l) = ((Real.exp (L (l.val / 64) * (255 - (r.val : ℝ))) : ℝ) : EReal))
    (hcd : ∀ l : Fin 128, cd (ix3 0 0 l) = ((Real.exp (L (l.val / 64) * 256) : ℝ) : EReal))
    (hacc : Carries acc L K V N) : Carries (groupNext k v co si kd cd acc) L K V (N + 256) := by
  intro x l
  unfold groupNext
  rw [pay19_apply, pay15_apply]
  simp only [pay8_apply, pay9_apply, hk, hv, hkd, hcd, hacc x l, ← EReal.coe_mul, coe_total, coe_choice, ← EReal.coe_add]
  congr 1
  by_cases hs : (x.val < 64 ↔ l.val < 64)
  · rw [if_pos hs, if_pos hs, if_pos hs, state_add, Finset.sum_range, show x.val / 64 = l.val / 64 by omega]
    congr 1
    refine Finset.sum_congr rfl fun u _ => ?_
    congr 3
    push_cast
    ring
  · rw [if_neg hs, if_neg hs, if_neg hs]
    ring

end Group

end Cert.RetIdeal.Body
-- ==== Proof.RetSpec.lean ====
module

public import proofs.«01_k».proof.Proof.RetReal
public import proofs.«01_k».proof.Proof.RetTab

@[expose] public section

noncomputable section

namespace Cert.Retention

open Idealize.ShloMosaic
open Cert.RetIdeal.Body (angle logOf)

/-- The projection both programs read. -/
abbrev Proj : Type := Vec Ideal (⟨3, ![16, 2048, 3584]⟩ : Shape) .bf16

/-- An entry of the projection as a real. -/
def cell (P : Proj) (b : Fin 16) (t c : ℕ) : ℝ :=
  if h : t < 2048 ∧ c < 3584 then EReal.toReal (P (ix3 b ⟨t, h.1⟩ ⟨c, h.2⟩)) else 0

/-- Queries, keys and values are reals. -/
def Reals (P : Proj) : Prop := ∀ (b : Fin 16) (t : Fin 2048) (c : Fin 3584), 1536 ≤ c.val → c.val < 3072 → P (ix3 b t c) = ((cell P b t.val c.val : ℝ) : EReal)

/-- Lane `d` of the head that starts at column `o`, turned by the angles of position `t`. -/
def roped (P : Proj) (b : Fin 16) (o t d : ℕ) : ℝ :=
  cell P b t (o + d) * Real.cos (angle t (d % 32))
    + cell P b t (o + if d < 32 then d + 32 else d - 32) * (Real.sin (angle t (d % 32)) * if d < 32 then -1 else 1)

/-- Retention of head `h`, value lane `e`, position `i`. -/
def retained (P : Proj) (b : Fin 16) (h e i : ℕ) : ℝ :=
  closed (logOf h) (fun t (d : Fin 64) => roped P b (1536 + 64 * h) t d.val) (fun t d => roped P b (2048 + 64 * h) t d.val * (1 / 8))
    (fun t => cell P b t (2560 + 64 * h + e)) i

/-- A head's value less their mean. -/
def off (o : Fin 64 → ℝ) (d : Fin 64) : ℝ := o d - (∑ x, o x) * (1 / 64)

/-- A head's values normed, and gated by `g`. -/
def ended (o : Fin 64 → ℝ) (g : EReal) (d : Fin 64) : EReal :=
  ((off o d : ℝ) : EReal) * Ideal.rsqrt (((∑ x, off o x * off o x) * (1 / 64) : ℝ) + Ideal.ofBits .f32 0x358637BD#32)
    * (g * Ideal.div 1 (1 + Ideal.exp (-g)))

end Cert.Retention
-- ==== Proof.RetBlock.lean ====
module

public import proofs.«01_k».proof.Proof.RetGroup
public import proofs.«01_k».proof.Proof.RetSpec
public import proofs.«01_k».proof.Proof.Norm
public import Idealize.ShloMosaic.Lib.Pipeline.ValueKit.Tiles

@[expose] public section

set_option maxRecDepth 16384

noncomputable section

namespace Cert.RetIdeal.Body

open Idealize.ShloMosaic Idealize.ShloMosaic.TcCoe Idealize.ShloMosaic.Tactic
open Idealize.SL Idealize.SL.Sem
open Cert.RetIdeal Cert.RetIdeal.Gen
open Cert.Retention

theorem off1_eq : ∀ k : Fin k0_t1_loop.trips, k0_off1 k = ![256 * k.val, 0] := by decide +kernel
theorem off2_eq : ∀ k : Fin k0_t1_loop.trips, k0_off2 k = ![0, 256 * k.val, 0] := by decide +kernel
theorem trips_eq : k0_t1_loop.trips = 8 := by decide +kernel
theorem lt8 : ∀ k : Fin k0_t1_loop.trips, k.val < 8 := by decide +kernel

/-! ## Norming a row of reals -/

theorem head_div (l : Fin 128) (d : Fin 64) : (head l d).val / 64 = l.val / 64 := by show (64 * (l.val / 64) + d.val) / 64 = _; omega
theorem head_mod (l : Fin 128) (d : Fin 64) : (head l d).val % 64 = d.val := by show (64 * (l.val / 64) + d.val) % 64 = _; omega
theorem head_head (l : Fin 128) (d e : Fin 64) : head (head l d) e = head l e := Fin.ext (by show 64 * ((head l d).val / 64) + e.val = 64 * (l.val / 64) + e.val; rw [head_div])
theorem head_self (l : Fin 128) : head l ⟨l.val % 64, by omega⟩ = l := Fin.ext (by show 64 * (l.val / 64) + l.val % 64 = l.val; omega)

theorem headSum_eq (f : Fin 128 → EReal) (l : Fin 128) : headSum f l = ∑ d, f (head l d) := by
  rw [← lanes_head f l]
  unfold headSum
  by_cases hl : l.val < 64
  · simp only [hl, if_true, iff_true]
  · rw [if_neg hl]
    exact Finset.sum_congr rfl fun x _ => by by_cases hx : x.val < 64 <;> simp [hl, hx]

theorem bits_64th : Ideal.ofBits .f32 0x3C800000#32 = ((1 / 64 : ℝ) : EReal) := by
  simp [Ideal.ofBits, Ideal.ieee, -EReal.coe_mul]; norm_num

theorem centred_real (o : Fin 128 → ℝ) (l : Fin 128) :
    centred (fun x => (o x : EReal)) l = ((off (fun d => o (head l d)) ⟨l.val % 64, by omega⟩ : ℝ) : EReal) := by
  unfold centred off
  rw [headSum_eq, bits_64th, coe_total, ← EReal.coe_mul, ← EReal.coe_sub]
  dsimp only
  rw [head_self]

theorem normed_real (o : Fin 128 → ℝ) (g : EReal) (l : Fin 128) :
    normed (fun x => (o x : EReal)) g l = ended (fun d => o (head l d)) g ⟨l.val % 64, by omega⟩ := by
  have hg : Ideal.div g (1 + Ideal.exp (0 - g)) = g * Ideal.div 1 (1 + Ideal.exp (-g)) := by
    have := Cert.Norm.gated_eq g g
    unfold Cert.Norm.gated at this
    rwa [Cert.Norm.bits_one, Cert.Norm.bits_zero] at this
  have hc : ∀ d, centred (fun x => (o x : EReal)) (head l d) = ((off (fun d => o (head l d)) d : ℝ) : EReal) := by
    intro d
    rw [centred_real]
    congr 2
    · funext e; rw [head_head]
    · exact Fin.ext (head_mod l d)
  unfold normed ended
  rw [hg, centred_real, headSum_eq]
  simp only [hc, ← EReal.coe_mul, coe_total]
  rw [bits_64th, ← EReal.coe_mul]

/-! ## The rows of a group -/

theorem ld_rows (Q : Vec Ideal S1x2048x128 .bf16) (k : Fin k0_t1_loop.trips) (i : Fin 256) (x : Fin 128) :
    rows Q k (ix3 0 i x) = Q (ix3 0 ⟨256 * k.val + i.val, by have := lt8 k; omega⟩ x) :=
  View.ld_unit_apply_of Q _ _ _ _ _ fun a => by
    rw [congrFun (off2_eq k) a]; match a with
    | 0 => rfl
    | 1 => rfl
    | 2 => exact (Nat.zero_add _).symm

theorem ld_trows (C : Vec Ideal S2048x128 .f32) (k : Fin k0_t1_loop.trips) (i : Fin 256) (x : Fin 128) :
    trows C k (ix2 i x) = C (ix2 ⟨256 * k.val + i.val, by have := lt8 k; omega⟩ x) :=
  View.ld_unit_apply_of C _ _ _ _ _ fun a => by
    rw [congrFun (off1_eq k) a]; match a with
    | 0 => rfl
    | 1 => exact (Nat.zero_add _).symm

theorem turned_rows (Q : Vec Ideal S1x2048x128 .bf16) (C S : Vec Ideal S2048x128 .f32) (k : Fin k0_t1_loop.trips) (r : Fin 256) (x : Fin 128) :
    turned (fun l => rows Q k (ix3 0 r l)) (trows C k (ix2 r x)) (trows S k (ix2 r x)) x
      = turned (fun l => Q (ix3 0 ⟨256 * k.val + r.val, by have := lt8 k; omega⟩ l)) (C (ix2 ⟨256 * k.val + r.val, by have := lt8 k; omega⟩ x))
          (S (ix2 ⟨256 * k.val + r.val, by have := lt8 k; omega⟩ x)) x := by
  rw [ld_trows, ld_trows]
  exact congrArg (fun f => turned f _ _ x) (funext fun l => ld_rows Q k r l)

theorem ld_d0 (D : Vec Ideal S2x256x256 .f32) (i j : Fin 256) :
    View.ld D (Rect.unit ![0, 0, 0] S1x256x256.size inb_S2x256x256_S1x256x256_0_0_0) (ix3 0 i j) = D (ix3 0 i j) :=
  View.ld_unit_apply_of D _ _ _ _ _ fun a => by
    match a with
    | 0 => rfl
    | 1 => exact (Nat.zero_add _).symm
    | 2 => exact (Nat.zero_add _).symm

theorem ld_d1 (D : Vec Ideal S2x256x256 .f32) (i j : Fin 256) :
    View.ld D (Rect.unit ![1, 0, 0] S1x256x256.size inb_S2x256x256_S1x256x256_1_0_0) (ix3 0 i j) = D (ix3 1 i j) :=
  View.ld_unit_apply_of D _ _ _ _ _ fun a => by
    match a with
    | 0 => rfl
    | 1 => exact (Nat.zero_add _).symm
    | 2 => exact (Nat.zero_add _).symm

theorem kept_near (L : ℝ) (N r u : ℕ) (h : 64 ∣ N) :
    kept L (N + r) (N + u) = if u / 64 ≤ r / 64 then Real.exp (L * |(r : ℝ) - u|) else 0 := by
  have e : (((N + r : ℕ) : ℝ) - ((N + u : ℕ) : ℝ)) = (r : ℝ) - u := by push_cast; ring
  unfold kept
  rw [e]
  obtain ⟨a, rfl⟩ := h
  congr 1
  exact propext (by omega)

/-! ## A block of reals -/

section Block
variable (Q K W G : Vec Ideal S1x2048x128 .bf16) (C S : Vec Ideal S2048x128 .f32) (D : Vec Ideal S2x256x256 .f32)
  (qd kd : Vec Ideal S1x256x128 .f32) (cd : Vec Ideal S1x1x128 .f32) (L : ℕ → ℝ) (Qr Kr Vr : ℕ → Fin 128 → ℝ)

/-- The operands of a block are reals, and its tables are the decays of its two heads. -/
structure Holds : Prop where
  q : ∀ (t : Fin 2048) (x : Fin 128), turned (fun l => Q (ix3 0 t l)) (C (ix2 t x)) (S (ix2 t x)) x = ((Qr t.val x : ℝ) : EReal)
  k : ∀ (t : Fin 2048) (x : Fin 128), turned (fun l => K (ix3 0 t l)) (C (ix2 t x)) (S (ix2 t x)) x * Ideal.ofBits .f32 0x3E000000#32 = ((Kr t.val x : ℝ) : EReal)
  v : ∀ (t : Fin 2048) (l : Fin 128), W (ix3 0 t l) = ((Vr t.val l : ℝ) : EReal)
  d : ∀ (e : Fin 2) (r u : Fin 256), D (ix3 e r u) = (((if u.val / 64 ≤ r.val / 64 then Real.exp (L e.val * |(r.val : ℝ) - u.val|) else 0) : ℝ) : EReal)
  qd : ∀ (r : Fin 256) (l : Fin 128), qd (ix3 0 r l) = ((Real.exp (L (l.val / 64) * ((r.val : ℝ) + 1)) : ℝ) : EReal)
  kd : ∀ (r : Fin 256) (l : Fin 128), kd (ix3 0 r l) = ((Real.exp (L (l.val / 64) * (255 - (r.val : ℝ))) : ℝ) : EReal)
  cd : ∀ l : Fin 128, cd (ix3 0 0 l) = ((Real.exp (L (l.val / 64) * 256) : ℝ) : EReal)

/-- Retention of lane `l`'s head at position `t`. -/
def laneOut (t : ℕ) (l : Fin 128) : ℝ :=
  closed (L (l.val / 64)) (fun t d => Qr t (head l d)) (fun t d => Kr t (head l d)) (fun t => Vr t l) t

/-- What a block holds in the end. -/
def blockVal : Vec Ideal S1x2048x128 .bf16 := fun y =>
  ended (fun d => laneOut L Qr Kr Vr (y 1).val (head (y 2) d)) (G y) ⟨(y 2).val % 64, Nat.mod_lt _ (by decide)⟩

variable (hh : Holds Q K W C S D qd kd cd L Qr Kr Vr)
include hh

theorem carries (n : ℕ) (hn : n ≤ 8) : Carries (carryAt K W C S kd cd n) L Kr Vr (256 * n) := by
  induction n with
  | zero =>
    intro x l
    have h0 : k0_pay5 (F := Ideal) (ix2 x l) = 0 := by pointwise [k0_pay5]
    refine Eq.trans (show _ = k0_pay5 (F := Ideal) (ix2 x l) from rfl) (h0.trans ?_)
    have hs : state (L (l.val / 64)) Kr (fun t => Vr t l) (256 * 0) x = 0 := Finset.sum_range_zero _
    rw [hs, ite_self]
    rfl
  | succ n ih =>
    have hlt : n < k0_t1_loop.trips := by rw [trips_eq]; omega
    have e : carryAt K W C S kd cd (n + 1) = groupNext (rows K ⟨n, hlt⟩) (rows W ⟨n, hlt⟩) (trows C ⟨n, hlt⟩) (trows S ⟨n, hlt⟩)
        (View.ld kd (Rect.unit ![0, 0, 0] S1x256x128.size inb_S1x256x128_S1x256x128_0_0_0))
        (View.ld cd (Rect.unit ![0, 0, 0] S1x1x128.size inb_S1x1x128_S1x1x128_0_0_0)) (carryAt K W C S kd cd n) := dif_pos hlt
    have hkd : View.ld kd (Rect.unit ![0, 0, 0] S1x256x128.size inb_S1x256x128_S1x256x128_0_0_0) = kd := View.ld_unit_zero (by decide) _ kd
    have hcd : View.ld cd (Rect.unit ![0, 0, 0] S1x1x128.size inb_S1x1x128_S1x1x128_0_0_0) = cd := View.ld_unit_zero (by decide) _ cd
    rw [e, hkd, hcd, show 256 * (n + 1) = 256 * n + 256 by omega]
    refine groupNext_real _ _ _ _ _ _ _ L Kr Vr (256 * n) (fun r x => ?_) (fun r l => ?_) hh.kd hh.cd (ih (by omega))
    · exact (congrArg (· * _) (turned_rows K C S _ r x)).trans (hh.k _ x)
    · rw [ld_rows]
      exact hh.v _ l

theorem piece_at (k : Fin k0_t1_loop.trips) (r : Fin 256) (l : Fin 128) :
    (piece Q K W G C S D qd k (carryAt K W C S kd cd k.val)).2 (ix3 0 r l)
      = blockVal G L Qr Kr Vr (ix3 0 ⟨256 * k.val + r.val, by have := lt8 k; omega⟩ l) := by
  have hk : k.val < 8 := lt8 k
  have hqd : View.ld qd (Rect.unit ![0, 0, 0] S1x256x128.size inb_S1x256x128_S1x256x128_0_0_0) = qd := View.ld_unit_zero (by decide) _ qd
  have hs : ∀ x : Fin 128, groupSum (rows Q k) (rows K k) (rows W k) (trows C k) (trows S k)
      (View.ld D (Rect.unit ![0, 0, 0] S1x256x256.size inb_S2x256x256_S1x256x256_0_0_0))
      (View.ld D (Rect.unit ![1, 0, 0] S1x256x256.size inb_S2x256x256_S1x256x256_1_0_0)) qd (carryAt K W C S kd cd k.val) (ix2 r x)
      = ((laneOut L Qr Kr Vr (256 * k.val + r.val) x : ℝ) : EReal) := by
    intro x
    refine groupSum_real _ _ _ _ _ _ _ _ _ L Qr Kr Vr (256 * k.val) (by omega) (by omega) (fun r x => ?_) (fun r x => ?_) (fun r l => ?_) (fun r u => ?_) (fun r u => ?_) hh.qd (carries Q K W C S D qd kd cd L Qr Kr Vr hh k.val (by omega)) r x
    · exact (turned_rows Q C S k r x).trans (hh.q _ x)
    · exact (congrArg (· * _) (turned_rows K C S _ r x)).trans (hh.k _ x)
    · rw [ld_rows]
      exact hh.v _ l
    · rw [ld_d0, kept_near _ _ _ _ (by omega)]
      exact hh.d 0 r u
    · rw [ld_d1, kept_near _ _ _ _ (by omega)]
      exact hh.d 1 r u
  refine Eq.trans (show _ = groupOut (rows Q k) (rows K k) (rows W k) (rows G k) (trows C k) (trows S k) _ _ _ (carryAt K W C S kd cd k.val) (ix3 0 r l) from rfl) ?_
  unfold groupOut
  rw [hqd]
  refine (pay18_apply _ _ _ _ r l ?_ ?_).trans ?_
  · exact fun l => pay16_apply _ _ _ _ _ _ _ _ _ r l
  · exact pay17_apply _ _ _ _ _ _ _ _ _ r
  rw [pay10_apply, ld_rows]
  simp only [hs]
  exact normed_real _ _ l

theorem piece_emb (k : Fin k0_t1_loop.trips) (x : (piece Q K W G C S D qd k (carryAt K W C S kd cd k.val)).1.shape.Idx) :
    (piece Q K W G C S D qd k (carryAt K W C S kd cd k.val)).2 x
      = blockVal G L Qr Kr Vr ((piece Q K W G C S D qd k (carryAt K W C S kd cd k.val)).1.emb x) := by
  obtain ⟨i, l, rfl⟩ : ∃ (i : Fin 256) (l : Fin 128), x = ix3 0 i l :=
    ⟨x 1, x 2, funext fun a => by match a with | 0 => exact Fin.ext (by have : (x 0).val < 1 := (x 0).isLt; show (x 0).val = 0; omega) | 1 => rfl | 2 => rfl⟩
  rw [piece_at Q K W G C S D qd kd cd L Qr Kr Vr hh]
  congr 1
  funext a
  refine Fin.ext (Eq.symm ((Rect.idx_unit_val (s := S1x2048x128) (k0_off2 k) S1x256x128.size (k0_off2_inb k) (ix3 0 i l) a).trans ?_))
  rw [congrFun (off2_eq k) a]
  match a with
  | 0 => rfl
  | 1 => rfl
  | 2 => exact Nat.zero_add _

omit hh in
theorem mem_piece (k : Fin k0_t1_loop.trips) (acc : FVec Ideal S128x128 .f32) (y : S1x2048x128.Idx) (h : (y 1).val / 256 = k.val) :
    y ∈ (piece Q K W G C S D qd k acc).1.set := by
  refine (Rect.mem_set_unit (inb := k0_off2_inb k)).2 fun a => ?_
  rw [congrFun (off2_eq k) a]
  match a with
  | 0 => have : (y 0).val < 1 := (y 0).isLt; exact ⟨Nat.zero_le _, by show (y 0).val < 0 + 1; omega⟩
  | 1 => exact ⟨by show 256 * k.val ≤ (y 1).val; omega, by show (y 1).val < 256 * k.val + 256; omega⟩
  | 2 => have : (y 2).val < 128 := (y 2).isLt; exact ⟨Nat.zero_le _, by show (y 2).val < 0 + 128; omega⟩

end Block

section Run
variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S2x256x256 .f32) (harg8 : arg8.IsWhole)
  (arg9 : Memref sig .tc .vmem S1x256x128 .f32) (harg9 : arg9.IsWhole)
  (arg10 : Memref sig .tc .vmem S1x256x128 .f32) (harg10 : arg10.IsWhole)
  (arg11 : Memref sig .tc .vmem S1x1x128 .f32) (harg11 : arg11.IsWhole)
  (arg12 : Memref sig .tc .vmem S1x2048x128 .bf16) (harg12 : arg12.IsWhole)
  (x0 x1 x2 x3 : Vec Ideal S1x2048x128 .bf16) (x4 x5 : Vec Ideal S2048x128 .f32) (x6 : Vec Ideal S2x256x256 .f32) (x7 x8 : Vec Ideal S1x256x128 .f32) (x9 : Vec Ideal S1x1x128 .f32)

/-- The stores of one grid point are its loop's. -/
theorem run_pieces :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7 x8 x9).1
      = (st_k0_t1 Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) (harg11.unread x9) k0_pay5 (Scf.trips 0#32 (Scalar.addi 0#32 8#32) 1#32)).2 := by
  unfold kernelRun0_A
  dsimp only

variable (L : ℕ → ℝ) (Qr Kr Vr : ℕ → Fin 128 → ℝ)

/-- One grid point writes the outputs of its block. -/
theorem out_eq (hh : Holds x0 x1 x2 x4 x5 x6 x7 x8 x9 L Qr Kr Vr) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9 = blockVal x3 L Qr Kr Vr := by
  funext y
  unfold out0_A_10
  have hm := (st_eq (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) (harg11.unread x9) k0_t1_loop.trips le_rfl).2
  rw [harg2.read_unread, harg3.read_unread, harg4.read_unread, harg5.read_unread, harg6.read_unread, harg7.read_unread, harg8.read_unread, harg9.read_unread, harg10.read_unread, harg11.read_unread] at hm
  refine View.read_writes_apply_of_pieces _ _ (blockVal x3 L Qr Kr Vr) _ ?_ y ?_
  · intro p hp
    rw [run_pieces] at hp
    obtain ⟨k, -, rfl⟩ := (hm p).1 hp
    exact piece_emb x0 x1 x2 x3 x4 x5 x6 x7 x8 x9 L Qr Kr Vr hh k
  · have hy : (y 1).val < 2048 := (y 1).isLt
    have hlt : (y 1).val / 256 < k0_t1_loop.trips := by rw [trips_eq]; omega
    refine ⟨piece x0 x1 x2 x3 x4 x5 x6 x7 ⟨(y 1).val / 256, hlt⟩ (carryAt x1 x2 x4 x5 x8 x9 ((y 1).val / 256)), ?_, mem_piece _ _ _ _ _ _ _ _ _ _ _ rfl⟩
    rw [run_pieces]
    exact (hm _).2 ⟨⟨(y 1).val / 256, hlt⟩, hlt, rfl⟩

end Run

end Cert.RetIdeal.Body
-- ==== Proof.RetVal.lean ====
module

public import proofs.«01_k».proof.Proof.Gen.RetIdeal.Value
public import proofs.«01_k».proof.Proof.RetBlock

@[expose] public section

set_option maxRecDepth 16384

noncomputable section

namespace Cert.RetIdeal.Body

open Idealize.ShloMosaic Idealize.ShloMosaic.TcCoe Idealize.ShloMosaic.Tactic
open Idealize.SL Idealize.SL.Sem
open Cert.RetIdeal Cert.RetIdeal.Gen
open Cert.Retention
open Idealize.ShloMosaic.Pipeline (Dat)

/-! ## Turned columns -/

theorem bits_eighth : Ideal.ofBits .f32 0x3E000000#32 = ((1 / 8 : ℝ) : EReal) := by
  simp [Ideal.ofBits, Ideal.ieee, -EReal.coe_mul]; norm_num

/-- Columns `o` to `o + 128` of a row, turned, are two turned heads. -/
theorem turned_real (P : Proj) (hP : Reals P) (b : Fin 16) (t : Fin 2048) (o : ℕ) (h0 : 1536 ≤ o) (h1 : o + 128 ≤ 3072) (x : Fin 128) :
    turned (fun l => P (ix3 b t ⟨o + l.val, by omega⟩)) ((Real.cos (angle t.val (x.val % 32)) : ℝ) : EReal)
        ((Real.sin (angle t.val (x.val % 32)) * (if x.val % 64 < 32 then -1 else 1) : ℝ) : EReal) x
      = ((roped P b (o + 64 * (x.val / 64)) t.val (x.val % 64) : ℝ) : EReal) := by
  have e : x.val % 64 % 32 = x.val % 32 := by omega
  unfold turned roped
  dsimp only
  rw [e, hP _ _ _ (by dsimp only; omega) (by dsimp only; omega)]
  split
  · rw [hP _ _ _ (by dsimp only; omega) (by dsimp only; omega), ← EReal.coe_mul, ← EReal.coe_mul, ← EReal.coe_add]
    congr 1
    dsimp only
    rw [show o + (x.val + 128 - 96) % 128 = o + 64 * (x.val / 64) + (x.val % 64 + 32) by omega, show o + x.val = o + 64 * (x.val / 64) + x.val % 64 by omega]
  · rw [hP _ _ _ (by dsimp only; omega) (by dsimp only; omega), ← EReal.coe_mul, ← EReal.coe_mul, ← EReal.coe_add]
    congr 1
    dsimp only
    rw [show o + (x.val + 128 - 32) % 128 = o + 64 * (x.val / 64) + (x.val % 64 - 32) by omega, show o + x.val = o + 64 * (x.val / 64) + x.val % 64 by omega]

/-! ## The blocks of a grid point -/

variable (m : (ℓ : Loc nD τ sig) → Buf (Elt Ideal) ℓ)

theorem pts : grid0.N = 64 := by decide +kernel
theorem at0 : ∀ t : Fin grid0.N, win0_0.index t 0 = t.val / 4 ∧ win0_0.index t 1 = 0 ∧ win0_0.index t 2 = 12 + t.val % 4 := by decide +kernel
theorem at1 : ∀ t : Fin grid0.N, win0_1.index t 0 = t.val / 4 ∧ win0_1.index t 1 = 0 ∧ win0_1.index t 2 = 16 + t.val % 4 := by decide +kernel
theorem at2 : ∀ t : Fin grid0.N, win0_2.index t 0 = t.val / 4 ∧ win0_2.index t 1 = 0 ∧ win0_2.index t 2 = 20 + t.val % 4 := by decide +kernel
theorem at3 : ∀ t : Fin grid0.N, win0_3.index t 0 = t.val / 4 ∧ win0_3.index t 1 = 0 ∧ win0_3.index t 2 = 24 + t.val % 4 := by decide +kernel
theorem at10 : ∀ t : Fin grid0.N, win0_10.index t 0 = t.val / 4 ∧ win0_10.index t 1 = 0 ∧ win0_10.index t 2 = t.val % 4 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = t.val % 4 ∧ win0_6.index t 1 = 0 ∧ win0_6.index t 2 = 0 := by decide +kernel
theorem at7 : ∀ t : Fin grid0.N, win0_7.index t 0 = t.val % 4 ∧ win0_7.index t 1 = 0 ∧ win0_7.index t 2 = 0 := by decide +kernel
theorem at8 : ∀ t : Fin grid0.N, win0_8.index t 0 = t.val % 4 ∧ win0_8.index t 1 = 0 ∧ win0_8.index t 2 = 0 := by decide +kernel
theorem at9 : ∀ t : Fin grid0.N, win0_9.index t 0 = t.val % 4 ∧ win0_9.index t 1 = 0 ∧ win0_9.index t 2 = 0 := by decide +kernel
theorem xs10 : ∀ t : Fin grid0.N, win0_10.xsize (grid0.coords t) 0 = 1 ∧ win0_10.xsize (grid0.coords t) 1 = 2048 ∧ win0_10.xsize (grid0.coords t) 2 = 128 := by decide +kernel

/-- The batch of a grid point. -/
def batchOf (t : Fin cfg0.N) : Fin 16 := ⟨t.val / 4, by have := t.isLt; have : cfg0.N = 64 := pts; omega⟩

/-- The pair of heads of a grid point. -/
def pairOf (t : Fin cfg0.N) : Fin 4 := ⟨t.val % 4, by omega⟩

theorem pair_lt (t : Fin cfg0.N) : (pairOf t).val < 4 := (pairOf t).isLt

theorem blk0 (c : Dev nD) (t : Fin cfg0.N) (s : Fin 2048) (l : Fin 128) :
    iblk m c 0 t (ix3 0 s l) = V m c main_arg0 (ix3 (batchOf t) s ⟨1536 + 128 * (pairOf t).val + l.val, by have := pair_lt t; omega⟩) := by
  have h := at0 t
  unfold iblk
  rw [View.read_apply]
  show V m c main_arg0 _ = V m c main_arg0 _
  congr 1
  funext a
  apply Fin.ext
  match a with
  | ⟨0, _⟩ => show win0_0.index t 0 * 1 + 1 * 0 = t.val / 4; rw [h.1]; omega
  | ⟨1, _⟩ => show win0_0.index t 1 * 2048 + 1 * s.val = s.val; rw [h.2.1]; omega
  | ⟨2, _⟩ => show win0_0.index t 2 * 128 + 1 * l.val = 1536 + 128 * (t.val % 4) + l.val; rw [h.2.2]; omega

theorem blk1 (c : Dev nD) (t : Fin cfg0.N) (s : Fin 2048) (l : Fin 128) :
    iblk m c 1 t (ix3 0 s l) = V m c main_arg0 (ix3 (batchOf t) s ⟨2048 + 128 * (pairOf t).val + l.val, by have := pair_lt t; omega⟩) := by
  have h := at1 t
  unfold iblk
  rw [View.read_apply]
  show V m c main_arg0 _ = V m c main_arg0 _
  congr 1
  funext a
  apply Fin.ext
  match a with
  | ⟨0, _⟩ => show win0_1.index t 0 * 1 + 1 * 0 = t.val / 4; rw [h.1]; omega
  | ⟨1, _⟩ => show win0_1.index t 1 * 2048 + 1 * s.val = s.val; rw [h.2.1]; omega
  | ⟨2, _⟩ => show win0_1.index t 2 * 128 + 1 * l.val = 2048 + 128 * (t.val % 4) + l.val; rw [h.2.2]; omega

theorem blk2 (c : Dev nD) (t : Fin cfg0.N) (s : Fin 2048) (l : Fin 128) :
    iblk m c 2 t (ix3 0 s l) = V m c main_arg0 (ix3 (batchOf t) s ⟨2560 + 128 * (pairOf t).val + l.val, by have := pair_lt t; omega⟩) := by
  have h := at2 t
  unfold iblk
  rw [View.read_apply]
  show V m c main_arg0 _ = V m c main_arg0 _
  congr 1
  funext a
  apply Fin.ext
  match a with
  | ⟨0, _⟩ => show win0_2.index t 0 * 1 + 1 * 0 = t.val / 4; rw [h.1]; omega
  | ⟨1, _⟩ => show win0_2.index t 1 * 2048 + 1 * s.val = s.val; rw [h.2.1]; omega
  | ⟨2, _⟩ => show win0_2.index t 2 * 128 + 1 * l.val = 2560 + 128 * (t.val % 4) + l.val; rw [h.2.2]; omega

theorem blk3 (c : Dev nD) (t : Fin cfg0.N) (s : Fin 2048) (l : Fin 128) :
    iblk m c 3 t (ix3 0 s l) = V m c main_arg0 (ix3 (batchOf t) s ⟨3072 + 128 * (pairOf t).val + l.val, by have := pair_lt t; omega⟩) := by
  have h := at3 t
  unfold iblk
  rw [View.read_apply]
  show V m c main_arg0 _ = V m c main_arg0 _
  congr 1
  funext a
  apply Fin.ext
  match a with
  | ⟨0, _⟩ => show win0_3.index t 0 * 1 + 1 * 0 = t.val / 4; rw [h.1]; omega
  | ⟨1, _⟩ => show win0_3.index t 1 * 2048 + 1 * s.val = s.val; rw [h.2.1]; omega
  | ⟨2, _⟩ => show win0_3.index t 2 * 128 + 1 * l.val = 3072 + 128 * (t.val % 4) + l.val; rw [h.2.2]; omega

theorem blk4 (c : Dev nD) (t : Fin cfg0.N) : iblk m c 4 t = V m c main_v15 := by
  have h := at4 t
  funext y
  unfold iblk
  rw [View.read_apply]
  show V m c main_v15 _ = V m c main_v15 _
  congr 1
  funext a
  apply Fin.ext
  match a with
  | ⟨0, _⟩ => show win0_4.index t 0 * 2048 + 1 * (y 0).val = (y 0).val; rw [h.1]; omega
  | ⟨1, _⟩ => show win0_4.index t 1 * 128 + 1 * (y 1).val = (y 1).val; rw [h.2]; omega

theorem blk5 (c : Dev nD) (t : Fin cfg0.N) : iblk m c 5 t = V m c main_v29 := by
  have h := at5 t
  funext y
  unfold iblk
  rw [View.read_apply]
  show V m c main_v29 _ = V m c main_v29 _
  congr 1
  funext a
  apply Fin.ext
  match a with
  | ⟨0, _⟩ => show win0_5.index t 0 * 2048 + 1 * (y 0).val = (y 0).val; rw [h.1]; omega
  | ⟨1, _⟩ => show win0_5.index t 1 * 128 + 1 * (y 1).val = (y 1).val; rw [h.2]; omega

theorem blk6 (c : Dev nD) (t : Fin cfg0.N) (e : Fin 2) (r u : Fin 256) :
    iblk m c 6 t (ix3 e r u) = V m c main_v59 (ix3 ⟨(pairOf t).val * 2 + e.val, by have := pair_lt t; omega⟩ r u) := by
  have h := at6 t
  unfold iblk
  rw [View.read_apply]
  show V m c main_v59 _ = V m c main_v59 _
  congr 1
  funext a
  apply Fin.ext
  match a with
  | ⟨0, _⟩ => show win0_6.index t 0 * 2 + 1 * e.val = t.val % 4 * 2 + e.val; rw [h.1]; omega
  | ⟨1, _⟩ => show win0_6.index t 1 * 256 + 1 * r.val = r.val; rw [h.2.1]; omega
  | ⟨2, _⟩ => show win0_6.index t 2 * 256 + 1 * u.val = u.val; rw [h.2.2]; omega

theorem blk7 (c : Dev nD) (t : Fin cfg0.N) (r : Fin 256) (l : Fin 128) : iblk m c 7 t (ix3 0 r l) = V m c main_v83 (ix3 (pairOf t) r l) := by
  have h := at7 t
  unfold iblk
  rw [View.read_apply]
  show V m c main_v83 _ = V m c main_v83 _
  congr 1
  funext a
  apply Fin.ext
  match a with
  | ⟨0, _⟩ => show win0_7.index t 0 * 1 + 1 * 0 = t.val % 4; rw [h.1]; omega
  | ⟨1, _⟩ => show win0_7.index t 1 * 256 + 1 * r.val = r.val; rw [h.2.1]; omega
  | ⟨2, _⟩ => show win0_7.index t 2 * 128 + 1 * l.val = l.val; rw [h.2.2]; omega

theorem blk8 (c : Dev nD) (t : Fin cfg0.N) (r : Fin 256) (l : Fin 128) : iblk m c 8 t (ix3 0 r l) = V m c main_v71 (ix3 (pairOf t) r l) := by
  have h := at8 t
  unfold iblk
  rw [View.read_apply]
  show V m c main_v71 _ = V m c main_v71 _
  congr 1
  funext a
  apply Fin.ext
  match a with
  | ⟨0, _⟩ => show win0_8.index t 0 * 1 + 1 * 0 = t.val % 4; rw [h.1]; omega
  | ⟨1, _⟩ => show win0_8.index t 1 * 256 + 1 * r.val = r.val; rw [h.2.1]; omega
  | ⟨2, _⟩ => show win0_8.index t 2 * 128 + 1 * l.val = l.val; rw [h.2.2]; omega

theorem blk9 (c : Dev nD) (t : Fin cfg0.N) (l : Fin 128) : iblk m c 9 t (ix3 0 0 l) = V m c main_v91 (ix3 (pairOf t) 0 l) := by
  have h := at9 t
  unfold iblk
  rw [View.read_apply]
  show V m c main_v91 _ = V m c main_v91 _
  congr 1
  funext a
  apply Fin.ext
  match a with
  | ⟨0, _⟩ => show win0_9.index t 0 * 1 + 1 * 0 = t.val % 4; rw [h.1]; omega
  | ⟨1, _⟩ => show win0_9.index t 1 * 1 + 1 * 0 = 0; rw [h.2.1]
  | ⟨2, _⟩ => show win0_9.index t 2 * 128 + 1 * l.val = l.val; rw [h.2.2]; omega

/-! ## What a block computes -/

/-- The decays of a grid point's two heads. -/
def logAt (p : ℕ) (e : ℕ) : ℝ := logOf (p * 2 + e)
/-- The turned queries of a grid point's block. -/
def qAt (P : Proj) (b : Fin 16) (p t : ℕ) (x : Fin 128) : ℝ := roped P b (1536 + 128 * p + 64 * (x.val / 64)) t (x.val % 64)
/-- Its turned and scaled keys. -/
def kAt (P : Proj) (b : Fin 16) (p t : ℕ) (x : Fin 128) : ℝ := roped P b (2048 + 128 * p + 64 * (x.val / 64)) t (x.val % 64) * (1 / 8)
/-- Its values. -/
def vAt (P : Proj) (b : Fin 16) (p t : ℕ) (x : Fin 128) : ℝ := cell P b t (2560 + 128 * p + x.val)

section Operands
variable (c : Dev nD) (t : Fin cfg0.N)

theorem blk_d (e : Fin 2) (r u : Fin 256) : iblk m c 6 t (ix3 e r u)
    = (((if u.val / 64 ≤ r.val / 64 then Real.exp (logAt (pairOf t).val e.val * |(r.val : ℝ) - u.val|) else 0) : ℝ) : EReal) := by
  unfold logAt
  rw [blk6, V_near]
  exact idec_apply _ r u
theorem blk_qd (r : Fin 256) (l : Fin 128) : iblk m c 7 t (ix3 0 r l) = ((Real.exp (logAt (pairOf t).val (l.val / 64) * ((r.val : ℝ) + 1)) : ℝ) : EReal) := by
  unfold logAt
  rw [blk7, V_q]
  exact qdec_apply _ r l
theorem blk_kd (r : Fin 256) (l : Fin 128) : iblk m c 8 t (ix3 0 r l) = ((Real.exp (logAt (pairOf t).val (l.val / 64) * (255 - (r.val : ℝ))) : ℝ) : EReal) := by
  unfold logAt
  rw [blk8, V_k]
  exact kdec_apply _ r l
theorem blk_cd (l : Fin 128) : iblk m c 9 t (ix3 0 0 l) = ((Real.exp (logAt (pairOf t).val (l.val / 64) * 256) : ℝ) : EReal) := by
  unfold logAt
  rw [blk9, V_c]
  exact cdec_apply _ l
theorem blk_co (s : Fin 2048) (x : Fin 128) : iblk m c 4 t (ix2 s x) = ((Real.cos (angle s.val (x.val % 32)) : ℝ) : EReal) := by
  rw [blk4, V_cos]
  exact cos_apply s x
theorem blk_si (s : Fin 2048) (x : Fin 128) : iblk m c 5 t (ix2 s x) = ((Real.sin (angle s.val (x.val % 32)) * (if x.val % 64 < 32 then -1 else 1) : ℝ) : EReal) := by
  rw [blk5, V_sin]
  exact sin_apply s x

variable (hP : Reals (m ((c : Thread nD τ).loc main_arg0)))
include hP

theorem blk_q (s : Fin 2048) (x : Fin 128) : turned (fun l => iblk m c 0 t (ix3 0 s l)) (iblk m c 4 t (ix2 s x)) (iblk m c 5 t (ix2 s x)) x
    = ((qAt (m ((c : Thread nD τ).loc main_arg0)) (batchOf t) (pairOf t).val s.val x : ℝ) : EReal) := by
  have hp := pair_lt t
  have e : (fun l => iblk m c 0 t (ix3 0 s l)) = fun l => m ((c : Thread nD τ).loc main_arg0) (ix3 (batchOf t) s ⟨1536 + 128 * (pairOf t).val + l.val, by omega⟩) :=
    funext fun l => (blk0 m c t s l).trans (congrFun (V_x m c) _)
  rw [blk_co, blk_si, e]
  exact turned_real _ hP (batchOf t) s (1536 + 128 * (pairOf t).val) (by omega) (by omega) x
theorem blk_k (s : Fin 2048) (x : Fin 128) : turned (fun l => iblk m c 1 t (ix3 0 s l)) (iblk m c 4 t (ix2 s x)) (iblk m c 5 t (ix2 s x)) x * Ideal.ofBits .f32 0x3E000000#32
    = ((kAt (m ((c : Thread nD τ).loc main_arg0)) (batchOf t) (pairOf t).val s.val x : ℝ) : EReal) := by
  have hp := pair_lt t
  have e : (fun l => iblk m c 1 t (ix3 0 s l)) = fun l => m ((c : Thread nD τ).loc main_arg0) (ix3 (batchOf t) s ⟨2048 + 128 * (pairOf t).val + l.val, by omega⟩) :=
    funext fun l => (blk1 m c t s l).trans (congrFun (V_x m c) _)
  unfold kAt
  rw [bits_eighth, EReal.coe_mul, blk_co, blk_si, e]
  exact congrArg (· * _) (turned_real _ hP (batchOf t) s (2048 + 128 * (pairOf t).val) (by omega) (by omega) x)
theorem blk_v (s : Fin 2048) (l : Fin 128) : iblk m c 2 t (ix3 0 s l) = ((vAt (m ((c : Thread nD τ).loc main_arg0)) (batchOf t) (pairOf t).val s.val l : ℝ) : EReal) := by
  have hp := pair_lt t
  rw [blk2, V_x]
  exact hP _ _ _ (by dsimp only; omega) (by dsimp only; omega)

theorem holds : Holds (iblk m c 0 t) (iblk m c 1 t) (iblk m c 2 t) (iblk m c 4 t) (iblk m c 5 t) (iblk m c 6 t) (iblk m c 7 t) (iblk m c 8 t) (iblk m c 9 t)
    (logAt (pairOf t).val) (qAt (m ((c : Thread nD τ).loc main_arg0)) (batchOf t) (pairOf t).val) (kAt (m ((c : Thread nD τ).loc main_arg0)) (batchOf t) (pairOf t).val) (vAt (m ((c : Thread nD τ).loc main_arg0)) (batchOf t) (pairOf t).val) :=
  ⟨blk_q m c t hP, blk_k m c t hP, blk_v m c t hP, blk_d m c t, blk_qd m c t, blk_kd m c t, blk_cd m c t⟩

end Operands

/-- The retention of the pair `p`, lane `l`, is that of its head. -/
theorem lane_retained (P : Proj) (b : Fin 16) (p t : ℕ) (l : Fin 128) :
    laneOut (logAt p) (qAt P b p) (kAt P b p) (vAt P b p) t l = retained P b (2 * p + l.val / 64) (l.val % 64) t := by
  unfold laneOut retained logAt qAt kAt vAt
  simp only [head_div, head_mod]
  rw [show p * 2 + l.val / 64 = 2 * p + l.val / 64 by omega, show 1536 + 128 * p + 64 * (l.val / 64) = 1536 + 64 * (2 * p + l.val / 64) by omega,
    show 2048 + 128 * p + 64 * (l.val / 64) = 2048 + 64 * (2 * p + l.val / 64) by omega, show 2560 + 128 * p + l.val = 2560 + 64 * (2 * p + l.val / 64) + l.val % 64 by omega]

/-- The array the kernel leaves, entry by entry. -/
def retOut (P : Proj) : Vec Ideal S16x2048x512 .bf16 := fun y =>
  ended (fun x => retained P (y 0) ((y 2).val / 64) x.val (y 1).val) (P (ix3 (y 0) (y 1) ⟨3072 + (y 2).val, by have : (y 2).val < 512 := (y 2).isLt; omega⟩)) ⟨(y 2).val % 64, Nat.mod_lt _ (by decide)⟩

theorem block_at (c : Dev nD) (t : Fin cfg0.N) (s : Fin 2048) (l : Fin 128) (n : Fin 512) (hn : n.val = 128 * (pairOf t).val + l.val) :
    blockVal (iblk m c 3 t) (logAt (pairOf t).val) (qAt (m ((c : Thread nD τ).loc main_arg0)) (batchOf t) (pairOf t).val) (kAt (m ((c : Thread nD τ).loc main_arg0)) (batchOf t) (pairOf t).val)
      (vAt (m ((c : Thread nD τ).loc main_arg0)) (batchOf t) (pairOf t).val) (ix3 0 s l) = retOut (m ((c : Thread nD τ).loc main_arg0)) (ix3 (batchOf t) s n) := by
  have e1 : ∀ d : Fin 64, laneOut (logAt (pairOf t).val) (qAt (m ((c : Thread nD τ).loc main_arg0)) (batchOf t) (pairOf t).val) (kAt (m ((c : Thread nD τ).loc main_arg0)) (batchOf t) (pairOf t).val)
      (vAt (m ((c : Thread nD τ).loc main_arg0)) (batchOf t) (pairOf t).val) s.val (head l d) = retained (m ((c : Thread nD τ).loc main_arg0)) (batchOf t) (n.val / 64) d.val s.val := by
    intro d
    rw [lane_retained, head_div, head_mod]
    congr 1
    omega
  have e2 : iblk m c 3 t (ix3 0 s l) = m ((c : Thread nD τ).loc main_arg0) (ix3 (batchOf t) s ⟨3072 + n.val, by omega⟩) := by
    rw [blk3, V_x]
    congr 2
    exact Fin.ext (by show 3072 + 128 * (pairOf t).val + l.val = 3072 + n.val; omega)
  have e3 : (⟨l.val % 64, by omega⟩ : Fin 64) = ⟨n.val % 64, by omega⟩ := Fin.ext (by show l.val % 64 = n.val % 64; omega)
  show ended (fun d => laneOut _ _ _ _ s.val (head l d)) (iblk m c 3 t (ix3 0 s l)) ⟨l.val % 64, _⟩
    = ended (fun x => retained (m ((c : Thread nD τ).loc main_arg0)) (batchOf t) (n.val / 64) x.val s.val) (m ((c : Thread nD τ).loc main_arg0) (ix3 (batchOf t) s ⟨3072 + n.val, _⟩)) ⟨n.val % 64, _⟩
  rw [e2, e3, funext e1]

theorem flushed_eq (c : Dev nD) (t : Fin cfg0.N) (hP : Reals (m ((c : Thread nD τ).loc main_arg0))) :
    (dats (F := Ideal) m 0 c).flushed 10 t = ((cfg0.win 10).blk t).view.read (Elt Ideal) (retOut (m ((c : Thread nD τ).loc main_arg0))) := by
  rw [Cert.RetIdeal.Value.flushed10_A, out_eq (hh := holds m c t hP)]
  have h := at10 t
  funext y
  rw [View.read_apply]
  have h0 : (y 0).val < 1 := (y 0).isLt
  have h1 : (y 1).val < 2048 := (y 1).isLt
  have h2 : (y 2).val < 128 := (y 2).isLt
  have hp := pair_lt t
  show blockVal _ _ _ _ _ y = retOut (m ((c : Thread nD τ).loc main_arg0)) (((cfg0.win 10).blk t).view.emb y)
  have e : ((cfg0.win 10).blk t).view.emb y = ix3 (batchOf t) ⟨(y 1).val, h1⟩ ⟨128 * (pairOf t).val + (y 2).val, by omega⟩ := by
    funext a
    apply Fin.ext
    match a with
    | ⟨0, _⟩ => show win0_10.index t 0 * 1 + 1 * (y 0).val = t.val / 4; rw [h.1]; omega
    | ⟨1, _⟩ => show win0_10.index t 1 * 2048 + 1 * (y 1).val = (y 1).val; rw [h.2.1]; omega
    | ⟨2, _⟩ => show win0_10.index t 2 * 128 + 1 * (y 2).val = 128 * (t.val % 4) + (y 2).val; rw [h.2.2]; omega
  rw [e]
  refine Eq.trans (congrArg (blockVal _ _ _ _ _) ?_) (block_at m c t ⟨(y 1).val, h1⟩ ⟨(y 2).val, h2⟩ _ rfl)
  funext a
  match a with
  | ⟨0, _⟩ => exact Fin.ext (by show (y 0).val = 0; omega)
  | ⟨1, _⟩ => rfl
  | ⟨2, _⟩ => rfl

theorem final_eq (c : Dev nD) (hP : Reals (m ((c : Thread nD τ).loc main_arg0))) :
    (dats (F := Ideal) m 0 c).arrAt 10 cfg0.N = retOut (m ((c : Thread nD τ).loc main_arg0)) :=
  (dats m 0 c).arrAt_eq_of_cover 10 _ (fun t _ => flushed_eq m c t hP) fun i => by
    have h0 : (i 0 : Nat) < 16 := (i 0).isLt
    have h1 : (i 1 : Nat) < 2048 := (i 1).isLt
    have h2 : (i 2 : Nat) < 512 := (i 2).isLt
    have hN : cfg0.N = 64 := pts
    let t : Fin cfg0.N := ⟨(i 0).val * 4 + (i 2).val / 128, by omega⟩
    refine ⟨t, flush0_10 t, ?_⟩
    have h := at10 t
    have hx := xs10 t
    have ht : t.val = (i 0).val * 4 + (i 2).val / 128 := rfl
    show i ∈ ((View.whole main_v92).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + win0_10.xsize (grid0.coords t) 0
                rw [h.1, hx.1]; omega
    | ⟨1, _⟩ => show win0_10.index t 1 * 2048 ≤ (i 1 : Nat) ∧ (i 1 : Nat) < win0_10.index t 1 * 2048 + win0_10.xsize (grid0.coords t) 1
                rw [h.2.1, hx.2.1]; omega
    | ⟨2, _⟩ => show win0_10.index t 2 * 128 ≤ (i 2 : Nat) ∧ (i 2 : Nat) < win0_10.index t 2 * 128 + win0_10.xsize (grid0.coords t) 2
                rw [h.2.2, hx.2.2]; omega

end Cert.RetIdeal.Body
-- ==== Proof.RetRefRead.lean ====
module

public import proofs.«01_k».proof.Proof.Gen.RetRefIdeal.Read
public import proofs.«01_k».proof.Proof.RetSpec
public import proofs.«01_k».proof.Proof.RetGroup

@[expose] public section

set_option maxRecDepth 16384

noncomputable section

namespace Cert.RetRefIdeal.At

open Idealize.ShloMosaic Idealize.ShloMosaic.TcCoe Idealize.ShloMosaic.Tactic
open Idealize.SL Idealize.SL.Sem
open Cert.RetRefIdeal Cert.RetRefIdeal.Gen Cert.RetRefIdeal.Read
open Cert.Retention
open Cert.RetIdeal.Body (angle logOf word_real log_real abs_real coe_total)

section Layers
variable (P : Proj)

theorem v132_at (b : Fin 16) (n : Fin 32) (r : Fin 64) (h : Fin 8) (d : Fin 64) :
    val_main_v132 (F := Ideal) P (ix5 b n r h d) = val_main_v39 (F := Ideal) P (ix4 b ⟨n.val * 64 + r.val, by omega⟩ h d) := by
  pointwise [val_main_v132]
theorem v133_at (b : Fin 16) (n : Fin 32) (r : Fin 64) (h : Fin 8) (d : Fin 64) :
    val_main_v133 (F := Ideal) P (ix5 b n r h d) = val_main_v70 (F := Ideal) P (ix4 b ⟨n.val * 64 + r.val, by omega⟩ h d) := by
  pointwise [val_main_v133]
theorem v134_at (b : Fin 16) (n : Fin 32) (r : Fin 64) (h : Fin 8) (d : Fin 64) :
    val_main_v134 (F := Ideal) P (ix5 b n r h d) = val_main_v8 (F := Ideal) P (ix4 b ⟨n.val * 64 + r.val, by omega⟩ h d) := by
  pointwise [val_main_v134]
theorem v135_at (b : Fin 16) (n : Fin 32) (h : Fin 8) (r s : Fin 64) :
    val_main_v135 (F := Ideal) P (ix5 b n h r s) = ∑ x : Fin 64, val_main_v132 (F := Ideal) P (ix5 b n r h x) * val_main_v133 (F := Ideal) P (ix5 b n s h x) := by
  pointwise [val_main_v135]
/-- A table over heads and pairs of places, spread over sequences and chunks. -/
theorem spread_pairs (X : FVec Ideal S16x32x8x64x64 .f32) (Y : FVec Ideal S8x64x64 .f32) (b : Fin 16) (n : Fin 32) (h : Fin 8) (r s : Fin 64) :
    mulf X (broadcastInDim S16x32x8x64x64 ![0, 1, 2, 3, 4] bcast_S1x1x8x64x64_S16x32x8x64x64_0_1_2_3_4 (broadcastInDim S1x1x8x64x64 ![2, 3, 4] bcast_S8x64x64_S1x1x8x64x64_2_3_4 Y)) (ix5 b n h r s)
      = X (ix5 b n h r s) * Y (ix3 h r s) := by
  pointwise

/-- A table over places and heads, spread over sequences, chunks and lanes. -/
theorem spread_places (X : FVec Ideal S16x32x64x8x64 .f32) (Y : FVec Ideal S64x8 .f32) (b : Fin 16) (n : Fin 32) (r : Fin 64) (h : Fin 8) (d : Fin 64) :
    mulf X (broadcastInDim S16x32x64x8x64 ![0, 1, 2, 3, 4] bcast_S1x1x64x8x1_S16x32x64x8x64_0_1_2_3_4 (broadcastInDim S1x1x64x8x1 ![2, 3] bcast_S64x8_S1x1x64x8x1_2_3 Y)) (ix5 b n r h d)
      = X (ix5 b n r h d) * Y (ix2 r h) := by
  pointwise

theorem v138_at (b : Fin 16) (n : Fin 32) (h : Fin 8) (r s : Fin 64) :
    val_main_v138 (F := Ideal) P (ix5 b n h r s) = val_main_v135 (F := Ideal) P (ix5 b n h r s) * val_main_v91 (F := Ideal) (ix3 h r s) := by
  unfold val_main_v138 val_main_v137 val_main_v136
  exact spread_pairs _ _ b n h r s
theorem v139_at (b : Fin 16) (n : Fin 32) (h : Fin 8) (e r : Fin 64) :
    val_main_v139 (F := Ideal) P (ix5 b n h e r) = ∑ s : Fin 64, val_main_v134 (F := Ideal) P (ix5 b n s h e) * val_main_v138 (F := Ideal) P (ix5 b n h r s) := by
  pointwise [val_main_v139]
theorem v143_at (b : Fin 16) (n : Fin 32) (r : Fin 64) (h : Fin 8) (d : Fin 64) :
    val_main_v143 (F := Ideal) P (ix5 b n r h d) = val_main_v133 (F := Ideal) P (ix5 b n r h d) * val_main_v99 (F := Ideal) (ix2 r h) := by
  unfold val_main_v143 val_main_v142 val_main_v141
  exact spread_places _ _ b n r h d
theorem v144_at (b : Fin 16) (n : Fin 32) (h : Fin 8) (x e : Fin 64) :
    val_main_v144 (F := Ideal) P (ix5 b n h x e) = ∑ s : Fin 64, val_main_v143 (F := Ideal) P (ix5 b n s h x) * val_main_v134 (F := Ideal) P (ix5 b n s h e) := by
  pointwise [val_main_v144]
theorem v145_at (h : Fin 8) (b : Fin 16) (x e : Fin 64) (n : Fin 32) :
    val_main_v145 (F := Ideal) P (ix5 h b x e n) = ∑ m : Fin 32, val_main_v144 (F := Ideal) P (ix5 b m h x e) * val_main_v131 (F := Ideal) (ix3 h n m) := by
  pointwise [val_main_v145]
theorem v147_at (b : Fin 16) (n : Fin 32) (h : Fin 8) (e r : Fin 64) :
    val_main_v147 (F := Ideal) P (ix5 b n h e r) = ∑ x : Fin 64, val_main_v145 (F := Ideal) P (ix5 h b x e n) * val_main_v132 (F := Ideal) P (ix5 b n r h x) := by
  pointwise [val_main_v147, val_main_v146]
theorem v152_apart (b : Fin 16) (n : Fin 32) (r : Fin 64) (h : Fin 8) (e : Fin 64) :
    val_main_v152 (F := Ideal) P (ix5 b n r h e) = val_main_v139 (F := Ideal) P (ix5 b n h e r) + val_main_v147 (F := Ideal) P (ix5 b n h e r) * val_main_v107 (F := Ideal) (ix2 r h) := by
  have h0 : val_main_v152 (F := Ideal) P (ix5 b n r h e) = val_main_v140 (F := Ideal) P (ix5 b n r h e) + val_main_v151 (F := Ideal) P (ix5 b n r h e) := rfl
  have h1 : val_main_v151 (F := Ideal) P (ix5 b n r h e) = val_main_v148 (F := Ideal) P (ix5 b n r h e) * val_main_v107 (F := Ideal) (ix2 r h) := by
    unfold val_main_v151 val_main_v150 val_main_v149
    exact spread_places _ _ b n r h e
  have h2 : val_main_v140 (F := Ideal) P (ix5 b n r h e) = val_main_v139 (F := Ideal) P (ix5 b n h e r) := by pointwise [val_main_v140]
  have h3 : val_main_v148 (F := Ideal) P (ix5 b n r h e) = val_main_v147 (F := Ideal) P (ix5 b n h e r) := by pointwise [val_main_v148]
  rw [h0, h1, h2, h3]

theorem v8_apart (b : Fin 16) (t : Fin 2048) (h : Fin 8) (d : Fin 64) : val_main_v8 (F := Ideal) P (ix4 b t h d) = P (ix3 b t ⟨1536 + (1024 + (h.val * 64 + d.val)), by omega⟩) := by
  pointwise [val_main_v8, val_main_v4, val_main_v1, val_main_v0]

theorem v174_at (b : Fin 16) (t : Fin 2048) (c : Fin 512) :
    val_main_v175 (F := Ideal) P (ix3 b t c) = val_main_v170 (F := Ideal) P (ix5 b ⟨t.val / 64, by omega⟩ ⟨t.val % 64, by omega⟩ ⟨c.val / 64, by omega⟩ ⟨c.val % 64, by omega⟩)
      * (P (ix3 b t ⟨1536 + (1536 + c.val), by omega⟩) * Ideal.div 1 (1 + Ideal.exp (-P (ix3 b t ⟨1536 + (1536 + c.val), by omega⟩)))) := by
  pointwise [val_main_v175, val_main_v174, val_main_v173, val_main_v172, val_main_v171, val_main_call1_v5, val_main_call1_v4, val_main_call1_v3, val_main_call1_v2, val_main_call1_v1, val_main_call1_v0, val_main_call1_cst, val_main_call1_cst_0, val_main_v9, val_main_v5, val_main_v1, val_main_v0]

theorem v158_at (b : Fin 16) (n : Fin 32) (r : Fin 64) (h : Fin 8) (e : Fin 64) :
    val_main_v158 (F := Ideal) P (ix5 b n r h e) = val_main_v152 (F := Ideal) P (ix5 b n r h e) - Ideal.div (∑ x, val_main_v152 (F := Ideal) P (ix5 b n r h x)) (Ideal.ofBits FTy.f32 0x42800000#32) := by
  pointwise [val_main_v158, val_main_v157, val_main_v156, val_main_v155, val_main_v154, val_main_v153, val_main_cst_11, val_main_cst_12]

theorem v170_at (b : Fin 16) (n : Fin 32) (r : Fin 64) (h : Fin 8) (e : Fin 64) :
    val_main_v170 (F := Ideal) P (ix5 b n r h e) = val_main_v158 (F := Ideal) P (ix5 b n r h e)
      * Ideal.rsqrt (Ideal.div (∑ x, val_main_v158 (F := Ideal) P (ix5 b n r h x) * val_main_v158 (F := Ideal) P (ix5 b n r h x)) (Ideal.ofBits FTy.f32 0x42800000#32) + Ideal.ofBits FTy.f32 0x358637BD#32) := by
  have e165 : val_main_v165 (F := Ideal) P = val_main_v158 (F := Ideal) P := rfl
  unfold val_main_v170
  rw [e165]
  pointwise [val_main_v169, val_main_v168, val_main_v167, val_main_v166, val_main_v163, val_main_v162, val_main_v161, val_main_v160, val_main_v159, val_main_cst_13, val_main_cst_14, val_main_cst_15]

theorem v68_apart (b : Fin 16) (t : Fin 2048) (h : Fin 8) (d : Fin 64) : val_main_v70 (F := Ideal) P (ix4 b t h d) =
    (if h0 : d.val < 32 then val_main_v62 (F := Ideal) P (ix4 b t h ⟨d.val, h0⟩) else val_main_v67 (F := Ideal) P (ix4 b t h ⟨d.val - 32, by omega⟩)) * Ideal.ofBits FTy.f32 0x3E000000#32 := by
  pointwise [val_main_v70, val_main_v69, val_main_v68, val_main_cst_3]

end Layers

end Cert.RetRefIdeal.At
-- ==== Proof.RetRefVal.lean ====
module

public import proofs.«01_k».proof.Proof.Gen.RetRefIdeal.Read
public import proofs.«01_k».proof.Proof.RetRefRead
public import proofs.«01_k».proof.Proof.RetGroup

@[expose] public section

set_option maxRecDepth 16384

noncomputable section

namespace Cert.RetRefIdeal.At

open Idealize.ShloMosaic Idealize.ShloMosaic.TcCoe Idealize.ShloMosaic.Tactic
open Idealize.SL Idealize.SL.Sem
open Cert.RetRefIdeal Cert.RetRefIdeal.Gen Cert.RetRefIdeal.Read
open Cert.Retention
open Cert.RetIdeal.Body (angle logOf word_real log_real abs_real coe_total)

theorem v78_at (h : Fin 8) : val_main_v78 (F := Ideal) (ix1 h) = ((logOf h.val : ℝ) : EReal) := by
  pointwise [val_main_v78, val_main_v77, val_main_v76, val_main_v75, val_main_v74, val_main_v73, val_main_v72, val_main_v71, val_main_cst_4, val_main_cst_5, val_main_cst_6]
  exact log_real _ (by omega)

theorem v22_at (t : Fin 2048) (d : Fin 32) : val_main_v22 (F := Ideal) (ix2 t d) = ((angle t.val d.val : ℝ) : EReal) := by
  have e : val_main_v22 (F := Ideal) (ix2 t d) = Cert.RetIdeal.Body.angles (ix2 t d) := by
    pointwise [val_main_v22,val_main_v21,val_main_v20,val_main_v19,val_main_v18,val_main_v17,val_main_v16,val_main_v15,val_main_v14,val_main_v13,val_main_v12,val_main_v11,val_main_v10, val_main_cst, val_main_cst_0, Cert.RetIdeal.Body.angles]
  rw [e, Cert.RetIdeal.Body.angles_apply]

theorem v51_at (t : Fin 2048) (d : Fin 32) : val_main_v51 (F := Ideal) (ix2 t d) = ((angle t.val d.val : ℝ) : EReal) := by
  have e : val_main_v51 (F := Ideal) = val_main_v22 (F := Ideal) := rfl
  rw [e, v22_at]

theorem bits_63 : Ideal.ofBits .f32 0x427C0000#32 = ((63 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num

theorem v91_at (h : Fin 8) (r s : Fin 64) : val_main_v91 (F := Ideal) (ix3 h r s) = ((Real.exp (logOf h.val * |(r.val : ℝ) - s.val|) : ℝ) : EReal) := by
  pointwise [val_main_v91, val_main_v90, val_main_v89, val_main_v88, val_main_v87, val_main_v86, val_main_v85, val_main_v84, val_main_v83, val_main_v82, val_main_v81, val_main_v80, val_main_v79]
  rw [v78_at, word_real _ (by omega), word_real _ (by omega), ← EReal.coe_sub, abs_real, ← EReal.coe_mul, Ideal.exp_coe]

theorem v99_at (h : Fin 8) (s : Fin 64) : val_main_v99 (F := Ideal) (ix2 s h) = ((Real.exp (logOf h.val * (63 - (s.val : ℝ))) : ℝ) : EReal) := by
  pointwise [val_main_v99, val_main_v98, val_main_v97, val_main_v96, val_main_v95, val_main_v94, val_main_v93, val_main_v92, val_main_v79, val_main_cst_7]
  rw [v78_at, word_real _ (by omega), bits_63, ← EReal.coe_sub, ← EReal.coe_mul, Ideal.exp_coe]

theorem v107_at (h : Fin 8) (s : Fin 64) : val_main_v107 (F := Ideal) (ix2 s h) = ((Real.exp (logOf h.val * ((s.val : ℝ) + 1)) : ℝ) : EReal) := by
  pointwise [val_main_v107, val_main_v106, val_main_v105, val_main_v104, val_main_v103, val_main_v102, val_main_v101, val_main_v100, val_main_v79, val_main_cst_8]
  rw [v78_at, word_real _ (by omega), ← EReal.coe_one, ← EReal.coe_add, ← EReal.coe_mul, Ideal.exp_coe]

theorem v131_at (h : Fin 8) (n m : Fin 32) : val_main_v131 (F := Ideal) (ix3 h n m)
    = (((if m.val < n.val then Real.exp (logOf h.val * 64 * ((n.val : ℝ) - 1 - m.val)) else 0) : ℝ) : EReal) := by
  pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_c, val_main_cst_9, val_main_cst_10, val_main_call0_v0, val_main_call0_v1, val_main_call0_v2]
  have hz : (id (constant (F := Ideal) S_ FTy.f32 0#32) ix0 : EReal) = 0 := Ideal.ofBits_zero_f32
  have hc : ∀ m n : Fin 32, IntOp.cmpi CmpIPredicate.slt (BitVec.ofNat 32 m.val) (BitVec.ofNat 32 n.val) = if m.val < n.val then 1#1 else 0#1 := by decide +kernel
  have hi : ∀ m n : Fin 32, (IntOp.subi (IntOp.subi (BitVec.ofNat 32 n.val) 1#32) (BitVec.ofNat 32 m.val)).toInt = (n.val : ℤ) - 1 - m.val := by decide +kernel
  have hf : (FloatOps.sitofp FTy.f32 (IntOp.subi (IntOp.subi (BitVec.ofNat 32 n.val) 1#32) (BitVec.ofNat 32 m.val)) : Ideal .f32) = (((n.val : ℝ) - 1 - m.val : ℝ) : EReal) := by
    show (((IntOp.subi (IntOp.subi (BitVec.ofNat 32 n.val) 1#32) (BitVec.ofNat 32 m.val)).toInt : ℝ) : EReal) = _
    rw [hi]; push_cast; rfl
  rw [hz, hc, hf, v78_at, bits_64, ← EReal.coe_mul, ← EReal.coe_mul, Ideal.exp_coe]
  by_cases hm : m.val < n.val <;> simp [hm, Scalar.select]

section Value
variable (P : Proj) (hP : Reals P)
include hP

theorem v39_at (b : Fin 16) (t : Fin 2048) (h : Fin 8) (d : Fin 64) : val_main_v39 (F := Ideal) P (ix4 b t h d) = ((roped P b (1536 + 64 * h.val) t.val d.val : ℝ) : EReal) := by
  pointwise [val_main_v39]
  unfold roped
  split
  · rename_i hd
    pointwise [val_main_v33, val_main_v32, val_main_v31, val_main_v30, val_main_v29, val_main_v28, val_main_v27, val_main_v26, val_main_v25, val_main_v24, val_main_v23, val_main_v6, val_main_v2, val_main_v1, val_main_v0]
    rw [hP _ _ _ (by dsimp only; omega) (by dsimp only; omega), hP _ _ _ (by dsimp only; omega) (by dsimp only; omega), v22_at, Ideal.cos_coe, Ideal.sin_coe, ← EReal.coe_mul, ← EReal.coe_mul, ← EReal.coe_sub]
    congr 1
    dsimp only
    rw [show 1536 + (h.val * 64 + d.val) = 1536 + 64 * h.val + d.val by omega, show 1536 + (h.val * 64 + (32 + d.val)) = 1536 + 64 * h.val + (d.val + 32) by omega, Nat.mod_eq_of_lt hd]
    ring
  · rename_i hd
    pointwise [val_main_v38, val_main_v37, val_main_v36, val_main_v35, val_main_v34, val_main_v28, val_main_v27, val_main_v26, val_main_v25, val_main_v24, val_main_v23, val_main_v6, val_main_v2, val_main_v1, val_main_v0]
    rw [hP _ _ _ (by dsimp only; omega) (by dsimp only; omega), hP _ _ _ (by dsimp only; omega) (by dsimp only; omega), v22_at, Ideal.cos_coe, Ideal.sin_coe, ← EReal.coe_mul, ← EReal.coe_mul, ← EReal.coe_add]
    congr 1
    dsimp only
    rw [show 1536 + (h.val * 64 + (d.val - 32)) = 1536 + 64 * h.val + (d.val - 32) by omega, show 1536 + (h.val * 64 + (32 + (d.val - 32))) = 1536 + 64 * h.val + d.val by omega, show d.val % 32 = d.val - 32 by omega]
    ring

theorem v70_at (b : Fin 16) (t : Fin 2048) (h : Fin 8) (d : Fin 64) : val_main_v70 (F := Ideal) P (ix4 b t h d) = ((roped P b (2048 + 64 * h.val) t.val d.val * (1 / 8) : ℝ) : EReal) := by
  rw [v68_apart, bits_eighth, EReal.coe_mul]
  congr 1
  unfold roped
  split
  · rename_i hd
    pointwise [val_main_v62, val_main_v61, val_main_v60, val_main_v59, val_main_v58, val_main_v57, val_main_v56, val_main_v55, val_main_v54, val_main_v53, val_main_v52, val_main_v7, val_main_v3, val_main_v1, val_main_v0]
    rw [hP _ _ _ (by dsimp only; omega) (by dsimp only; omega), hP _ _ _ (by dsimp only; omega) (by dsimp only; omega), v51_at, Ideal.cos_coe, Ideal.sin_coe, ← EReal.coe_mul, ← EReal.coe_mul, ← EReal.coe_sub]
    congr 1
    dsimp only
    rw [show 1536 + (512 + (h.val * 64 + d.val)) = 2048 + 64 * h.val + d.val by omega, show 1536 + (512 + (h.val * 64 + (32 + d.val))) = 2048 + 64 * h.val + (d.val + 32) by omega, Nat.mod_eq_of_lt hd]
    ring
  · rename_i hd
    pointwise [val_main_v67, val_main_v66, val_main_v65, val_main_v64, val_main_v63, val_main_v57, val_main_v56, val_main_v55, val_main_v54, val_main_v53, val_main_v52, val_main_v7, val_main_v3, val_main_v1, val_main_v0]
    rw [hP _ _ _ (by dsimp only; omega) (by dsimp only; omega), hP _ _ _ (by dsimp only; omega) (by dsimp only; omega), v51_at, Ideal.cos_coe, Ideal.sin_coe, ← EReal.coe_mul, ← EReal.coe_mul, ← EReal.coe_add]
    congr 1
    dsimp only
    rw [show 1536 + (512 + (h.val * 64 + (d.val - 32))) = 2048 + 64 * h.val + (d.val - 32) by omega, show 1536 + (512 + (h.val * 64 + (32 + (d.val - 32)))) = 2048 + 64 * h.val + d.val by omega, show d.val % 32 = d.val - 32 by omega]
    ring

theorem v8_at (b : Fin 16) (t : Fin 2048) (h : Fin 8) (d : Fin 64) : val_main_v8 (F := Ideal) P (ix4 b t h d) = ((cell P b t.val (2560 + 64 * h.val + d.val) : ℝ) : EReal) := by
  rw [v8_apart, hP _ _ _ (by dsimp only; omega) (by dsimp only; omega)]
  congr 2
  dsimp only
  omega

theorem v152_at (b : Fin 16) (n : Fin 32) (r : Fin 64) (h : Fin 8) (e : Fin 64) : val_main_v152 (F := Ideal) P (ix5 b n r h e) = ((retained P b h.val e.val (64 * n.val + r.val) : ℝ) : EReal) := by
  rw [v152_apart, v139_at, v147_at]
  simp only [v145_at, v144_at, v143_at, v138_at, v135_at, v132_at, v133_at, v134_at, v39_at P hP, v70_at P hP, v8_at P hP, v91_at, v99_at, v107_at, v131_at, ← EReal.coe_mul, coe_total, ← EReal.coe_add]
  congr 1
  unfold retained
  rw [split _ _ _ _ _ (64 * n.val) 64 (by omega) (by omega) (by omega) (by omega), Finset.sum_range]
  congr 1
  · refine Finset.sum_congr rfl fun s _ => ?_
    have hk : kept (logOf h.val) (64 * n.val + r.val) (64 * n.val + s.val) = Real.exp (logOf h.val * |(r.val : ℝ) - s.val|) := by
      unfold kept
      rw [if_pos (by omega)]
      congr 3
      push_cast
      ring
    rw [hk, show n.val * 64 = 64 * n.val from Nat.mul_comm _ _]
    ring
  · rw [show (((64 * n.val + r.val : ℕ) : ℝ) - ((64 * n.val : ℕ) : ℝ) + 1) = (r.val : ℝ) + 1 by push_cast; ring]
    congr 1
    refine Finset.sum_congr rfl fun x _ => ?_
    rw [state_chunks _ _ _ _ (by omega), Finset.sum_range, mul_comm, show n.val * 64 = 64 * n.val from Nat.mul_comm _ _]
    refine congrArg₂ (· * ·) rfl (Finset.sum_congr rfl fun m _ => congrArg₂ (· * ·) ?_ rfl)
    rw [Finset.sum_range]
    refine Finset.sum_congr rfl fun s _ => ?_
    rw [show m.val * 64 = 64 * m.val from Nat.mul_comm _ _]

/-- The value of the reference's result. -/
theorem v175_at (b : Fin 16) (t : Fin 2048) (c : Fin 512) : val_main_v175 (F := Ideal) P (ix3 b t c)
    = ended (fun x => retained P b (c.val / 64) x.val t.val) (P (ix3 b t ⟨3072 + c.val, by omega⟩)) ⟨c.val % 64, by omega⟩ := by
  have ht : 64 * (t.val / 64) + t.val % 64 = t.val := by omega
  have hg : (⟨1536 + (1536 + c.val), by omega⟩ : Fin 3584) = ⟨3072 + c.val, by omega⟩ := Fin.ext (by dsimp only; omega)
  have h158 : ∀ e : Fin 64, val_main_v158 (F := Ideal) P (ix5 b ⟨t.val / 64, by omega⟩ ⟨t.val % 64, by omega⟩ ⟨c.val / 64, by omega⟩ e)
      = ((off (fun x => retained P b (c.val / 64) x.val t.val) e : ℝ) : EReal) := by
    intro e
    rw [v158_at]
    simp only [v152_at P hP, coe_total, ht]
    rw [bits_64, Ideal.div_coe (by norm_num), ← EReal.coe_mul, ← EReal.coe_sub]
    rfl
  rw [v174_at, v170_at]
  simp only [h158, hg, ← EReal.coe_mul, coe_total]
  rw [bits_64, Ideal.div_coe (by norm_num), ← EReal.coe_mul]
  rfl

end Value

end Cert.RetRefIdeal.At
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import proofs.«01_k».proof.Proof.ProjVal
public import proofs.«01_k».proof.Proof.ProjRefVal
public import proofs.«01_k».proof.Proof.GluVal
public import proofs.«01_k».proof.Proof.GluRefVal
public import proofs.«01_k».proof.Proof.ConvFrameBits
public import proofs.«01_k».proof.Proof.ConvFrame
public import proofs.«01_k».proof.Proof.ConvVal
public import proofs.«01_k».proof.Proof.ConvRefVal
public import proofs.«01_k».proof.Proof.OutpVal
public import proofs.«01_k».proof.Proof.OutpRefVal
public import proofs.«01_k».proof.Proof.RetVal
public import proofs.«01_k».proof.Proof.RetRefVal
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Conv
public import proofs.«01_k».proof.Proof.Gen.Conv.Skeleton
public import proofs.«01_k».proof.Proof.Gen.Conv.Frame
public import proofs.«01_k».proof.Proof.Gen.Conv.Launch
public import proofs.«01_k».proof.Proof.Gen.Conv.Points
public import proofs.«01_k».proof.Proof.Gen.ConvIdeal
public import proofs.«01_k».proof.Proof.Gen.ConvIdeal.Skeleton
public import proofs.«01_k».proof.Proof.Gen.ConvIdeal.Frame
public import proofs.«01_k».proof.Proof.Gen.ConvIdeal.Launch
public import proofs.«01_k».proof.Proof.Gen.ConvIdeal.Points
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Gen.OutpRefIdeal.Read
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import proofs.«01_k».proof.Proof.Gen.RetRefIdeal.Read
public import Idealize.ShloMosaic.Lib.Pointwise
public import Idealize.ShloMosaic.Adequacy
public import Idealize.ShloMosaic.Init

@[expose] public section

noncomputable section

namespace Cert.Proof

open Idealize.ShloMosaic Idealize.ShloMosaic.Tactic Idealize.SL.Sem

/-- The precondition's layout facts. -/
theorem pre_facts : Cert.Pre_finite_scores.Facts := ⟨by decide, by decide, by decide, by decide⟩

theorem bits_top : Ideal.ofBits .f32 0x7F800000#32 = ⊤ := by simp [Ideal.ofBits, Ideal.ieee]

/-- A number below infinity in size is real. -/
theorem real_of_lt (x : EReal) (h : FloatOps.cmpf (F := Ideal) (φ := .f32) .olt (FloatOps.absf (F := Ideal) (φ := .f32) x) (Ideal.ofBits .f32 0x7F800000#32) = 1#1) : ∃ z : ℝ, x = (z : EReal) := by
  rw [bits_top] at h
  change BitVec.ofBool (decide (max x (-x) < ⊤)) = 1#1 at h
  have h' : max x (-x) < ⊤ := by
    by_contra hn
    rw [decide_eq_false hn] at h
    exact absurd h (by decide)
  induction x using EReal.rec with
  | bot => simp at h'
  | top => simp at h'
  | coe z => exact ⟨z, rfl⟩

/-- The precondition gives finite queries, keys and biases. -/
theorem finite_of_pre (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) :
    Cert.KernelIdeal.Body.Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) where
  proj := fun b r w hw => real_of_lt _ (by
    have := congrFun (h c).1 (ix3 b r ⟨w.val, hw⟩)
    pointwise [Cert.Pre_finite_scores.fn] at this
    exact this)
  bias := fun g n => real_of_lt _ (by
    have := congrFun (h c).2 (ix2 g n)
    pointwise [Cert.Pre_finite_scores.fn] at this
    exact this)

theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_r_pre : Cert.quiescent_ReferenceIdeal_pre_finite_scores (hReferenceIdeal := Cert.ReferenceIdeal.Gen.facts) (hPre_finite_scores := pre_facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference leave the same array. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hargs
  refine ⟨fun c => Cert.ReferenceIdeal.Value.res_main_v74 m' c, (θ_run Cert.KernelIdeal.defs _ _).mono (fun r h c => ⟨(h c).1.trans ?_, (h c).2⟩)
    (Cert.KernelIdeal.Value.run_blocks m g), Cert.ReferenceIdeal.Value.run (F := Ideal) m' g'⟩
  refine ((Cert.KernelIdeal.Body.final_eq m c).trans ?_).trans (Cert.ReferenceIdeal.Read.val_main_v74_eq m' c).symm
  rw [Cert.KernelIdeal.Body.V_bias, Cert.KernelIdeal.Gen.V_main_arg0, (hargs c).1, (hargs c).2]
  exact Cert.KernelIdeal.Body.attn_eq _ _ (finite_of_pre m hpre c)

theorem frame_proj_r : Cert.quiescent_ProjRefIdeal (hProjRefIdeal := Cert.ProjRefIdeal.Gen.facts) := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

theorem frame_glu_r : Cert.quiescent_GluRefIdeal (hGluRefIdeal := Cert.GluRefIdeal.Gen.facts) := fun m ρ _ =>
  (θ_run Cert.GluRefIdeal.defs _ _).mono (fun r h => ⟨fun c => (h c).2, Idealize.ShloMosaic.sem_eq_zero_of_no_sems (by decide) r.2⟩)
    (Cert.GluRefIdeal.Value.run (F := Ideal) m ρ)

/-- The input projection's kernel and its reference leave the same array. -/
theorem algebraic_proj : Cert.algebraic_ProjIdeal_ProjRefIdeal (hProjIdeal := Cert.ProjIdeal.Gen.facts)
    (hProjRefIdeal := Cert.ProjRefIdeal.Gen.facts) := by
  intro m g m' g' _ hargs
  refine ⟨fun c => Cert.ProjRefIdeal.Read.val_main_v15 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)), (θ_run Cert.ProjIdeal.defs _ _).mono (fun r h c => ⟨(h c).1.trans ?_, (h c).2⟩)
    (Cert.ProjIdeal.Value.run_blocks m g),
    (θ_run Cert.ProjRefIdeal.defs _ _).mono (fun r h c => ⟨(h c).1.trans (Cert.ProjRefIdeal.Read.val_main_v15_eq _ _ _), (h c).2⟩)
      (Cert.ProjRefIdeal.Value.run (F := Ideal) m' g')⟩
  funext y
  obtain ⟨r, n, rfl⟩ : ∃ r n, y = ix2 r n := ⟨y 0, y 1, by funext a; match a with | ⟨0, _⟩ => rfl | ⟨1, _⟩ => rfl⟩
  refine (Cert.ProjIdeal.Body.final_at m c r n).trans ?_
  refine Eq.trans ?_ (Cert.ProjRefIdeal.Body.ref_at _ _ _ r n).symm
  rw [(hargs c).1, (hargs c).2.1, (hargs c).2.2]

/-- The gated unit's kernel and its reference leave the same array. -/
theorem algebraic_glu : Cert.algebraic_GluIdeal_GluRefIdeal (hGluIdeal := Cert.GluIdeal.Gen.facts)
    (hGluRefIdeal := Cert.GluRefIdeal.Gen.facts) := by
  intro m g m' g' _ hargs
  refine ⟨fun c => Cert.GluRefIdeal.Read.val_main_v26 (F := Ideal) (m' ((c.tc : Thread Cert.GluRefIdeal.nD Cert.GluRefIdeal.τ).loc Cert.GluRefIdeal.main_arg0)) (m' ((c.tc : Thread Cert.GluRefIdeal.nD Cert.GluRefIdeal.τ).loc Cert.GluRefIdeal.main_arg1)) (m' ((c.tc : Thread Cert.GluRefIdeal.nD Cert.GluRefIdeal.τ).loc Cert.GluRefIdeal.main_arg2)) (m' ((c.tc : Thread Cert.GluRefIdeal.nD Cert.GluRefIdeal.τ).loc Cert.GluRefIdeal.main_arg3)), (θ_run Cert.GluIdeal.defs _ _).mono (fun r h c => ⟨(h c).1.trans ?_, (h c).2⟩)
    (Cert.GluIdeal.Value.run_blocks m g),
    (θ_run Cert.GluRefIdeal.defs _ _).mono (fun r h c => ⟨(h c).1.trans (Cert.GluRefIdeal.Read.val_main_v26_eq _ _ _ _), (h c).2⟩)
      (Cert.GluRefIdeal.Value.run (F := Ideal) m' g')⟩
  funext y
  obtain ⟨r, n, rfl⟩ : ∃ r n, y = ix2 r n := ⟨y 0, y 1, by funext a; match a with | ⟨0, _⟩ => rfl | ⟨1, _⟩ => rfl⟩
  refine (Cert.GluIdeal.Body.final_at m c r n).trans ?_
  refine Eq.trans ?_ (Cert.GluRefIdeal.Body.ref_at _ _ _ _ r n).symm
  rw [(hargs c).1, (hargs c).2.1, (hargs c).2.2.1, (hargs c).2.2.2]
  rfl

theorem frame_conv_r : Cert.quiescent_ConvRefIdeal (hConvRefIdeal := Cert.ConvRefIdeal.Gen.facts) := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

/-- The convolution's kernel and its reference leave the same array. -/
theorem algebraic_conv : Cert.algebraic_ConvIdeal_ConvRefIdeal (hConvIdeal := Cert.ConvIdeal.Gen.facts)
    (hConvRefIdeal := Cert.ConvRefIdeal.Gen.facts) := by
  intro m g m' g' _ hargs
  refine ⟨fun c => Cert.ConvRefIdeal.Read.val_main_v45 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3)) (m' ((c.tc : Thread Cert.ConvRefIdeal.nD Cert.ConvRefIdeal.τ).loc Cert.ConvRefIdeal.main_arg4)) (m' ((c.tc : Thread Cert.ConvRefIdeal.nD Cert.ConvRefIdeal.τ).loc Cert.ConvRefIdeal.main_arg5)) (m' ((c.tc : Thread Cert.ConvRefIdeal.nD Cert.ConvRefIdeal.τ).loc Cert.ConvRefIdeal.main_arg6)) (m' ((c.tc : Thread Cert.ConvRefIdeal.nD Cert.ConvRefIdeal.τ).loc Cert.ConvRefIdeal.main_arg7)),
    (θ_run Cert.ConvIdeal.defs _ _).mono (fun r h c => ⟨(h c).1.trans ?_, (h c).2⟩)
    (Cert.ConvIdeal.Body.finished m g),
    (θ_run Cert.ConvRefIdeal.defs _ _).mono (fun r h c => ⟨(h c).1.trans (Cert.ConvRefIdeal.Read.val_main_v45_eq _ _), (h c).2⟩)
      (Cert.ConvRefIdeal.Value.run (F := Ideal) m' g')⟩
  funext y
  obtain ⟨b, s, n, rfl⟩ : ∃ b s n, y = ix3 b s n := ⟨y 0, y 1, y 2, by funext a; match a with | ⟨0, _⟩ => rfl | ⟨1, _⟩ => rfl | ⟨2, _⟩ => rfl⟩
  refine (Cert.ConvIdeal.Body.final_at m c b s n).trans ?_
  refine Eq.trans ?_ (Cert.ConvRefIdeal.Body.ref_at _ _ _ _ _ _ _ _ b s n).symm
  obtain ⟨h0, h1, h2, h3, h4, h5, h6, h7⟩ := hargs c
  rw [h0, h1, h2, h3, h4, h5, h6, h7]

theorem frame_out_r : Cert.quiescent_OutpRefIdeal (hOutpRefIdeal := Cert.OutpRefIdeal.Gen.facts) := fun m ρ _ =>
  (θ_run Cert.OutpRefIdeal.defs _ _).mono (fun r h => ⟨fun c => (h c).2, Idealize.ShloMosaic.sem_eq_zero_of_no_sems (by decide) r.2⟩)
    (Cert.OutpRefIdeal.Value.run (F := Ideal) m ρ)

/-- The output projection's kernel and its reference leave the same array. -/
theorem algebraic_out : Cert.algebraic_OutpIdeal_OutpRefIdeal (hOutpIdeal := Cert.OutpIdeal.Gen.facts)
    (hOutpRefIdeal := Cert.OutpRefIdeal.Gen.facts) := by
  intro m g m' g' _ hargs
  refine ⟨fun c => Cert.OutpRefIdeal.Read.val_main_v5 (F := Ideal) (m' ((c.tc : Thread Cert.OutpRefIdeal.nD Cert.OutpRefIdeal.τ).loc Cert.OutpRefIdeal.main_arg0)) (m' ((c.tc : Thread Cert.OutpRefIdeal.nD Cert.OutpRefIdeal.τ).loc Cert.OutpRefIdeal.main_arg1)) (m' ((c.tc : Thread Cert.OutpRefIdeal.nD Cert.OutpRefIdeal.τ).loc Cert.OutpRefIdeal.main_arg2)) (m' ((c.tc : Thread Cert.OutpRefIdeal.nD Cert.OutpRefIdeal.τ).loc Cert.OutpRefIdeal.main_arg3)),
    (θ_run Cert.OutpIdeal.defs _ _).mono (fun r h c => ⟨(h c).1.trans ?_, (h c).2⟩)
    (Cert.OutpIdeal.Value.run_blocks m g),
    (θ_run Cert.OutpRefIdeal.defs _ _).mono (fun r h c => ⟨(h c).1.trans (Cert.OutpRefIdeal.Read.val_main_v5_eq _ _ _ _), (h c).2⟩)
      (Cert.OutpRefIdeal.Value.run (F := Ideal) m' g')⟩
  funext y
  obtain ⟨r, n, rfl⟩ : ∃ r n, y = ix2 r n := ⟨y 0, y 1, by funext a; match a with | ⟨0, _⟩ => rfl | ⟨1, _⟩ => rfl⟩
  refine (Cert.OutpIdeal.Body.final_at m c r n).trans ?_
  refine Eq.trans ?_ (Cert.OutpRefIdeal.Body.ref_at _ _ _ _ r n).symm
  obtain ⟨h0, h1, h2, h3⟩ := hargs c
  rw [h0, h1, h2, h3]

theorem rows_facts : Cert.Pre_finite_rows.Facts := ⟨by decide, by decide, by decide⟩

/-- The precondition gives finite queries, keys and values. -/
theorem reals_of_pre (m : (ℓ : Loc Cert.RetIdeal.nD Cert.RetIdeal.τ Cert.RetIdeal.sig) → Buf (Elt Ideal) ℓ)
    (h : Cert.Pre_RetIdeal_finite_rows (hPre_finite_rows := rows_facts) m) (c : Dev Cert.RetIdeal.nD) :
    Cert.Retention.Reals (m ((c.tc : Thread Cert.RetIdeal.nD Cert.RetIdeal.τ).loc Cert.RetIdeal.main_arg0)) := by
  intro b t n h0 h1
  obtain ⟨z, hz⟩ := real_of_lt (m ((c.tc : Thread Cert.RetIdeal.nD Cert.RetIdeal.τ).loc Cert.RetIdeal.main_arg0) (ix3 b t n)) (by
    have := congrFun (h c) (ix3 b t ⟨n.val - 1536, by omega⟩)
    pointwise [Cert.Pre_finite_rows.fn] at this
    have e : (⟨1536 + (n.val - 1536), by omega⟩ : Fin 3584) = n := Fin.ext (by dsimp only; omega)
    rw [e] at this
    exact this)
  unfold Cert.Retention.cell
  rw [dif_pos ⟨t.isLt, n.isLt⟩]
  exact hz.trans (congrArg (fun x : EReal => ((x.toReal : ℝ) : EReal)) hz).symm

theorem frame_ret_r : Cert.quiescent_RetRefIdeal (hRetRefIdeal := Cert.RetRefIdeal.Gen.facts) := fun m ρ _ =>
  (θ_run Cert.RetRefIdeal.defs _ _).mono (fun r h => ⟨fun c => (h c).2, Idealize.ShloMosaic.sem_eq_zero_of_no_sems (by decide) r.2⟩)
    (Cert.RetRefIdeal.Value.run (F := Ideal) m ρ)

theorem frame_ret_r_pre : Cert.quiescent_RetRefIdeal_pre_finite_rows (hRetRefIdeal := Cert.RetRefIdeal.Gen.facts) (hPre_finite_rows := rows_facts) := fun m ρ _ =>
  (θ_run Cert.RetRefIdeal.defs _ _).mono (fun r h => ⟨fun c => (h c).2, Idealize.ShloMosaic.sem_eq_zero_of_no_sems (by decide) r.2⟩)
    (Cert.RetRefIdeal.Value.run (F := Ideal) m ρ)

/-- The retention's kernel and its reference leave the same array. -/
theorem algebraic_ret : Cert.algebraic_RetIdeal_RetRefIdeal_pre_finite_rows (hRetIdeal := Cert.RetIdeal.Gen.facts)
    (hRetRefIdeal := Cert.RetRefIdeal.Gen.facts) (hPre_finite_rows := rows_facts) := by
  intro m g m' g' hpre hargs
  refine ⟨fun c => Cert.RetRefIdeal.Read.val_main_v175 (F := Ideal) (m' ((c.tc : Thread Cert.RetRefIdeal.nD Cert.RetRefIdeal.τ).loc Cert.RetRefIdeal.main_arg0)),
    (θ_run Cert.RetIdeal.defs _ _).mono (fun r h c => ⟨(h c).1.trans ?_, (h c).2⟩)
    (Cert.RetIdeal.Value.run_blocks m g),
    (θ_run Cert.RetRefIdeal.defs _ _).mono (fun r h c => ⟨(h c).1.trans (Cert.RetRefIdeal.Read.val_main_v175_eq _), (h c).2⟩)
      (Cert.RetRefIdeal.Value.run (F := Ideal) m' g')⟩
  refine (Cert.RetIdeal.Body.final_eq m c (reals_of_pre m hpre c)).trans ?_
  refine Eq.trans ?_ (congrArg (Cert.RetRefIdeal.Read.val_main_v175 (F := Ideal)) (hargs c)).symm
  funext y
  obtain ⟨b, t, n, rfl⟩ : ∃ b t n, y = ix3 b t n := ⟨y 0, y 1, y 2, by funext a; match a with | ⟨0, _⟩ => rfl | ⟨1, _⟩ => rfl | ⟨2, _⟩ => rfl⟩
  exact (Cert.RetRefIdeal.At.v175_at _ (reals_of_pre m hpre c) b t n).symm

theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts,
    Cert.Glu.Gen.facts, Cert.GluIdeal.Gen.facts, Cert.GluRefIdeal.Gen.facts,
    Cert.Conv.Gen.facts, Cert.ConvIdeal.Gen.facts, Cert.ConvRefIdeal.Gen.facts,
    Cert.Outp.Gen.facts, Cert.OutpIdeal.Gen.facts, Cert.OutpRefIdeal.Gen.facts,
    Cert.Ret.Gen.facts, Cert.RetIdeal.Gen.facts, Cert.RetRefIdeal.Gen.facts, pre_facts, rows_facts,
    fun m ρ _ => Cert.Kernel.Gen.frame m ρ, fun m ρ _ => Cert.KernelIdeal.Gen.frame m ρ, fun m ρ _ => Cert.KernelIdeal.Gen.frame m ρ,
    frame_r, frame_r_pre,
    fun m ρ _ => Cert.Proj.Gen.frame m ρ, fun m ρ _ => Cert.ProjIdeal.Gen.frame m ρ, frame_proj_r,
    fun m ρ _ => Cert.Glu.Gen.frame m ρ, fun m ρ _ => Cert.GluIdeal.Gen.frame m ρ, frame_glu_r,
    fun m ρ _ => Cert.Conv.Body.quiet m ρ, fun m ρ _ => Cert.ConvIdeal.Body.quiet m ρ, frame_conv_r,
    fun m ρ _ => Cert.Outp.Gen.frame m ρ, fun m ρ _ => Cert.OutpIdeal.Gen.frame m ρ, frame_out_r,
    fun m ρ _ => Cert.Ret.Gen.frame m ρ, fun m ρ _ => Cert.RetIdeal.Gen.frame m ρ, fun m ρ _ => Cert.RetIdeal.Gen.frame m ρ,
    frame_ret_r, frame_ret_r_pre,
    trivial, algebraic, trivial, algebraic_proj, trivial, algebraic_glu, trivial, algebraic_conv, trivial, algebraic_out, trivial, algebraic_ret⟩

end Cert.Proof

end
